-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v8_8)) (v9 : (c : Dev Cert.Kernel2Ideal.nD) → Buf (Elt Ideal) ((c.tc : Thread Cert.Kernel2Ideal.nD Cert.Kernel2Ideal.τ).loc Cert.Kernel2Ideal.main_v8_9)) (v10 : (c : Dev Cert.Kernel2Ideal.nD) → Buf (Elt Ideal) ((c.tc : Thread Cert.Kernel2Ideal.nD Cert.Kernel2Ideal.τ).loc Cert.Kernel2Ideal.main_v8_10)) (v11 : (c : Dev Cert.Kernel2Ideal.nD) → Buf (Elt Ideal) ((c.tc : Thread Cert.Kernel2Ideal.nD Cert.Kernel2Ideal.τ).loc Cert.Kernel2Ideal.main_v8_11)) (v12 : (c : Dev Cert.Kernel2Ideal.nD) → Buf (Elt Ideal) ((c.tc : Thread Cert.Kernel2Ideal.nD Cert.Kernel2Ideal.τ).loc Cert.Kernel2Ideal.main_v8_12)) (v13 : (c : Dev Cert.Kernel2Ideal.nD) → Buf (Elt Ideal) ((c.tc : Thread Cert.Kernel2Ideal.nD Cert.Kernel2Ideal.τ).loc Cert.Kernel2Ideal.main_v8_13)) (v14 : (c : Dev Cert.Kernel2Ideal.nD) → Buf (Elt Ideal) ((c.tc : Thread Cert.Kernel2Ideal.nD Cert.Kernel2Ideal.τ).loc Cert.Kernel2Ideal.main_v8_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v8_8) = v8 c
          ∧ r.2.mem ((c.tc : Thread Cert.Kernel2Ideal.nD Cert.Kernel2Ideal.τ).loc Cert.Kernel2Ideal.main_v8_9) = v9 c
          ∧ r.2.mem ((c.tc : Thread Cert.Kernel2Ideal.nD Cert.Kernel2Ideal.τ).loc Cert.Kernel2Ideal.main_v8_10) = v10 c
          ∧ r.2.mem ((c.tc : Thread Cert.Kernel2Ideal.nD Cert.Kernel2Ideal.τ).loc Cert.Kernel2Ideal.main_v8_11) = v11 c
          ∧ r.2.mem ((c.tc : Thread Cert.Kernel2Ideal.nD Cert.Kernel2Ideal.τ).loc Cert.Kernel2Ideal.main_v8_12) = v12 c
          ∧ r.2.mem ((c.tc : Thread Cert.Kernel2Ideal.nD Cert.Kernel2Ideal.τ).loc Cert.Kernel2Ideal.main_v8_13) = v13 c
          ∧ r.2.mem ((c.tc : Thread Cert.Kernel2Ideal.nD Cert.Kernel2Ideal.τ).loc Cert.Kernel2Ideal.main_v8_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_v66) = v6 c
          ∧ r.2.mem ((c.tc : Thread Cert.Reference2Ideal.nD Cert.Reference2Ideal.τ).loc Cert.Reference2Ideal.main_v70) = v7 c
          ∧ r.2.mem ((c.tc : Thread Cert.Reference2Ideal.nD Cert.Reference2Ideal.τ).loc Cert.Reference2Ideal.main_v74) = v8 c
          ∧ r.2.mem ((c.tc : Thread Cert.Reference2Ideal.nD Cert.Reference2Ideal.τ).loc Cert.Reference2Ideal.main_v77) = v9 c
          ∧ r.2.mem ((c.tc : Thread Cert.Reference2Ideal.nD Cert.Reference2Ideal.τ).loc Cert.Reference2Ideal.main_v78) = v10 c
          ∧ r.2.mem ((c.tc : Thread Cert.Reference2Ideal.nD Cert.Reference2Ideal.τ).loc Cert.Reference2Ideal.main_v79) = v11 c
          ∧ r.2.mem ((c.tc : Thread Cert.Reference2Ideal.nD Cert.Reference2Ideal.τ).loc Cert.Reference2Ideal.main_v80) = v12 c
          ∧ r.2.mem ((c.tc : Thread Cert.Reference2Ideal.nD Cert.Reference2Ideal.τ).loc Cert.Reference2Ideal.main_v81) = v13 c
          ∧ r.2.mem ((c.tc : Thread Cert.Reference2Ideal.nD Cert.Reference2Ideal.τ).loc Cert.Reference2Ideal.main_v24) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
-- ==== Pre_routed.lean ====
abbrev S32 : Shape := ⟨1, ![32]⟩
abbrev S65536x1024 : Shape := ⟨2, ![65536, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S65536x1024 .f32) (main_arg2 : FVec F S32x1024x512 .f32) (main_arg3 : FVec F S32x1024x512 .f32) (main_arg4 : FVec F S32x512x1024 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S32 : Shape := ⟨1, ![32]⟩
abbrev S65536x1024 : Shape := ⟨2, ![65536, 1024]⟩
abbrev S32x1024x512 : Shape := ⟨3, ![32, 1024, 512]⟩
abbrev S32x512x1024 : Shape := ⟨3, ![32, 512, 1024]⟩
abbrev S_ : Shape := ⟨0, ![]⟩
abbrev S1 : Shape := ⟨1, ![1]⟩
abbrev S159 : Shape := ⟨1, ![159]⟩
abbrev S1x32 : Shape := ⟨2, ![1, 32]⟩
abbrev S159x1 : Shape := ⟨2, ![159, 1]⟩
abbrev S159x32 : Shape := ⟨2, ![159, 32]⟩
abbrev S32x1 : Shape := ⟨2, ![32, 1]⟩
abbrev S32x32 : Shape := ⟨2, ![32, 32]⟩
abbrev S524288x128 : Shape := ⟨2, ![524288, 128]⟩
abbrev S4096x128 : Shape := ⟨2, ![4096, 128]⟩
abbrev S1024x512 : Shape := ⟨2, ![1024, 512]⟩
abbrev S512x1024 : Shape := ⟨2, ![512, 1024]⟩
abbrev S2x1024x512 : Shape := ⟨3, ![2, 1024, 512]⟩
abbrev S2x512x1024 : Shape := ⟨3, ![2, 512, 1024]⟩
abbrev S2 : Shape := ⟨1, ![2]⟩
abbrev S1x1024x512 : Shape := ⟨3, ![1, 1024, 512]⟩
abbrev S1x512x1024 : Shape := ⟨3, ![1, 512, 1024]⟩
abbrev S512x128 : Shape := ⟨2, ![512, 128]⟩
abbrev S512x512 : Shape := ⟨2, ![512, 512]⟩

abbrev nBuf : Space → Nat
  | .hbm => 215
  | .vmem => 11
  | .smem => 7
  | _ => 0

abbrev hbmTy0_0 (i : Nat) : BufTy := match i % 128 with
  | 0 => ⟨S32, .i32⟩
  | 1 => ⟨S65536x1024, .f32⟩
  | 2 => ⟨S32x1024x512, .f32⟩
  | 3 => ⟨S32x1024x512, .f32⟩
  | 4 => ⟨S32x512x1024, .f32⟩
  | 5 => ⟨S_, .i32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S32, .i32⟩
  | 37 => ⟨S32, .i32⟩
  | 38 => ⟨S_, .i32⟩
  | 39 => ⟨S32, .i32⟩
  | 40 => ⟨S32, .i1⟩
  | 41 => ⟨S32, .i32⟩
  | 42 => ⟨S32, .i32⟩
  | 43 => ⟨S_, .i32⟩
  | 44 => ⟨S32, .i32⟩
  | 45 => ⟨S32, .i1⟩
  | 46 => ⟨S32, .i1⟩
  | 47 => ⟨S_, .i32⟩
  | 48 => ⟨S32, .i32⟩
  | 49 => ⟨S32, .i32⟩
  | 50 => ⟨S32, .i32⟩
  | 51 => ⟨S_, .i32⟩
  | 52 => ⟨S32, .i32⟩
  | 53 => ⟨S32, .i1⟩
  | 54 => ⟨S32, .i32⟩
  | 55 => ⟨S_, .i32⟩
  | 56 => ⟨S32, .i32⟩
  | 57 => ⟨S32, .i32⟩
  | 58 => ⟨S_, .i32⟩
  | 59 => ⟨S_, .i32⟩
  | 60 => ⟨S32, .i32⟩
  | 61 => ⟨S32, .i32⟩
  | 62 => ⟨S_, .i32⟩
  | 63 => ⟨S_, .i32⟩
  | 64 => ⟨S32, .i32⟩
  | 65 => ⟨S159, .i32⟩
  | 66 => ⟨S_, .i32⟩
  | 67 => ⟨S_, .i32⟩
  | 68 => ⟨S_, .i32⟩
  | 69 => ⟨S159, .i32⟩
  | 70 => ⟨S159, .i32⟩
  | 71 => ⟨S1x32, .i32⟩
  | 72 => ⟨S159x1, .i32⟩
  | 73 => ⟨S159x32, .i32⟩
  | 74 => ⟨S159x32, .i32⟩
  | 75 => ⟨S159x32, .i1⟩
  | 76 => ⟨S159x32, .i32⟩
  | 77 => ⟨S_, .i32⟩
  | 78 => ⟨S159, .i32⟩
  | 79 => ⟨S_, .i32⟩
  | 80 => ⟨S159, .i32⟩
  | 81 => ⟨S_, .i32⟩
  | 82 => ⟨S159, .i32⟩
  | 83 => ⟨S159, .i1⟩
  | 84 => ⟨S_, .i32⟩
  | 85 => ⟨S159, .i32⟩
  | 86 => ⟨S159, .i32⟩
  | 87 => ⟨S159, .i32⟩
  | 88 => ⟨S159x1, .i32⟩
  | 89 => ⟨S159, .i32⟩
  | 90 => ⟨S32, .i32⟩
  | 91 => ⟨S_, .i32⟩
  | 92 => ⟨S159, .i32⟩
  | 93 => ⟨S159, .i1⟩
  | 94 => ⟨S_, .i32⟩
  | 95 => ⟨S159, .i32⟩
  | 96 => ⟨S159, .i32⟩
  | 97 => ⟨S159, .i32⟩
  | 98 => ⟨S159x1, .i32⟩
  | 99 => ⟨S159, .i32⟩
  | 100 => ⟨S159, .i32⟩
  | 101 => ⟨S_, .i32⟩
  | 102 => ⟨S159, .i32⟩
  | 103 => ⟨S159, .i1⟩
  | 104 => ⟨S_, .i32⟩
  | 105 => ⟨S159, .i32⟩
  | 106 => ⟨S159, .i32⟩
  | 107 => ⟨S159, .i32⟩
  | 108 => ⟨S159x1, .i32⟩
  | 109 => ⟨S159, .i32⟩
  | 110 => ⟨S_, .i32⟩
  | 111 => ⟨S159, .i32⟩
  | 112 => ⟨S159, .i32⟩
  | 113 => ⟨S159, .i32⟩
  | 114 => ⟨S_, .i32⟩
  | 115 => ⟨S_, .i32⟩
  | 116 => ⟨S_, .i32⟩
  | 117 => ⟨S159, .i32⟩
  | 118 => ⟨S159, .i32⟩
  | 119 => ⟨S_, .i32⟩
  | 120 => ⟨S159, .i32⟩
  | 121 => ⟨S_, .i32⟩
  | 122 => ⟨S159, .i32⟩
  | 123 => ⟨S159, .i1⟩
  | 124 => ⟨S_, .i32⟩
  | 125 => ⟨S159, .i32⟩
  | 126 => ⟨S159, .i32⟩
  | 127 => ⟨S159, .i32⟩
  | _ => ⟨S32, .i32⟩

abbrev hbmTy0_1 (i : Nat) : BufTy := match i % 128 with
  | 0 => ⟨S159x1, .i32⟩
  | 1 => ⟨S159, .i32⟩
  | 2 => ⟨S_, .i32⟩
  | 3 => ⟨S159, .i32⟩
  | 4 => ⟨S159, .i32⟩
  | 5 => ⟨S159, .i32⟩
  | 6 => ⟨S_, .i32⟩
  | 7 => ⟨S_, .i32⟩
  | 8 => ⟨S_, .i32⟩
  | 9 => ⟨S159, .i32⟩
  | 10 => ⟨S159, .i32⟩
  | 11 => ⟨S_, .i32⟩
  | 12 => ⟨S159, .i32⟩
  | 13 => ⟨S_, .i32⟩
  | 14 => ⟨S32, .i32⟩
  | 15 => ⟨S32, .i1⟩
  | 16 => ⟨S32, .i32⟩
  | 17 => ⟨S1x32, .i32⟩
  | 18 => ⟨S32x1, .i32⟩
  | 19 => ⟨S32x32, .i32⟩
  | 20 => ⟨S32x32, .i32⟩
  | 21 => ⟨S32x32, .i1⟩
  | 22 => ⟨S1x32, .i1⟩
  | 23 => ⟨S32x32, .i1⟩
  | 24 => ⟨S32x32, .i1⟩
  | 25 => ⟨S1x32, .i32⟩
  | 26 => ⟨S_, .i32⟩
  | 27 => ⟨S_, .i32⟩
  | 28 => ⟨S32x32, .i32⟩
  | 29 => ⟨S32x32, .i32⟩
  | 30 => ⟨S32x32, .i32⟩
  | 31 => ⟨S_, .i32⟩
  | 32 => ⟨S32, .i32⟩
  | 33 => ⟨S_, .i32⟩
  | 34 => ⟨S32, .i32⟩
  | 35 => ⟨S32, .i1⟩
  | 36 => ⟨S_, .i32⟩
  | 37 => ⟨S_, .i32⟩
  | 38 => ⟨S32, .i32⟩
  | 39 => ⟨S32, .i32⟩
  | 40 => ⟨S32, .i32⟩
  | 41 => ⟨S_, .i32⟩
  | 42 => ⟨S_, .i32⟩
  | 43 => ⟨S32, .i32⟩
  | 44 => ⟨S_, .i32⟩
  | 45 => ⟨S32, .i32⟩
  | 46 => ⟨S32, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S32, .i32⟩
  | 54 => ⟨S32, .i32⟩
  | 55 => ⟨S_, .i32⟩
  | 56 => ⟨S32, .i32⟩
  | 57 => ⟨S32, .i1⟩
  | 58 => ⟨S_, .i32⟩
  | 59 => ⟨S32, .i32⟩
  | 60 => ⟨S32, .i1⟩
  | 61 => ⟨S_, .i32⟩
  | 62 => ⟨S_, .i1⟩
  | 63 => ⟨S32, .i1⟩
  | 64 => ⟨S32, .i1⟩
  | 65 => ⟨S32, .i1⟩
  | 66 => ⟨S32, .i32⟩
  | 67 => ⟨S32, .i32⟩
  | 68 => ⟨S32, .i32⟩
  | 69 => ⟨S_, .i32⟩
  | 70 => ⟨S159, .i32⟩
  | 71 => ⟨S159, .i1⟩
  | 72 => ⟨S_, .i32⟩
  | 73 => ⟨S159, .i32⟩
  | 74 => ⟨S159, .i32⟩
  | 75 => ⟨S159, .i32⟩
  | 76 => ⟨S159x1, .i32⟩
  | 77 => ⟨S_, .i32⟩
  | 78 => ⟨S159, .i32⟩
  | 79 => ⟨S159, .i1⟩
  | 80 => ⟨S_, .i32⟩
  | 81 => ⟨S159, .i32⟩
  | 82 => ⟨S159, .i32⟩
  | 83 => ⟨S159, .i32⟩
  | 84 => ⟨S159x1, .i32⟩
  | 85 => ⟨S524288x128, .f32⟩
  | 86 => ⟨S524288x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .f32⟩
  | .local _ .vmem, ⟨8, _⟩ => ⟨S2x1024x512, .f32⟩
  | .local _ .vmem, ⟨9, _⟩ => ⟨S2x1024x512, .f32⟩
  | .local _ .vmem, ⟨10, _⟩ => ⟨S2x512x1024, .f32⟩
  | .local _ .smem, ⟨0, _⟩ => ⟨S159, .i32⟩
  | .local _ .smem, ⟨1, _⟩ => ⟨S159, .i32⟩
  | .local _ .smem, ⟨2, _⟩ => ⟨S159, .i32⟩
  | .local _ .smem, ⟨3, _⟩ => ⟨S159, .i32⟩
  | .local _ .smem, ⟨4, _⟩ => ⟨S1, .i32⟩
  | .local _ .smem, ⟨5, _⟩ => ⟨S159, .i32⟩
  | .local _ .smem, ⟨6, _⟩ => ⟨S159, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_c_3 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_v11 : Ref sig .tc := ⟨.hbm, 56, rfl⟩
abbrev main_v12 : Ref sig .tc := ⟨.hbm, 57, rfl⟩
abbrev main_c_5 : Ref sig .tc := ⟨.hbm, 58, rfl⟩
abbrev main_call3_v0 : Ref sig .tc := ⟨.hbm, 59, rfl⟩
abbrev main_call3_v1 : Ref sig .tc := ⟨.hbm, 60, rfl⟩
abbrev main_v13 : Ref sig .tc := ⟨.hbm, 61, rfl⟩
abbrev main_call4_call0_c : Ref sig .tc := ⟨.hbm, 62, rfl⟩
abbrev main_call4_call0_v0 : Ref sig .tc := ⟨.hbm, 63, rfl⟩
abbrev main_v14 : Ref sig .tc := ⟨.hbm, 64, rfl⟩
abbrev main_v16 : Ref sig .tc := ⟨.hbm, 65, rfl⟩
abbrev main_v17 : Ref sig .tc := ⟨.hbm, 66, rfl⟩
abbrev main_c_6 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_7 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_c_9 : Ref sig .tc := ⟨.hbm, 81, rfl⟩
abbrev main_v30 : Ref sig .tc := ⟨.hbm, 82, rfl⟩
abbrev main_v31 : Ref sig .tc := ⟨.hbm, 83, rfl⟩
abbrev main_c_10 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_11 : Ref sig .tc := ⟨.hbm, 91, rfl⟩
abbrev main_v38 : Ref sig .tc := ⟨.hbm, 92, rfl⟩
abbrev main_v39 : Ref sig .tc := ⟨.hbm, 93, rfl⟩
abbrev main_c_12 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_c_13 : Ref sig .tc := ⟨.hbm, 101, rfl⟩
abbrev main_v47 : Ref sig .tc := ⟨.hbm, 102, rfl⟩
abbrev main_v48 : Ref sig .tc := ⟨.hbm, 103, rfl⟩
abbrev main_c_14 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_c_15 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_c_16 : Ref sig .tc := ⟨.hbm, 114, rfl⟩
abbrev main_c_17 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_c_18 : Ref sig .tc := ⟨.hbm, 121, rfl⟩
abbrev main_v58 : Ref sig .tc := ⟨.hbm, 122, rfl⟩
abbrev main_v59 : Ref sig .tc := ⟨.hbm, 123, rfl⟩
abbrev main_c_19 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c_20 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_c_21 : Ref sig .tc := ⟨.hbm, 134, rfl⟩
abbrev main_c_22 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_c_23 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_c_24 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v81 : Ref sig .tc := ⟨.hbm, 158, rfl⟩
abbrev main_c_25 : Ref sig .tc := ⟨.hbm, 159, rfl⟩
abbrev main_v82 : Ref sig .tc := ⟨.hbm, 160, rfl⟩
abbrev main_c_26 : Ref sig .tc := ⟨.hbm, 161, rfl⟩
abbrev main_v83 : Ref sig .tc := ⟨.hbm, 162, rfl⟩
abbrev main_v84 : Ref sig .tc := ⟨.hbm, 163, rfl⟩
abbrev main_c_27 : Ref sig .tc := ⟨.hbm, 164, rfl⟩
abbrev main_call8_v0 : Ref sig .tc := ⟨.hbm, 165, rfl⟩
abbrev main_call8_v1 : Ref sig .tc := ⟨.hbm, 166, rfl⟩
abbrev main_v85 : Ref sig .tc := ⟨.hbm, 167, rfl⟩
abbrev main_v86 : Ref sig .tc := ⟨.hbm, 168, rfl⟩
abbrev main_call9_call0_c : Ref sig .tc := ⟨.hbm, 169, rfl⟩
abbrev main_call9_call0_v0 : Ref sig .tc := ⟨.hbm, 170, rfl⟩
abbrev main_v87 : Ref sig .tc := ⟨.hbm, 171, rfl⟩
abbrev main_c_28 : Ref sig .tc := ⟨.hbm, 172, rfl⟩
abbrev main_v88 : Ref sig .tc := ⟨.hbm, 173, rfl⟩
abbrev main_v89 : Ref sig .tc := ⟨.hbm, 174, rfl⟩
abbrev main_c_29 : Ref sig .tc := ⟨.hbm, 175, rfl⟩
abbrev main_call10_v0 : Ref sig .tc := ⟨.hbm, 176, rfl⟩
abbrev main_call10_c : Ref sig .tc := ⟨.hbm, 177, rfl⟩
abbrev main_call10_v1 : Ref sig .tc := ⟨.hbm, 178, rfl⟩
abbrev main_call10_c_0 : Ref sig .tc := ⟨.hbm, 179, rfl⟩
abbrev main_call10_v2 : Ref sig .tc := ⟨.hbm, 180, rfl⟩
abbrev main_call10_v3 : Ref sig .tc := ⟨.hbm, 181, rfl⟩
abbrev main_call10_v4 : Ref sig .tc := ⟨.hbm, 182, rfl⟩
abbrev main_call10_c_1 : Ref sig .tc := ⟨.hbm, 183, rfl⟩
abbrev main_call10_v5 : Ref sig .tc := ⟨.hbm, 184, rfl⟩
abbrev main_call10_v6 : Ref sig .tc := ⟨.hbm, 185, rfl⟩
abbrev main_call10_c_2 : Ref sig .tc := ⟨.hbm, 186, rfl⟩
abbrev main_call10_v7 : Ref sig .tc := ⟨.hbm, 187, rfl⟩
abbrev main_call10_v8 : Ref sig .tc := ⟨.hbm, 188, rfl⟩
abbrev main_call10_c_3 : Ref sig .tc := ⟨.hbm, 189, rfl⟩
abbrev main_call10_v9 : Ref sig .tc := ⟨.hbm, 190, rfl⟩
abbrev main_call10_v10 : Ref sig .tc := ⟨.hbm, 191, rfl⟩
abbrev main_call10_v11 : Ref sig .tc := ⟨.hbm, 192, rfl⟩
abbrev main_call10_v12 : Ref sig .tc := ⟨.hbm, 193, rfl⟩
abbrev main_call10_v13 : Ref sig .tc := ⟨.hbm, 194, rfl⟩
abbrev main_call10_v14 : Ref sig .tc := ⟨.hbm, 195, rfl⟩
abbrev main_v90 : Ref sig .tc := ⟨.hbm, 196, rfl⟩
abbrev main_c_30 : Ref sig .tc := ⟨.hbm, 197, rfl⟩
abbrev main_v91 : Ref sig .tc := ⟨.hbm, 198, rfl⟩
abbrev main_v92 : Ref sig .tc := ⟨.hbm, 199, rfl⟩
abbrev main_c_31 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_c_32 : Ref sig .tc := ⟨.hbm, 205, rfl⟩
abbrev main_v98 : Ref sig .tc := ⟨.hbm, 206, rfl⟩
abbrev main_v99 : Ref sig .tc := ⟨.hbm, 207, rfl⟩
abbrev main_c_33 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v105 : Ref sig .tc := ⟨.hbm, 213, rfl⟩
abbrev main_v106 : Ref sig .tc := ⟨.hbm, 214, rfl⟩
abbrev main_v29 : Ref sig .tc := ⟨.smem, 0, rfl⟩
abbrev main_v46 : Ref sig .tc := ⟨.smem, 1, rfl⟩
abbrev main_v57 : Ref sig .tc := ⟨.smem, 2, rfl⟩
abbrev main_v68 : Ref sig .tc := ⟨.smem, 3, rfl⟩
abbrev main_v15 : Ref sig .tc := ⟨.smem, 4, rfl⟩
abbrev main_v97 : Ref sig .tc := ⟨.smem, 5, rfl⟩
abbrev main_v104 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![159], ![false]⟩

abbrev pre0 : Pipeline.Prefetch sig := ⟨7, ![main_v29.idx, main_v46.idx, main_v57.idx, main_v68.idx, main_v15.idx, main_v97.idx, main_v104.idx], fun | 0 => main_v29.names | 1 => main_v46.names | 2 => main_v57.names | 3 => main_v68.names | 4 => main_v15.names | 5 => main_v97.names | 6 => main_v104.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_2 : BitVec 32 := 0#32
  let v8 : BitVec 32 := Scalar.maxsi v7 c0_i32_2
  let v14 : Index := Scalar.indexCast v8
  ![v14.toNat]
def k0_cond4 (i : grid0.Coords) : BitVec 1 :=
  let arg0 : BitVec 32 := BitVec.ofNat 32 (i 0).val
  let c0_i32_42 : BitVec 32 := 0#32
  let v79 : BitVec 1 := Scalar.cmpi .eq arg0 c0_i32_42
  let v80 : BitVec 32 := Scalar.extui v79
  let c0_i32_43 : BitVec 32 := 0#32
  let v81 : BitVec 1 := Scalar.cmpi .ne v80 c0_i32_43
  v81

def k0_off4 (v12 : BitVec 32) : Fin 1 → Nat :=
  ![v12.toNat]
def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def k0_cond3 (i : grid0.Coords) (v10 : BitVec 32) (v15 : BitVec 32) : BitVec 1 :=
  let arg0 : BitVec 32 := BitVec.ofNat 32 (i 0).val
  let c0_i32_3 : BitVec 32 := 0#32
  let v13 : BitVec 1 := Scalar.cmpi .eq arg0 c0_i32_3
  let v16 : BitVec 1 := Scalar.cmpi .ne v10 v15
  let v17 : BitVec 1 := Scalar.ori v13 v16
  let v18 : BitVec 32 := Scalar.extui v17
  let c0_i32_4 : BitVec 32 := 0#32
  let v19 : BitVec 1 := Scalar.cmpi .ne v18 c0_i32_4
  v19

def k0_off5 (v12 : BitVec 32) : Fin 3 → Nat :=
  let c0_i32_70 : BitVec 32 := 0#32
  let c0_i32_71 : BitVec 32 := 0#32
  ![v12.toNat, 0, 0]
def k0_off6 (v10 : BitVec 32) : Fin 3 → Nat :=
  let c0_i32_72 : BitVec 32 := 0#32
  let c0_i32_73 : BitVec 32 := 0#32
  ![v10.toNat, 0, 0]
def k0_off7 (v12 : BitVec 32) : Fin 3 → Nat :=
  let c0_i32_78 : BitVec 32 := 0#32
  let c0_i32_79 : BitVec 32 := 0#32
  ![v12.toNat, 0, 0]
def k0_off8 (v10 : BitVec 32) : Fin 3 → Nat :=
  let c0_i32_80 : BitVec 32 := 0#32
  let c0_i32_81 : BitVec 32 := 0#32
  ![v10.toNat, 0, 0]
def k0_off9 (v12 : BitVec 32) : Fin 1 → Nat :=
  ![v12.toNat]
def k0_off10 (v12 : BitVec 32) : Fin 3 → Nat :=
  let c0_i32_44 : BitVec 32 := 0#32
  let c0_i32_45 : BitVec 32 := 0#32
  ![v12.toNat, 0, 0]
def k0_off11 (v10 : BitVec 32) : Fin 3 → Nat :=
  let c0_i32_46 : BitVec 32 := 0#32
  let c0_i32_47 : BitVec 32 := 0#32
  ![v10.toNat, 0, 0]
def k0_off12 (v12 : BitVec 32) : Fin 3 → Nat :=
  let c0_i32_52 : BitVec 32 := 0#32
  let c0_i32_53 : BitVec 32 := 0#32
  ![v12.toNat, 0, 0]
def k0_off13 (v10 : BitVec 32) : Fin 3 → Nat :=
  let c0_i32_54 : BitVec 32 := 0#32
  let c0_i32_55 : BitVec 32 := 0#32
  ![v10.toNat, 0, 0]
def k0_off14 (v12 : BitVec 32) : Fin 3 → Nat :=
  let v100 : Index := Scalar.indexCast v12
  let c0_56 : Index := 0#32
  let c0_57 : Index := 0#32
  ![v100.toNat, 0, 0]
def k0_off15 (v12 : BitVec 32) : Fin 3 → Nat :=
  let v114 : Index := Scalar.indexCast v12
  let c0_64 : Index := 0#32
  let c0_65 : Index := 0#32
  ![v114.toNat, 0, 0]

def k0_chk1 (i : grid0.Coords) (v3 : BitVec 32) (v10 : BitVec 32) (v12 : BitVec 32) (v15 : BitVec 32) : Prop :=
  (∀ (k0_h2 : k0_cond2 i v3 = 1#1), ∀ (k0_h3 : k0_cond3 i v10 v15 = 1#1), ∀ (k0_h4 : k0_cond4 i = 1#1), ∀ a, (k0_off4 v12) a + S1.size a ≤ S2.size a) ∧
  (∀ (k0_h2 : k0_cond2 i v3 = 1#1), ∀ (k0_h3 : k0_cond3 i v10 v15 = 1#1), ∀ (k0_h4 : k0_cond4 i = 1#1), ∀ a, (k0_off5 v12) a + S1x1024x512.size a ≤ S2x1024x512.size a) ∧
  (∀ (k0_h2 : k0_cond2 i v3 = 1#1), ∀ (k0_h3 : k0_cond3 i v10 v15 = 1#1), ∀ (k0_h4 : k0_cond4 i = 1#1), ∀ a, (k0_off6 v10) a + S1x1024x512.size a ≤ S32x1024x512.size a) ∧
  (∀ (k0_h2 : k0_cond2 i v3 = 1#1), ∀ (k0_h3 : k0_cond3 i v10 v15 = 1#1), ∀ (k0_h4 : k0_cond4 i = 1#1), ∀ a, (k0_off7 v12) a + S1x512x1024.size a ≤ S2x512x1024.size a) ∧
  (∀ (k0_h2 : k0_cond2 i v3 = 1#1), ∀ (k0_h3 : k0_cond3 i v10 v15 = 1#1), ∀ (k0_h4 : k0_cond4 i = 1#1), ∀ a, (k0_off8 v10) a + S1x512x1024.size a ≤ S32x512x1024.size a) ∧
  (∀ (k0_h2 : k0_cond2 i v3 = 1#1), ∀ (k0_h3 : k0_cond3 i v10 v15 = 1#1), ∀ a, (k0_off9 v12) a + S1.size a ≤ S2.size a) ∧
  (∀ (k0_h2 : k0_cond2 i v3 = 1#1), ∀ (k0_h3 : k0_cond3 i v10 v15 = 1#1), ∀ a, (k0_off10 v12) a + S1x1024x512.size a ≤ S2x1024x512.size a) ∧
  (∀ (k0_h2 : k0_cond2 i v3 = 1#1), ∀ (k0_h3 : k0_cond3 i v10 v15 = 1#1), ∀ a, (k0_off11 v10) a + S1x1024x512.size a ≤ S32x1024x512.size a) ∧
  (∀ (k0_h2 : k0_cond2 i v3 = 1#1), ∀ (k0_h3 : k0_cond3 i v10 v15 = 1#1), ∀ a, (k0_off12 v12) a + S1x512x1024.size a ≤ S2x512x1024.size a) ∧
  (∀ (k0_h2 : k0_cond2 i v3 = 1#1), ∀ (k0_h3 : k0_cond3 i v10 v15 = 1#1), ∀ a, (k0_off13 v10) a + S1x512x1024.size a ≤ S32x512x1024.size a) ∧
  (∀ (k0_h2 : k0_cond2 i v3 = 1#1), ∀ (k0_h3 : k0_cond3 i v10 v15 = 1#1), ∀ a, (k0_off14 v12) a + S1x1024x512.size a ≤ S2x1024x512.size a) ∧
  (∀ (k0_h2 : k0_cond2 i v3 = 1#1), ∀ (k0_h3 : k0_cond3 i v10 v15 = 1#1), ∀ a, (k0_off15 v12) a + S1x512x1024.size a ≤ S2x512x1024.size a)
theorem k0_off4_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ (k0_h4 : k0_cond4 i = 1#1), ∀ a, (k0_off4 v12) a + S1.size a ≤ S2.size a := fun i v3 v10 v12 v15 k0_hw1 k0_h2 k0_h3 k0_h4 => k0_hw1.1 k0_h2 k0_h3 k0_h4
theorem k0_off5_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ (k0_h4 : k0_cond4 i = 1#1), ∀ a, (k0_off5 v12) a + S1x1024x512.size a ≤ S2x1024x512.size a := fun i v3 v10 v12 v15 k0_hw1 k0_h2 k0_h3 k0_h4 => k0_hw1.2.1 k0_h2 k0_h3 k0_h4
theorem k0_off6_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ (k0_h4 : k0_cond4 i = 1#1), ∀ a, (k0_off6 v10) a + S1x1024x512.size a ≤ S32x1024x512.size a := fun i v3 v10 v12 v15 k0_hw1 k0_h2 k0_h3 k0_h4 => k0_hw1.2.2.1 k0_h2 k0_h3 k0_h4
theorem k0_off7_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ (k0_h4 : k0_cond4 i = 1#1), ∀ a, (k0_off7 v12) a + S1x512x1024.size a ≤ S2x512x1024.size a := fun i v3 v10 v12 v15 k0_hw1 k0_h2 k0_h3 k0_h4 => k0_hw1.2.2.2.1 k0_h2 k0_h3 k0_h4
theorem k0_off8_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ (k0_h4 : k0_cond4 i = 1#1), ∀ a, (k0_off8 v10) a + S1x512x1024.size a ≤ S32x512x1024.size a := fun i v3 v10 v12 v15 k0_hw1 k0_h2 k0_h3 k0_h4 => k0_hw1.2.2.2.2.1 k0_h2 k0_h3 k0_h4
theorem k0_off9_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off9 v12) a + S1.size a ≤ S2.size a := fun i v3 v10 v12 v15 k0_hw1 k0_h2 k0_h3 => k0_hw1.2.2.2.2.2.1 k0_h2 k0_h3
theorem k0_off10_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off10 v12) a + S1x1024x512.size a ≤ S2x1024x512.size a := fun i v3 v10 v12 v15 k0_hw1 k0_h2 k0_h3 => k0_hw1.2.2.2.2.2.2.1 k0_h2 k0_h3
theorem k0_off11_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off11 v10) a + S1x1024x512.size a ≤ S32x1024x512.size a := fun i v3 v10 v12 v15 k0_hw1 k0_h2 k0_h3 => k0_hw1.2.2.2.2.2.2.2.1 k0_h2 k0_h3
theorem k0_off12_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off12 v12) a + S1x512x1024.size a ≤ S2x512x1024.size a := fun i v3 v10 v12 v15 k0_hw1 k0_h2 k0_h3 => k0_hw1.2.2.2.2.2.2.2.2.1 k0_h2 k0_h3
theorem k0_off13_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off13 v10) a + S1x512x1024.size a ≤ S32x512x1024.size a := fun i v3 v10 v12 v15 k0_hw1 k0_h2 k0_h3 => k0_hw1.2.2.2.2.2.2.2.2.2.1 k0_h2 k0_h3
theorem k0_off14_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off14 v12) a + S1x1024x512.size a ≤ S2x1024x512.size a := fun i v3 v10 v12 v15 k0_hw1 k0_h2 k0_h3 => k0_hw1.2.2.2.2.2.2.2.2.2.2.1 k0_h2 k0_h3
theorem k0_off15_inb : ∀ (i : grid0.Coords) (v3 : BitVec 32) (v10 : BitVec 32) (v12 : BitVec 32) (v15 : BitVec 32) (k0_hw1 : k0_chk1 i v3 v10 v12 v15), ∀ (k0_h2 : k0_cond2 i v3 = 1#1), ∀ (k0_h3 : k0_cond3 i v10 v15 = 1#1), ∀ a, (k0_off15 v12) a + S1x512x1024.size a ≤ S2x512x1024.size a := fun i v3 v10 v12 v15 k0_hw1 k0_h2 k0_h3 => k0_hw1.2.2.2.2.2.2.2.2.2.2.2 k0_h2 k0_h3

def k0_off16 (i : grid0.Coords) : Fin 1 → Nat :=
  let arg0 : BitVec 32 := BitVec.ofNat 32 (i 0).val
  let v121 : Index := Scalar.indexCast arg0
  ![v121.toNat]
def k0_off17 (v12 : BitVec 32) : Fin 1 → Nat :=
  let c1_i32_70 : BitVec 32 := 1#32
  let v126 : BitVec 32 := Scalar.subi c1_i32_70 v12
  ![v126.toNat]
def k0_cond5 (v122 : BitVec 32) : BitVec 1 :=
  let c0_i32_68 : BitVec 32 := 0#32
  let v123 : BitVec 1 := Scalar.cmpi .sge v122 c0_i32_68
  let v124 : BitVec 32 := Scalar.extui v123
  let c0_i32_69 : BitVec 32 := 0#32
  let v125 : BitVec 1 := Scalar.cmpi .ne v124 c0_i32_69
  v125

def k0_off18 (v12 : BitVec 32) : Fin 3 → Nat :=
  let c1_i32_70 : BitVec 32 := 1#32
  let v126 : BitVec 32 := Scalar.subi c1_i32_70 v12
  let c0_i32_71 : BitVec 32 := 0#32
  let c0_i32_72 : BitVec 32 := 0#32
  ![v126.toNat, 0, 0]
def k0_off19 (v122 : BitVec 32) : Fin 3 → Nat :=
  let c0_i32_73 : BitVec 32 := 0#32
  let c0_i32_74 : BitVec 32 := 0#32
  ![v122.toNat, 0, 0]
def k0_off20 (v12 : BitVec 32) : Fin 3 → Nat :=
  let c1_i32_70 : BitVec 32 := 1#32
  let v126 : BitVec 32 := Scalar.subi c1_i32_70 v12
  let c0_i32_79 : BitVec 32 := 0#32
  let c0_i32_80 : BitVec 32 := 0#32
  ![v126.toNat, 0, 0]
def k0_off21 (v122 : BitVec 32) : Fin 3 → Nat :=
  let c0_i32_81 : BitVec 32 := 0#32
  let c0_i32_82 : BitVec 32 := 0#32
  ![v122.toNat, 0, 0]

def k0_chk2 (i : grid0.Coords) (v3 : BitVec 32) (v10 : BitVec 32) (v12 : BitVec 32) (v15 : BitVec 32) (v122 : BitVec 32) : Prop :=
  (∀ (k0_h2 : k0_cond2 i v3 = 1#1), ∀ (k0_h3 : k0_cond3 i v10 v15 = 1#1), ∀ (k0_h5 : k0_cond5 v122 = 1#1), ∀ a, (k0_off17 v12) a + S1.size a ≤ S2.size a) ∧
  (∀ (k0_h2 : k0_cond2 i v3 = 1#1), ∀ (k0_h3 : k0_cond3 i v10 v15 = 1#1), ∀ (k0_h5 : k0_cond5 v122 = 1#1), ∀ a, (k0_off18 v12) a + S1x1024x512.size a ≤ S2x1024x512.size a) ∧
  (∀ (k0_h2 : k0_cond2 i v3 = 1#1), ∀ (k0_h3 : k0_cond3 i v10 v15 = 1#1), ∀ (k0_h5 : k0_cond5 v122 = 1#1), ∀ a, (k0_off19 v122) a + S1x1024x512.size a ≤ S32x1024x512.size a) ∧
  (∀ (k0_h2 : k0_cond2 i v3 = 1#1), ∀ (k0_h3 : k0_cond3 i v10 v15 = 1#1), ∀ (k0_h5 : k0_cond5 v122 = 1#1), ∀ a, (k0_off20 v12) a + S1x512x1024.size a ≤ S2x512x1024.size a) ∧
  (∀ (k0_h2 : k0_cond2 i v3 = 1#1), ∀ (k0_h3 : k0_cond3 i v10 v15 = 1#1), ∀ (k0_h5 : k0_cond5 v122 = 1#1), ∀ a, (k0_off21 v122) a + S1x512x1024.size a ≤ S32x512x1024.size a)
theorem k0_off17_inb : ∀ (i : grid0.Coords) (v3 : BitVec 32) (v10 : BitVec 32) (v12 : BitVec 32) (v15 : BitVec 32) (v122 : BitVec 32) (k0_hw2 : k0_chk2 i v3 v10 v12 v15 v122), ∀ (k0_h2 : k0_cond2 i v3 = 1#1), ∀ (k0_h3 : k0_cond3 i v10 v15 = 1#1), ∀ (k0_h5 : k0_cond5 v122 = 1#1), ∀ a, (k0_off17 v12) a + S1.size a ≤ S2.size a := fun i v3 v10 v12 v15 v122 k0_hw2 k0_h2 k0_h3 k0_h5 => k0_hw2.1 k0_h2 k0_h3 k0_h5
theorem k0_off18_inb : ∀ (i : grid0.Coords) (v3 : BitVec 32) (v10 : BitVec 32) (v12 : BitVec 32) (v15 : BitVec 32) (v122 : BitVec 32) (k0_hw2 : k0_chk2 i v3 v10 v12 v15 v122), ∀ (k0_h2 : k0_cond2 i v3 = 1#1), ∀ (k0_h3 : k0_cond3 i v10 v15 = 1#1), ∀ (k0_h5 : k0_cond5 v122 = 1#1), ∀ a, (k0_off18 v12) a + S1x1024x512.size a ≤ S2x1024x512.size a := fun i v3 v10 v12 v15 v122 k0_hw2 k0_h2 k0_h3 k0_h5 => k0_hw2.2.1 k0_h2 k0_h3 k0_h5
theorem k0_off19_inb : ∀ (i : grid0.Coords) (v3 : BitVec 32) (v10 : BitVec 32) (v12 : BitVec 32) (v15 : BitVec 32) (v122 : BitVec 32) (k0_hw2 : k0_chk2 i v3 v10 v12 v15 v122), ∀ (k0_h2 : k0_cond2 i v3 = 1#1), ∀ (k0_h3 : k0_cond3 i v10 v15 = 1#1), ∀ (k0_h5 : k0_cond5 v122 = 1#1), ∀ a, (k0_off19 v122) a + S1x1024x512.size a ≤ S32x1024x512.size a := fun i v3 v10 v12 v15 v122 k0_hw2 k0_h2 k0_h3 k0_h5 => k0_hw2.2.2.1 k0_h2 k0_h3 k0_h5
theorem k0_off20_inb : ∀ (i : grid0.Coords) (v3 : BitVec 32) (v10 : BitVec 32) (v12 : BitVec 32) (v15 : BitVec 32) (v122 : BitVec 32) (k0_hw2 : k0_chk2 i v3 v10 v12 v15 v122), ∀ (k0_h2 : k0_cond2 i v3 = 1#1), ∀ (k0_h3 : k0_cond3 i v10 v15 = 1#1), ∀ (k0_h5 : k0_cond5 v122 = 1#1), ∀ a, (k0_off20 v12) a + S1x512x1024.size a ≤ S2x512x1024.size a := fun i v3 v10 v12 v15 v122 k0_hw2 k0_h2 k0_h3 k0_h5 => k0_hw2.2.2.2.1 k0_h2 k0_h3 k0_h5
theorem k0_off21_inb : ∀ (i : grid0.Coords) (v3 : BitVec 32) (v10 : BitVec 32) (v12 : BitVec 32) (v15 : BitVec 32) (v122 : BitVec 32) (k0_hw2 : k0_chk2 i v3 v10 v12 v15 v122), ∀ (k0_h2 : k0_cond2 i v3 = 1#1), ∀ (k0_h3 : k0_cond3 i v10 v15 = 1#1), ∀ (k0_h5 : k0_cond5 v122 = 1#1), ∀ a, (k0_off21 v122) a + S1x512x1024.size a ≤ S32x512x1024.size a := fun i v3 v10 v12 v15 v122 k0_hw2 k0_h2 k0_h3 k0_h5 => k0_hw2.2.2.2.2 k0_h2 k0_h3 k0_h5

def k0_off22 (i : grid0.Coords) : Fin 1 → Nat :=
  let arg0 : BitVec 32 := BitVec.ofNat 32 (i 0).val
  let v49 : Index := Scalar.indexCast arg0
  ![v49.toNat]
def cc0_transform_0 (k0_off1_inb : ∀ i : grid0.Coords, ∀ a, (k0_off1 i) a + S1.size a ≤ S159.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S159.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32 : Shape := ⟨1, ![32]⟩
abbrev S65536x1024 : Shape := ⟨2, ![65536, 1024]⟩
abbrev S32x1024x512 : Shape := ⟨3, ![32, 1024, 512]⟩
abbrev S32x512x1024 : Shape := ⟨3, ![32, 512, 1024]⟩
abbrev S_ : Shape := ⟨0, ![]⟩
abbrev S65536 : Shape := ⟨1, ![65536]⟩
abbrev S65536x1 : Shape := ⟨2, ![65536, 1]⟩
abbrev S1x32 : Shape := ⟨2, ![1, 32]⟩
abbrev S65536x32 : Shape := ⟨2, ![65536, 32]⟩
abbrev S32x512x65536 : Shape := ⟨3, ![32, 512, 65536]⟩
abbrev S32x65536x512 : Shape := ⟨3, ![32, 65536, 512]⟩
abbrev S32x65536x1024 : Shape := ⟨3, ![32, 65536, 1024]⟩
abbrev S32x65536 : Shape := ⟨2, ![32, 65536]⟩
abbrev S32x65536x1 : Shape := ⟨3, ![32, 65536, 1]⟩
abbrev S524288x128 : Shape := ⟨2, ![524288, 128]⟩

abbrev nBuf : Space → Nat
  | .hbm => 43
  | .vmem => 0
  | .smem => 0
  | _ => 0

abbrev bufTy : (tb : Table) → Fin (tcTables nBuf tb) → BufTy
  | .hbm, ⟨0, _⟩ => ⟨S32, .i32⟩
  | .hbm, ⟨1, _⟩ => ⟨S65536x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S65536, .i32⟩
  | .hbm, ⟨9, _⟩ => ⟨S65536x1, .i32⟩
  | .hbm, ⟨10, _⟩ => ⟨S32, .i32⟩
  | .hbm, ⟨11, _⟩ => ⟨S1x32, .i32⟩
  | .hbm, ⟨12, _⟩ => ⟨S65536x32, .i32⟩
  | .hbm, ⟨13, _⟩ => ⟨S65536x32, .i32⟩
  | .hbm, ⟨14, _⟩ => ⟨S65536x32, .i1⟩
  | .hbm, ⟨15, _⟩ => ⟨S1x32, .i32⟩
  | .hbm, ⟨16, _⟩ => ⟨S65536x32, .i32⟩
  | .hbm, ⟨17, _⟩ => ⟨S65536x32, .i32⟩
  | .hbm, ⟨18, _⟩ => ⟨S65536x32, .i1⟩
  | .hbm, ⟨19, _⟩ => ⟨S65536x32, .i1⟩
  | .hbm, ⟨20, _⟩ => ⟨S65536x32, .f32⟩
  | .hbm, ⟨21, _⟩ => ⟨S32x512x65536, .f32⟩
  | .hbm, ⟨22, _⟩ => ⟨S32x65536x512, .f32⟩
  | .hbm, ⟨23, _⟩ => ⟨S32x512x65536, .f32⟩
  | .hbm, ⟨24, _⟩ => ⟨S32x65536x512, .f32⟩
  | .hbm, ⟨25, _⟩ => ⟨S32x65536x512, .f32⟩
  | .hbm, ⟨26, _⟩ => ⟨S32x65536x512, .f32⟩
  | .hbm, ⟨27, _⟩ => ⟨S_, .f32⟩
  | .hbm, ⟨28, _⟩ => ⟨S32x65536x512, .f32⟩
  | .hbm, ⟨29, _⟩ => ⟨S32x65536x512, .f32⟩
  | .hbm, ⟨30, _⟩ => ⟨S_, .f32⟩
  | .hbm, ⟨31, _⟩ => ⟨S32x65536x512, .f32⟩
  | .hbm, ⟨32, _⟩ => ⟨S32x65536x512, .f32⟩
  | .hbm, ⟨33, _⟩ => ⟨S32x65536x512, .f32⟩
  | .hbm, ⟨34, _⟩ => ⟨S32x65536x512, .f32⟩
  | .hbm, ⟨35, _⟩ => ⟨S32x65536x1024, .f32⟩
  | .hbm, ⟨36, _⟩ => ⟨S32x65536, .f32⟩
  | .hbm, ⟨37, _⟩ => ⟨S32x65536x1, .f32⟩
  | .hbm, ⟨38, _⟩ => ⟨S32x65536x1024, .f32⟩
  | .hbm, ⟨39, _⟩ => ⟨S32x65536x1024, .f32⟩
  | .hbm, ⟨40, _⟩ => ⟨S_, .f32⟩
  | .hbm, ⟨41, _⟩ => ⟨S65536x1024, .f32⟩
  | .hbm, ⟨42, _⟩ => ⟨S524288x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5888 : Shape := ⟨2, ![1024, 5888]⟩
abbrev S5888 : Shape := ⟨1, ![5888]⟩
abbrev S1x5888 : Shape := ⟨2, ![1, 5888]⟩
abbrev S1x1024 : Shape := ⟨2, ![1, 1024]⟩
abbrev S64x1x512x256 : Shape := ⟨4, ![64, 1, 512, 256]⟩
abbrev S64x4x128x256 : Shape := ⟨4, ![64, 4, 128, 256]⟩
abbrev S64x16x32x256 : Shape := ⟨4, ![64, 16, 32, 256]⟩
abbrev S32768x512 : Shape := ⟨2, ![32768, 512]⟩
abbrev S32768x1024 : Shape := ⟨2, ![32768, 1024]⟩
abbrev S512x1024 : Shape := ⟨2, ![512, 1024]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S512x512 : Shape := ⟨2, ![512, 512]⟩
abbrev S4x512x128 : Shape := ⟨3, ![4, 512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x256 : Shape := ⟨2, ![128, 256]⟩
abbrev S1x1x128x256 : Shape := ⟨4, ![1, 1, 128, 256]⟩
abbrev S1x32x128 : Shape := ⟨3, ![1, 32, 128]⟩
abbrev S32x128 : Shape := ⟨2, ![32, 128]⟩
abbrev S32x256 : Shape := ⟨2, ![32, 256]⟩
abbrev S1x1x32x256 : Shape := ⟨4, ![1, 1, 32, 256]⟩
abbrev S1024x512 : Shape := ⟨2, ![1024, 512]⟩
abbrev S1x512 : Shape := ⟨2, ![1, 512]⟩

abbrev nBuf : Space → Nat
  | .hbm => 30
  | .vmem => 39
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5888, .f32⟩
  | .hbm, ⟨5, _⟩ => ⟨S5888, .f32⟩
  | .hbm, ⟨6, _⟩ => ⟨S5888, .f32⟩
  | .hbm, ⟨7, _⟩ => ⟨S1x5888, .f32⟩
  | .hbm, ⟨8, _⟩ => ⟨S1024x5888, .f32⟩
  | .hbm, ⟨9, _⟩ => ⟨S1024x5888, .f32⟩
  | .hbm, ⟨10, _⟩ => ⟨S1024x5888, .bf16⟩
  | .hbm, ⟨11, _⟩ => ⟨S5888, .f32⟩
  | .hbm, ⟨12, _⟩ => ⟨S1x5888, .f32⟩
  | .hbm, ⟨13, _⟩ => ⟨S1x1024, .f32⟩
  | .hbm, ⟨14, _⟩ => ⟨S1x1024, .f32⟩
  | .hbm, ⟨15, _⟩ => ⟨S64x1x512x256, .bf16⟩
  | .hbm, ⟨16, _⟩ => ⟨S64x4x128x256, .bf16⟩
  | .hbm, ⟨17, _⟩ => ⟨S64x16x32x256, .bf16⟩
  | .hbm, ⟨18, _⟩ => ⟨S64x1x512x256, .bf16⟩
  | .hbm, ⟨19, _⟩ => ⟨S64x4x128x256, .bf16⟩
  | .hbm, ⟨20, _⟩ => ⟨S64x16x32x256, .bf16⟩
  | .hbm, ⟨21, _⟩ => ⟨S64x1x512x256, .bf16⟩
  | .hbm, ⟨22, _⟩ => ⟨S64x4x128x256, .bf16⟩
  | .hbm, ⟨23, _⟩ => ⟨S64x16x32x256, .bf16⟩
  | .hbm, ⟨24, _⟩ => ⟨S32768x512, .bf16⟩
  | .hbm, ⟨25, _⟩ => ⟨S32768x512, .bf16⟩
  | .hbm, ⟨26, _⟩ => ⟨S32768x512, .bf16⟩
  | .hbm, ⟨27, _⟩ => ⟨S32768x1024, .bf16⟩
  | .hbm, ⟨28, _⟩ => ⟨S32768x1024, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5888, .bf16⟩
  | .local _ .vmem, ⟨7, _⟩ => ⟨S1x5888, .f32⟩
  | .local _ .vmem, ⟨8, _⟩ => ⟨S1x1x512x256, .bf16⟩
  | .local _ .vmem, ⟨9, _⟩ => ⟨S1x1x512x256, .bf16⟩
  | .local _ .vmem, ⟨10, _⟩ => ⟨S1x4x128x256, .bf16⟩
  | .local _ .vmem, ⟨11, _⟩ => ⟨S1x4x128x256, .bf16⟩
  | .local _ .vmem, ⟨12, _⟩ => ⟨S1x16x32x256, .bf16⟩
  | .local _ .vmem, ⟨13, _⟩ => ⟨S1x16x32x256, .bf16⟩
  | .local _ .vmem, ⟨14, _⟩ => ⟨S1x1x512x256, .bf16⟩
  | .local _ .vmem, ⟨15, _⟩ => ⟨S1x1x512x256, .bf16⟩
  | .local _ .vmem, ⟨16, _⟩ => ⟨S1x4x128x256, .bf16⟩
  | .local _ .vmem, ⟨17, _⟩ => ⟨S1x4x128x256, .bf16⟩
  | .local _ .vmem, ⟨18, _⟩ => ⟨S1x16x32x256, .bf16⟩
  | .local _ .vmem, ⟨19, _⟩ => ⟨S1x16x32x256, .bf16⟩
  | .local _ .vmem, ⟨20, _⟩ => ⟨S1x1x512x256, .bf16⟩
  | .local _ .vmem, ⟨21, _⟩ => ⟨S1x1x512x256, .bf16⟩
  | .local _ .vmem, ⟨22, _⟩ => ⟨S1x4x128x256, .bf16⟩
  | .local _ .vmem, ⟨23, _⟩ => ⟨S1x4x128x256, .bf16⟩
  | .local _ .vmem, ⟨24, _⟩ => ⟨S1x16x32x256, .bf16⟩
  | .local _ .vmem, ⟨25, _⟩ => ⟨S1x16x32x256, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .f32⟩
  | .local _ .vmem, ⟨37, _⟩ => ⟨S512x1024, .f32⟩
  | .local _ .vmem, ⟨38, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev main_v8_9 : Ref sig .tc := ⟨.hbm, 24, rfl⟩
abbrev main_v8_10 : Ref sig .tc := ⟨.hbm, 25, rfl⟩
abbrev main_v8_11 : Ref sig .tc := ⟨.hbm, 26, rfl⟩
abbrev main_v8_12 : Ref sig .tc := ⟨.hbm, 27, rfl⟩
abbrev main_v8_13 : Ref sig .tc := ⟨.hbm, 28, rfl⟩
abbrev main_v8_14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5888 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5888 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x32x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S16384x1024 : Shape := ⟨2, ![16384, 1024]⟩
abbrev S1024 : Shape := ⟨1, ![1024]⟩
abbrev S1024x5888 : Shape := ⟨2, ![1024, 5888]⟩
abbrev S5888 : Shape := ⟨1, ![5888]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5888 : Shape := ⟨2, ![32768, 5888]⟩
abbrev S1x5888 : Shape := ⟨2, ![1, 5888]⟩
abbrev S32768x768 : Shape := ⟨2, ![32768, 768]⟩
abbrev S32768x512 : Shape := ⟨2, ![32768, 512]⟩
abbrev S32768x256 : Shape := ⟨2, ![32768, 256]⟩
abbrev S64x512x1x256 : Shape := ⟨4, ![64, 512, 1, 256]⟩
abbrev S64x1x512x256 : Shape := ⟨4, ![64, 1, 512, 256]⟩
abbrev S64x128x4x256 : Shape := ⟨4, ![64, 128, 4, 256]⟩
abbrev S64x4x128x256 : Shape := ⟨4, ![64, 4, 128, 256]⟩
abbrev S64x32x16x256 : Shape := ⟨4, ![64, 32, 16, 256]⟩
abbrev S64x16x32x256 : Shape := ⟨4, ![64, 16, 32, 256]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5888, .f32⟩
  | .hbm, ⟨5, _⟩ => ⟨S5888, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x5888, .f32⟩
  | .hbm, ⟨37, _⟩ => ⟨S1x5888, .f32⟩
  | .hbm, ⟨38, _⟩ => ⟨S32768x5888, .f32⟩
  | .hbm, ⟨39, _⟩ => ⟨S32768x5888, .f32⟩
  | .hbm, ⟨40, _⟩ => ⟨S32768x768, .f32⟩
  | .hbm, ⟨41, _⟩ => ⟨S32768x768, .f32⟩
  | .hbm, ⟨42, _⟩ => ⟨S32768x768, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x768, .f32⟩
  | .hbm, ⟨50, _⟩ => ⟨S32768x768, .f32⟩
  | .hbm, ⟨51, _⟩ => ⟨S32768x256, .f32⟩
  | .hbm, ⟨52, _⟩ => ⟨S64x512x1x256, .f32⟩
  | .hbm, ⟨53, _⟩ => ⟨S64x1x512x256, .f32⟩
  | .hbm, ⟨54, _⟩ => ⟨S64x1x512x256, .bf16⟩
  | .hbm, ⟨55, _⟩ => ⟨S32768x256, .f32⟩
  | .hbm, ⟨56, _⟩ => ⟨S64x128x4x256, .f32⟩
  | .hbm, ⟨57, _⟩ => ⟨S64x4x128x256, .f32⟩
  | .hbm, ⟨58, _⟩ => ⟨S64x4x128x256, .bf16⟩
  | .hbm, ⟨59, _⟩ => ⟨S32768x256, .f32⟩
  | .hbm, ⟨60, _⟩ => ⟨S64x32x16x256, .f32⟩
  | .hbm, ⟨61, _⟩ => ⟨S64x16x32x256, .f32⟩
  | .hbm, ⟨62, _⟩ => ⟨S64x16x32x256, .bf16⟩
  | .hbm, ⟨63, _⟩ => ⟨S32768x256, .f32⟩
  | .hbm, ⟨64, _⟩ => ⟨S64x512x1x256, .f32⟩
  | .hbm, ⟨65, _⟩ => ⟨S64x1x512x256, .f32⟩
  | .hbm, ⟨66, _⟩ => ⟨S64x1x512x256, .bf16⟩
  | .hbm, ⟨67, _⟩ => ⟨S32768x256, .f32⟩
  | .hbm, ⟨68, _⟩ => ⟨S64x128x4x256, .f32⟩
  | .hbm, ⟨69, _⟩ => ⟨S64x4x128x256, .f32⟩
  | .hbm, ⟨70, _⟩ => ⟨S64x4x128x256, .bf16⟩
  | .hbm, ⟨71, _⟩ => ⟨S32768x256, .f32⟩
  | .hbm, ⟨72, _⟩ => ⟨S64x32x16x256, .f32⟩
  | .hbm, ⟨73, _⟩ => ⟨S64x16x32x256, .f32⟩
  | .hbm, ⟨74, _⟩ => ⟨S64x16x32x256, .bf16⟩
  | .hbm, ⟨75, _⟩ => ⟨S32768x256, .f32⟩
  | .hbm, ⟨76, _⟩ => ⟨S64x512x1x256, .f32⟩
  | .hbm, ⟨77, _⟩ => ⟨S64x1x512x256, .f32⟩
  | .hbm, ⟨78, _⟩ => ⟨S64x1x512x256, .bf16⟩
  | .hbm, ⟨79, _⟩ => ⟨S32768x256, .f32⟩
  | .hbm, ⟨80, _⟩ => ⟨S64x128x4x256, .f32⟩
  | .hbm, ⟨81, _⟩ => ⟨S64x4x128x256, .f32⟩
  | .hbm, ⟨82, _⟩ => ⟨S64x4x128x256, .bf16⟩
  | .hbm, ⟨83, _⟩ => ⟨S32768x256, .f32⟩
  | .hbm, ⟨84, _⟩ => ⟨S64x32x16x256, .f32⟩
  | .hbm, ⟨85, _⟩ => ⟨S64x16x32x256, .f32⟩
  | .hbm, ⟨86, _⟩ => ⟨S64x16x32x256, .bf16⟩
  | .hbm, ⟨87, _⟩ => ⟨S_, .f32⟩
  | .hbm, ⟨88, _⟩ => ⟨S32768x512, .f32⟩
  | .hbm, ⟨89, _⟩ => ⟨S32768x512, .f32⟩
  | .hbm, ⟨90, _⟩ => ⟨S32768x512, .bf16⟩
  | .hbm, ⟨91, _⟩ => ⟨S32768x512, .bf16⟩
  | .hbm, ⟨92, _⟩ => ⟨S32768x512, .bf16⟩
  | .hbm, ⟨93, _⟩ => ⟨S32768x1024, .bf16⟩
  | .hbm, ⟨94, _⟩ => ⟨S32768x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.Common.lean ====
/-
  The names the proofs about the kernel's body share: the buffers as the body is handed them, and what it
  means to hold each of them.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The tables, in the order of the call's scalar operands. -/
abbrev tExp : Memref sig .tc .smem S159 .i32 := Memref.whole main_v29
abbrev tTile : Memref sig .tc .smem S159 .i32 := Memref.whole main_v46
abbrev tLo : Memref sig .tc .smem S159 .i32 := Memref.whole main_v57
abbrev tHi : Memref sig .tc .smem S159 .i32 := Memref.whole main_v68
abbrev tCnt : Memref sig .tc .smem S1 .i32 := Memref.whole main_v15
abbrev tNext : Memref sig .tc .smem S159 .i32 := Memref.whole main_v97
abbrev tSlot : Memref sig .tc .smem S159 .i32 := Memref.whole main_v104
/-- The three weight arrays. -/
abbrev hbG : Memref sig .tc .hbm S32x1024x512 .f32 := Memref.whole main_arg2
abbrev hbU : Memref sig .tc .hbm S32x1024x512 .f32 := Memref.whole main_arg3
abbrev hbD : Memref sig .tc .hbm S32x512x1024 .f32 := Memref.whole main_arg4
/-- The scratch buffers: the cast weights, the accumulated output tile, the two-slot landing buffers. -/
abbrev scG : Memref sig .tc .vmem S1024x512 .bf16 := Memref.whole cc0_scratch0
abbrev scU : Memref sig .tc .vmem S1024x512 .bf16 := Memref.whole cc0_scratch1
abbrev scD : Memref sig .tc .vmem S512x1024 .bf16 := Memref.whole cc0_scratch2
abbrev scY : Memref sig .tc .vmem S512x1024 .f32 := Memref.whole cc0_scratch3
abbrev bufG : Memref sig .tc .vmem S2x1024x512 .f32 := Memref.whole cc0_scratch4
abbrev bufU : Memref sig .tc .vmem S2x1024x512 .f32 := Memref.whole cc0_scratch5
abbrev bufD : Memref sig .tc .vmem S2x512x1024 .f32 := Memref.whole cc0_scratch6

abbrev BufOf (c : Dev nD) {sp : Space} {S : Shape} {e : EltTy} (M : Memref sig .tc sp S e) : Type :=
  Buf (Elt F) (M.view.loc (c : Thread nD τ))
/-- A buffer held whole. -/
abbrev pt (c : Dev nD) {sp : Space} {S : Shape} {e : EltTy} (M : Memref sig .tc sp S e) (f : BufOf (F := F) c M) : sProp 𝕄 :=
  M.view.loc (c : Thread nD τ) ↦[M.view.set]{fullShare} f
/-- A table held at the share the launch hands the body. -/
def tpt (c : Dev nD) {S : Shape} (M : Memref sig .tc .smem S .i32) (f : BufOf (F := F) c M) : sProp 𝕄 :=
  M.view.loc (c : Thread nD τ) ↦{fullShare.right} f

/-- The word of a table at a one-element rectangle. -/
abbrev word (c : Dev nD) {S : Shape} (M : Memref sig .tc .smem S .i32) (f : BufOf (F := F) c M) (off : Fin S.rank → ℕ)
    (sz : Fin S.rank → ℕ) (h : ∀ a, off a + sz a ≤ S.size a) (h1 : (Rect.unit (s := S) off sz h).shape.numel = 1) : BitVec 32 :=
  ((M.access (Rect.unit (s := S) off sz h)).read (Elt F) f) (Shape.Idx.first (h1.symm ▸ Nat.one_pos))

/-- A load of a table's word: the program goes on at the word. -/
theorem wp_tbl (c : Dev nD) {S : Shape} {M : Memref sig .tc .smem S .i32} {f : BufOf (F := F) c M} {off sz : Fin S.rank → ℕ}
    {hi : ∀ a, off a + sz a ≤ S.size a} {h1 : (Rect.unit (s := S) off sz hi).shape.numel = 1} {α : Type}
    {k : BitVec 32 → Prog (TpuEff nD τ sig (Elt F) Λ₀ .tc) α}
    {Q : α → sProp 𝕄} {v : BitVec 32} (hv : v = word c M f off sz hi h1) :
    tpt c M f ⊢ iprop((tpt c M f -∗ wp frame (wpE (defs₀ (F := F)) Variants.none c none) Set.univ (k v) Q)
      -∗ wp frame (wpE (defs₀ (F := F)) Variants.none c none) Set.univ
          (smemLoadElt M (Rect.unit (s := S) off sz hi) (View.loads_smem_one rfl h1) (Shape.Idx.first (h1.symm ▸ Nat.one_pos)) k) Q) := by
  subst hv
  unfold tpt smemLoadElt
  iintro Ht Hk
  iapply (wp_load_rect Variants.none (c : Thread nD τ) none Set.univ (m := M) (r := Rect.unit (s := S) off sz hi) (Finset.subset_univ _)) $$ Ht
  iintro Ht
  iapply Hk
  iexact Ht

/-- The body at grid coordinates `i`, on any two staging memrefs. -/
abbrev bodyAt (i : grid0.Coords) (x : Memref sig .tc .vmem S4096x128 .f32) (hx : x.IsWhole)
    (y : Memref sig .tc .vmem S4096x128 .f32) (hy : y.IsWhole) :=
  cc0_moe_grouped_ffn (F := F) i tExp (Memref.isWhole_whole _) tTile (Memref.isWhole_whole _) tLo (Memref.isWhole_whole _)
    tHi (Memref.isWhole_whole _) tCnt (Memref.isWhole_whole _) tNext (Memref.isWhole_whole _) tSlot (Memref.isWhole_whole _)
    x hx hbG (Memref.isWhole_whole _) hbU (Memref.isWhole_whole _) hbD (Memref.isWhole_whole _) y hy
    scG (Memref.isWhole_whole _) scU (Memref.isWhole_whole _) scD (Memref.isWhole_whole _) scY (Memref.isWhole_whole _)
    bufG (Memref.isWhole_whole _) bufU (Memref.isWhole_whole _) bufD (Memref.isWhole_whole _) cc0_scratch7

/-! ## The copies of one expert's weights into a slot -/

abbrev slG (M : Memref sig .tc .vmem S2x1024x512 .f32) (o : Fin 3 → ℕ) (h : ∀ a, o a + S1x1024x512.size a ≤ S2x1024x512.size a) :
    Memref sig .tc .vmem S1024x512 .f32 :=
  (M.slice (Rect.unit (s := S2x1024x512) o S1x1024x512.size h) (fun _ => rfl)).squeeze S1024x512 squeezes_S1x1024x512_S1024x512
abbrev slD (M : Memref sig .tc .vmem S2x512x1024 .f32) (o : Fin 3 → ℕ) (h : ∀ a, o a + S1x512x1024.size a ≤ S2x512x1024.size a) :
    Memref sig .tc .vmem S512x1024 .f32 :=
  (M.slice (Rect.unit (s := S2x512x1024) o S1x512x1024.size h) (fun _ => rfl)).squeeze S512x1024 squeezes_S1x512x1024_S512x1024
abbrev srG (M : Memref sig .tc .hbm S32x1024x512 .f32) (o : Fin 3 → ℕ) (h : ∀ a, o a + S1x1024x512.size a ≤ S32x1024x512.size a) :
    Memref sig .tc .hbm S1024x512 .f32 :=
  (M.slice (Rect.unit (s := S32x1024x512) o S1x1024x512.size h) (fun _ => rfl)).squeeze S1024x512 squeezes_S1x1024x512_S1024x512
abbrev srD (M : Memref sig .tc .hbm S32x512x1024 .f32) (o : Fin 3 → ℕ) (h : ∀ a, o a + S1x512x1024.size a ≤ S32x512x1024.size a) :
    Memref sig .tc .hbm S512x1024 .f32 :=
  (M.slice (Rect.unit (s := S32x512x1024) o S1x512x1024.size h) (fun _ => rfl)).squeeze S512x1024 squeezes_S1x512x1024_S512x1024

/-- A landing buffer once row `e` of a weight array is copied into the slot at `o`. -/
abbrev landG (c : Dev nD) (rs : Memref sig .tc .hbm S32x1024x512 .f32) (r : Fin 3 → ℕ) (hr : ∀ a, r a + S1x1024x512.size a ≤ S32x1024x512.size a)
    (rd : Memref sig .tc .vmem S2x1024x512 .f32) (o : Fin 3 → ℕ) (ho : ∀ a, o a + S1x1024x512.size a ≤ S2x1024x512.size a)
    (w : BufOf (F := F) c rs) (f : BufOf (F := F) c rd) : BufOf (F := F) c rd :=
  View.write (Elt F) (slG rd o ho).view f (ReadAs.same.apply ((srG rs r hr).view.read (Elt F) w)) Finset.univ
abbrev landD (c : Dev nD) (rs : Memref sig .tc .hbm S32x512x1024 .f32) (r : Fin 3 → ℕ) (hr : ∀ a, r a + S1x512x1024.size a ≤ S32x512x1024.size a)
    (rd : Memref sig .tc .vmem S2x512x1024 .f32) (o : Fin 3 → ℕ) (ho : ∀ a, o a + S1x512x1024.size a ≤ S2x512x1024.size a)
    (w : BufOf (F := F) c rs) (f : BufOf (F := F) c rd) : BufOf (F := F) c rd :=
  View.write (Elt F) (slD rd o ho).view f (ReadAs.same.apply ((srD rs r hr).view.read (Elt F) w)) Finset.univ

abbrev dlvG (c : Dev nD) (rs : Memref sig .tc .hbm S32x1024x512 .f32) (r : Fin 3 → ℕ) (hr : ∀ a, r a + S1x1024x512.size a ≤ S32x1024x512.size a)
    (rd : Memref sig .tc .vmem S2x1024x512 .f32) (o : Fin 3 → ℕ) (ho : ∀ a, o a + S1x1024x512.size a ≤ S2x1024x512.size a)
    (w : BufOf (F := F) c rs) (f : BufOf (F := F) c rd) : sProp 𝕄 :=
  iprop((rd.view.loc (c : Thread nD τ) ↦[rd.view.set]{fullShare} landG c rs r hr rd o ho w f)
    ∗ (rs.view.loc (c : Thread nD τ) ↦[(srG rs r hr).view.set]{fullShare} w))
abbrev dlvD (c : Dev nD) (rs : Memref sig .tc .hbm S32x512x1024 .f32) (r : Fin 3 → ℕ) (hr : ∀ a, r a + S1x512x1024.size a ≤ S32x512x1024.size a)
    (rd : Memref sig .tc .vmem S2x512x1024 .f32) (o : Fin 3 → ℕ) (ho : ∀ a, o a + S1x512x1024.size a ≤ S2x512x1024.size a)
    (w : BufOf (F := F) c rs) (f : BufOf (F := F) c rd) : sProp 𝕄 :=
  iprop((rd.view.loc (c : Thread nD τ) ↦[rd.view.set]{fullShare} landD c rs r hr rd o ho w f)
    ∗ (rs.view.loc (c : Thread nD τ) ↦[(srD rs r hr).view.set]{fullShare} w))

/-- The three copies' deliveries: each landing buffer whole with the row landed, and the row of the array back. -/
def deliv (c : Dev nD) (o : Fin 3 → ℕ) (ho : ∀ a, o a + S1x1024x512.size a ≤ S2x1024x512.size a)
    (ho' : ∀ a, o a + S1x512x1024.size a ≤ S2x512x1024.size a) (r : Fin 3 → ℕ)
    (hr : ∀ a, r a + S1x1024x512.size a ≤ S32x1024x512.size a) (hr' : ∀ a, r a + S1x512x1024.size a ≤ S32x512x1024.size a)
    (wg : BufOf (F := F) c hbG) (wu : BufOf (F := F) c hbU) (wd : BufOf (F := F) c hbD)
    (fg : BufOf (F := F) c bufG) (fu : BufOf (F := F) c bufU) (fd : BufOf (F := F) c bufD) : Fin 3 → sProp 𝕄
  | 0 => dlvG c hbG r hr bufG o ho wg fg
  | 1 => dlvG c hbU r hr bufU o ho wu fu
  | 2 => dlvD c hbD r hr' bufD o ho' wd fd
instance deliv_storable (c : Dev nD) (o : Fin 3 → ℕ) (ho : ∀ a, o a + S1x1024x512.size a ≤ S2x1024x512.size a)
    (ho' : ∀ a, o a + S1x512x1024.size a ≤ S2x512x1024.size a) (r : Fin 3 → ℕ)
    (hr : ∀ a, r a + S1x1024x512.size a ≤ S32x1024x512.size a) (hr' : ∀ a, r a + S1x512x1024.size a ≤ S32x512x1024.size a)
    (wg : BufOf (F := F) c hbG) (wu : BufOf (F := F) c hbU) (wd : BufOf (F := F) c hbD)
    (fg : BufOf (F := F) c bufG) (fu : BufOf (F := F) c bufU) (fd : BufOf (F := F) c bufD) (t : Fin 3) :
    Storable (upEmb : UEmb _ 𝕄) (deliv c o ho ho' r hr hr' wg wu wd fg fu fd t) := by
  fin_cases t <;> simp only [deliv] <;> infer_instance

/-- The weight arrays but for one expert's rows. -/
def restW (c : Dev nD) (r : Fin 3 → ℕ) (hr : ∀ a, r a + S1x1024x512.size a ≤ S32x1024x512.size a)
    (hr' : ∀ a, r a + S1x512x1024.size a ≤ S32x512x1024.size a)
    (wg : BufOf (F := F) c hbG) (wu : BufOf (F := F) c hbU) (wd : BufOf (F := F) c hbD) : sProp 𝕄 :=
  iprop((hbG.view.loc (c : Thread nD τ) ↦[hbG.view.set \ (srG hbG r hr).view.set]{fullShare} wg)
    ∗ (hbU.view.loc (c : Thread nD τ) ↦[hbU.view.set \ (srG hbU r hr).view.set]{fullShare} wu)
    ∗ (hbD.view.loc (c : Thread nD τ) ↦[hbD.view.set \ (srD hbD r hr').view.set]{fullShare} wd))

/-- Each copy's amount. -/
abbrev amt : ℕ := (slG bufG ![0, 0, 0] (by decide)).view.amount (SemLoc.dma (sig := sig) (4 : Fin 6))

/-- A row lent out of an array and the rest of the array are the array. -/
theorem rejoin (c : Dev nD) {S : Shape} (M : Memref sig .tc .hbm S .f32) (hM : M.IsWhole)
    (I : Finset (Idx (M.view.loc (c : Thread nD τ)))) (w : BufOf (F := F) c M) :
    iprop((M.view.loc (c : Thread nD τ) ↦[I]{fullShare} w) ∗ (M.view.loc (c : Thread nD τ) ↦[M.view.set \ I]{fullShare} w))
      ⊢ (pt c M w : sProp 𝕄) :=
  (pointsTo_split_subset (by rw [hM.set_eq_univ]; exact Finset.subset_univ _)).2

end Cert.KernelIdeal.Hand
-- ==== Proof.Closed.lean ====
/-
  What one grid point computes, as functions of what it reads.
-/
module

public import proofs.«01_k».proof.Proof.Common
public import Idealize.ShloMosaic.Lib.Pointwise
public import Idealize.ShloMosaic.Lib.ViewIndex
public import Idealize.ShloMosaic.Lib.VecWindow
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The `k`-th lane of the packed input tile: every eighth row from row `k`. -/
def ld0 (X : Vec F S4096x128 .f32) : Vec F S512x128 .f32 :=
  fun j => X ((⟨![0, 0], S512x128.size, ![8, 1], inb_S4096x128_S512x128_0_0_s_8_1⟩ : LoadRect S4096x128).idx j)
def ld1 (X : Vec F S4096x128 .f32) : Vec F S512x128 .f32 :=
  fun j => X ((⟨![1, 0], S512x128.size, ![8, 1], inb_S4096x128_S512x128_1_0_s_8_1⟩ : LoadRect S4096x128).idx j)
def ld2 (X : Vec F S4096x128 .f32) : Vec F S512x128 .f32 :=
  fun j => X ((⟨![2, 0], S512x128.size, ![8, 1], inb_S4096x128_S512x128_2_0_s_8_1⟩ : LoadRect S4096x128).idx j)
def ld3 (X : Vec F S4096x128 .f32) : Vec F S512x128 .f32 :=
  fun j => X ((⟨![3, 0], S512x128.size, ![8, 1], inb_S4096x128_S512x128_3_0_s_8_1⟩ : LoadRect S4096x128).idx j)
def ld4 (X : Vec F S4096x128 .f32) : Vec F S512x128 .f32 :=
  fun j => X ((⟨![4, 0], S512x128.size, ![8, 1], inb_S4096x128_S512x128_4_0_s_8_1⟩ : LoadRect S4096x128).idx j)
def ld5 (X : Vec F S4096x128 .f32) : Vec F S512x128 .f32 :=
  fun j => X ((⟨![5, 0], S512x128.size, ![8, 1], inb_S4096x128_S512x128_5_0_s_8_1⟩ : LoadRect S4096x128).idx j)
def ld6 (X : Vec F S4096x128 .f32) : Vec F S512x128 .f32 :=
  fun j => X ((⟨![6, 0], S512x128.size, ![8, 1], inb_S4096x128_S512x128_6_0_s_8_1⟩ : LoadRect S4096x128).idx j)
def ld7 (X : Vec F S4096x128 .f32) : Vec F S512x128 .f32 :=
  fun j => X ((⟨![7, 0], S512x128.size, ![8, 1], inb_S4096x128_S512x128_7_0_s_8_1⟩ : LoadRect S4096x128).idx j)

/-- The feed-forward of a tile through the held expert's weights. -/
def ffn (X : Vec F S4096x128 .f32) (G U : Vec F S1024x512 .bf16) (D : Vec F S512x1024 .bf16) : Vec F S512x1024 .f32 :=
  k0_pay10 (k0_pay8 (ld0 X) (ld1 X) (ld2 X) (ld3 X) (ld4 X) (ld5 X) (ld6 X) (ld7 X))
    (k0_pay9 (ld0 X) (ld1 X) (ld2 X) (ld3 X) (ld4 X) (ld5 X) (ld6 X) (ld7 X) G) U D

/-- The accumulated tile after a grid point: the rows from `lo` to `hi` anew, the others kept. -/
def stepY (lo hi : BitVec 32) (X : Vec F S4096x128 .f32) (G U : Vec F S1024x512 .bf16) (D : Vec F S512x1024 .bf16)
    (Y : Vec F S512x1024 .f32) : Vec F S512x1024 .f32 :=
  fun j => if k0_pay11 (F := F) lo hi j = 1#1 then ffn X G U D j else Y j

/-- The output window: row `8 r + k` holds lanes `128 k …` of row `r` of the accumulated tile. -/
def outY (Y : Vec F S512x1024 .f32) : Vec F S4096x128 .f32 :=
  fun j => Y (ix2 ⟨(j 0).val / 8, by have := (j 0).isLt; simp at this; omega⟩
    ⟨((j 0).val % 8) * 128 + (j 1).val, by have := (j 1).isLt; simp at this; omega⟩)

/-- Expert `e`'s weights as the kernel casts them. -/
def castG (W : Vec F S32x1024x512 .f32) (e : BitVec 32) : Vec F S1024x512 .bf16 :=
  k0_pay4 (fun j : S1x1024x512.Idx => W (ix3 ⟨e.toNat % 32, Nat.mod_lt _ (by decide)⟩ (j 1) (j 2)))
def castU (W : Vec F S32x1024x512 .f32) (e : BitVec 32) : Vec F S1024x512 .bf16 :=
  k0_pay6 (k0_pay5 (fun j : S1x1024x512.Idx => W (ix3 ⟨e.toNat % 32, Nat.mod_lt _ (by decide)⟩ (j 1) (j 2))))
def castD (W : Vec F S32x512x1024 .f32) (e : BitVec 32) : Vec F S512x1024 .bf16 :=
  k0_pay7 (fun j : S1x512x1024.Idx => W (ix3 ⟨e.toNat % 32, Nat.mod_lt _ (by decide)⟩ (j 1) (j 2)))

/-! ## Reading back what the stores leave -/

theorem off00 : (![0, 0] : Fin 2 → ℕ) = fun _ => 0 := by decide

/-- A load of a whole scratch buffer reads it. -/
theorem ld_scY (f : (Memref.view scY).ty.Contents (Elt F)) :
    View.readAt (Elt F) scY.view (Rect.unit ![0, 0] S512x1024.size inb_S512x1024_S512x1024_0_0).toLoadRect f = scY.view.read (Elt F) f :=
  Memref.readAt_unit_zero (Elt F) cc0_scratch3 off00 _ f
theorem ld_scG (f : (Memref.view scG).ty.Contents (Elt F)) :
    View.readAt (Elt F) scG.view (Rect.unit ![0, 0] S1024x512.size inb_S1024x512_S1024x512_0_0).toLoadRect f = scG.view.read (Elt F) f :=
  Memref.readAt_unit_zero (Elt F) cc0_scratch0 off00 _ f
theorem ld_scU (f : (Memref.view scU).ty.Contents (Elt F)) :
    View.readAt (Elt F) scU.view (Rect.unit ![0, 0] S1024x512.size inb_S1024x512_S1024x512_0_0).toLoadRect f = scU.view.read (Elt F) f :=
  Memref.readAt_unit_zero (Elt F) cc0_scratch1 off00 _ f
theorem ld_scD (f : (Memref.view scD).ty.Contents (Elt F)) :
    View.readAt (Elt F) scD.view (Rect.unit ![0, 0] S512x1024.size inb_S512x1024_S512x1024_0_0).toLoadRect f = scD.view.read (Elt F) f :=
  Memref.readAt_unit_zero (Elt F) cc0_scratch2 off00 _ f

/-- The accumulated tile read back after the masked store: the payload where the mask is on, what was there elsewhere. -/
theorem ld_masked (f : (Memref.view scY).ty.Contents (Elt F)) (w : Vec F S512x1024 .f32) (m : IVec S512x1024 1) :
    View.readAt (Elt F) scY.view (Rect.unit ![0, 0] S512x1024.size inb_S512x1024_S512x1024_0_0).toLoadRect
        (View.write (Elt F) (scY.access (Rect.unit ![0, 0] S512x1024.size inb_S512x1024_S512x1024_0_0)) f w (IVec.on m))
      = fun j => if m j = 1#1 then w j else scY.view.read (Elt F) f j := by
  funext j
  show (scY.access (Rect.unit ![0, 0] S512x1024.size inb_S512x1024_S512x1024_0_0)).read (Elt F) _ j = _
  by_cases h : m j = 1#1
  · rw [if_pos h, View.read_write_of_mem _ _ (by simpa [IVec.on] using h)]
  · rw [if_neg h, View.read_apply, View.write_emb, if_neg (by simpa [IVec.on] using h)]
    exact congrFun (ld_scY f) j

/-- The output window after its eight strided stores. -/
theorem read_y (c : Dev nD) (y : Memref sig .tc .vmem S4096x128 .f32) (f : BufOf (F := F) c y) (V : Vec F S512x1024 .f32) :
    y.view.read (Elt F) (y.view.writes (Elt F) f
      [⟨⟨(⟨![7, 0], S512x128.size, ![8, 1], inb_S4096x128_S512x128_7_0_s_8_1⟩ : LoadRect S4096x128), spos_8_1⟩, k0_pay3 V⟩,
       ⟨⟨(⟨![6, 0], S512x128.size, ![8, 1], inb_S4096x128_S512x128_6_0_s_8_1⟩ : LoadRect S4096x128), spos_8_1⟩, k0_pay2 V⟩,
       ⟨⟨(⟨![5, 0], S512x128.size, ![8, 1], inb_S4096x128_S512x128_5_0_s_8_1⟩ : LoadRect S4096x128), spos_8_1⟩, k0_pay17 V⟩,
       ⟨⟨(⟨![4, 0], S512x128.size, ![8, 1], inb_S4096x128_S512x128_4_0_s_8_1⟩ : LoadRect S4096x128), spos_8_1⟩, k0_pay16 V⟩,
       ⟨⟨(⟨![3, 0], S512x128.size, ![8, 1], inb_S4096x128_S512x128_3_0_s_8_1⟩ : LoadRect S4096x128), spos_8_1⟩, k0_pay15 V⟩,
       ⟨⟨(⟨![2, 0], S512x128.size, ![8, 1], inb_S4096x128_S512x128_2_0_s_8_1⟩ : LoadRect S4096x128), spos_8_1⟩, k0_pay14 V⟩,
       ⟨⟨(⟨![1, 0], S512x128.size, ![8, 1], inb_S4096x128_S512x128_1_0_s_8_1⟩ : LoadRect S4096x128), spos_8_1⟩, k0_pay13 V⟩,
       ⟨⟨(⟨![0, 0], S512x128.size, ![8, 1], inb_S4096x128_S512x128_0_0_s_8_1⟩ : LoadRect S4096x128), spos_8_1⟩, k0_pay12 V⟩])
      = outY V := by
  funext j
  refine View.read_writes_apply_of_pieces (v := y.view) (f := f) (outY V) _ ?_ j ?_
  · intro p hp x
    simp only [List.mem_cons, List.not_mem_nil, or_false] at hp
    have h0 : (x 0).val < 512 := by rcases hp with rfl | rfl | rfl | rfl | rfl | rfl | rfl | rfl <;> exact (x 0).isLt
    have h1 : (x 1).val < 128 := by rcases hp with rfl | rfl | rfl | rfl | rfl | rfl | rfl | rfl <;> exact (x 1).isLt
    have e0 : (p.1.emb x 0).val = p.1.off 0 + p.1.stride 0 * (x 0).val := rfl
    have e1 : (p.1.emb x 1).val = p.1.off 1 + p.1.stride 1 * (x 1).val := rfl
    rcases hp with rfl | rfl | rfl | rfl | rfl | rfl | rfl | rfl
    all_goals
      simp only [k0_pay3, k0_pay2, k0_pay17, k0_pay16, k0_pay15, k0_pay14, k0_pay13, k0_pay12, extractStridedSlice, outY]
      refine congrArg V (funext fun a => Fin.ext ?_)
      simp only [Matrix.cons_val_zero, Matrix.cons_val_one] at e0 e1
      fin_cases a
      · simp [ix2, e0] <;> omega
      · simp [ix2, e0, e1] <;> omega
  · have h0 := (j 0).isLt
    have h1 := (j 1).isLt
    have h0' : (j 0).val < 4096 := h0
    have h1' : (j 1).val < 128 := h1
    have hk : ∀ k : ℕ, ∀ inb, (j 0).val % 8 = k →
        j ∈ (⟨(⟨![k, 0], S512x128.size, ![8, 1], inb⟩ : LoadRect S4096x128), spos_8_1⟩ : Rect S4096x128).set := by
      intro k inb hk
      refine (LoadRect.mem_set _).2 fun a => ?_
      fin_cases a
      · exact ⟨(j 0).val / 8, by show (j 0).val / 8 < 512; omega, by show (j 0).val = k + 8 * ((j 0).val / 8); omega⟩
      · exact ⟨(j 1).val, h1', by show (j 1).val = 0 + 1 * (j 1).val; omega⟩
    have h8 : (j 0).val % 8 < 8 := Nat.mod_lt _ (by decide)
    simp only [List.exists_mem_cons_iff]
    have hc : (j 0).val % 8 = 0 ∨ (j 0).val % 8 = 1 ∨ (j 0).val % 8 = 2 ∨ (j 0).val % 8 = 3 ∨ (j 0).val % 8 = 4
        ∨ (j 0).val % 8 = 5 ∨ (j 0).val % 8 = 6 ∨ (j 0).val % 8 = 7 := by omega
    rcases hc with h | h | h | h | h | h | h | h
    · exact .inr (.inr (.inr (.inr (.inr (.inr (.inr (.inl (hk 0 _ h))))))))
    · exact .inr (.inr (.inr (.inr (.inr (.inr (.inl (hk 1 _ h)))))))
    · exact .inr (.inr (.inr (.inr (.inr (.inl (hk 2 _ h))))))
    · exact .inr (.inr (.inr (.inr (.inl (hk 3 _ h)))))
    · exact .inr (.inr (.inr (.inl (hk 4 _ h))))
    · exact .inr (.inr (.inl (hk 5 _ h)))
    · exact .inr (.inl (hk 6 _ h))
    · exact .inl (hk 7 _ h)

/-- A landed row read back out of its slot is the row of the weight array. -/
theorem ld_landG (c : Dev nD) (rs : Memref sig .tc .hbm S32x1024x512 .f32) (rd : Memref sig .tc .vmem S2x1024x512 .f32) (r o : Fin 3 → ℕ)
    (hr : ∀ a, r a + S1x1024x512.size a ≤ S32x1024x512.size a) (ho : ∀ a, o a + S1x1024x512.size a ≤ S2x1024x512.size a)
    (w : BufOf (F := F) c rs) (f : BufOf (F := F) c rd) :
    View.readAt (Elt F) rd.view (Rect.unit (s := S2x1024x512) o S1x1024x512.size ho).toLoadRect (landG c rs r hr rd o ho w f)
      = View.readAt (Elt F) rs.view (Rect.unit (s := S32x1024x512) r S1x1024x512.size hr).toLoadRect w := by
  funext j
  obtain ⟨x, rfl⟩ := (Shape.reshapeEquiv squeezes_S1x1024x512_S1024x512.numel_eq).surjective j
  exact View.read_write_reshape (rd.slice (Rect.unit (s := S2x1024x512) o S1x1024x512.size ho) (fun _ => rfl)).view _ f
    (ReadAs.same.apply ((srG rs r hr).view.read (Elt F) w)) x

/-- A landed row read back out of its slot is the row of the weight array. -/
theorem ld_landD (c : Dev nD) (rs : Memref sig .tc .hbm S32x512x1024 .f32) (rd : Memref sig .tc .vmem S2x512x1024 .f32) (r o : Fin 3 → ℕ)
    (hr : ∀ a, r a + S1x512x1024.size a ≤ S32x512x1024.size a) (ho : ∀ a, o a + S1x512x1024.size a ≤ S2x512x1024.size a)
    (w : BufOf (F := F) c rs) (f : BufOf (F := F) c rd) :
    View.readAt (Elt F) rd.view (Rect.unit (s := S2x512x1024) o S1x512x1024.size ho).toLoadRect (landD c rs r hr rd o ho w f)
      = View.readAt (Elt F) rs.view (Rect.unit (s := S32x512x1024) r S1x512x1024.size hr).toLoadRect w := by
  funext j
  obtain ⟨x, rfl⟩ := (Shape.reshapeEquiv squeezes_S1x512x1024_S512x1024.numel_eq).surjective j
  exact View.read_write_reshape (rd.slice (Rect.unit (s := S2x512x1024) o S1x512x1024.size ho) (fun _ => rfl)).view _ f
    (ReadAs.same.apply ((srD rs r hr).view.read (Elt F) w)) x

theorem ld_rowG (c : Dev nD) (e : BitVec 32) (he : e.toNat < 32) (hr : ∀ a, (k0_off6 e) a + S1x1024x512.size a ≤ S32x1024x512.size a)
    (w : BufOf (F := F) c hbG) :
    View.readAt (Elt F) hbG.view (Rect.unit (s := S32x1024x512) (k0_off6 e) S1x1024x512.size hr).toLoadRect w
      = fun j : S1x1024x512.Idx => (w : Vec F S32x1024x512 .f32) (ix3 ⟨e.toNat % 32, Nat.mod_lt _ (by decide)⟩ (j 1) (j 2)) := by
  funext j
  refine congrArg (w : Vec F S32x1024x512 .f32) (funext fun a => Fin.ext ?_)
  have h0 : (j 0).val < 1 := (j 0).isLt
  fin_cases a
  · show e.toNat + 1 * (j 0).val = e.toNat % 32
    omega
  · show 0 + 1 * (j 1).val = (j 1).val
    omega
  · show 0 + 1 * (j 2).val = (j 2).val
    omega

theorem ld_rowU (c : Dev nD) (e : BitVec 32) (he : e.toNat < 32) (hr : ∀ a, (k0_off6 e) a + S1x1024x512.size a ≤ S32x1024x512.size a)
    (w : BufOf (F := F) c hbU) :
    View.readAt (Elt F) hbU.view (Rect.unit (s := S32x1024x512) (k0_off6 e) S1x1024x512.size hr).toLoadRect w
      = fun j : S1x1024x512.Idx => (w : Vec F S32x1024x512 .f32) (ix3 ⟨e.toNat % 32, Nat.mod_lt _ (by decide)⟩ (j 1) (j 2)) := by
  funext j
  refine congrArg (w : Vec F S32x1024x512 .f32) (funext fun a => Fin.ext ?_)
  have h0 : (j 0).val < 1 := (j 0).isLt
  fin_cases a
  · show e.toNat + 1 * (j 0).val = e.toNat % 32
    omega
  · show 0 + 1 * (j 1).val = (j 1).val
    omega
  · show 0 + 1 * (j 2).val = (j 2).val
    omega

theorem ld_rowD (c : Dev nD) (e : BitVec 32) (he : e.toNat < 32) (hr : ∀ a, (k0_off6 e) a + S1x512x1024.size a ≤ S32x512x1024.size a)
    (w : BufOf (F := F) c hbD) :
    View.readAt (Elt F) hbD.view (Rect.unit (s := S32x512x1024) (k0_off6 e) S1x512x1024.size hr).toLoadRect w
      = fun j : S1x512x1024.Idx => (w : Vec F S32x512x1024 .f32) (ix3 ⟨e.toNat % 32, Nat.mod_lt _ (by decide)⟩ (j 1) (j 2)) := by
  funext j
  refine congrArg (w : Vec F S32x512x1024 .f32) (funext fun a => Fin.ext ?_)
  have h0 : (j 0).val < 1 := (j 0).isLt
  fin_cases a
  · show e.toNat + 1 * (j 0).val = e.toNat % 32
    omega
  · show 0 + 1 * (j 1).val = (j 1).val
    omega
  · show 0 + 1 * (j 2).val = (j 2).val
    omega

/-- What the step leaves, from the loads it makes. -/
theorem stepY_of {lo hi : BitVec 32} {X : Vec F S4096x128 .f32} {G U G' U' : Vec F S1024x512 .bf16} {D D' : Vec F S512x1024 .bf16}
    {Y Y' : Vec F S512x1024 .f32} (hG : G' = G) (hU : U' = U) (hD : D' = D) (hY : Y' = Y) :
    (fun j => if k0_pay11 (F := F) lo hi j = 1#1 then
        k0_pay10 (k0_pay8 (ld0 X) (ld1 X) (ld2 X) (ld3 X) (ld4 X) (ld5 X) (ld6 X) (ld7 X))
          (k0_pay9 (ld0 X) (ld1 X) (ld2 X) (ld3 X) (ld4 X) (ld5 X) (ld6 X) (ld7 X) G') U' D' j
      else Y' j) = stepY lo hi X G U D Y := by
  subst hG hU hD hY; rfl

end Cert.KernelIdeal.Hand
-- ==== Proof.RunA.lean ====
/-
  The kernel's body run once through: the points at which no expert changes, and the first point.
-/
module

public import proofs.«01_k».proof.Proof.Closed
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- A grid point past the last item: the count is read, and nothing else happens. -/
theorem runA (c : Dev nD) (i : grid0.Coords) (x : Memref sig .tc .vmem S4096x128 .f32) (hx : x.IsWhole)
    (y : Memref sig .tc .vmem S4096x128 .f32) (hy : y.IsWhole) (fc : BufOf (F := F) c tCnt) (n : BitVec 32)
    (hn : n = word c tCnt fc ![0] S1.size inb_S1_S1_0 numel1_S1)
    (hz : ¬ (Scalar.cmpi .ne (Scalar.extui (Scalar.cmpi .eq (BitVec.ofNat 32 (i 0).val) 0#32)) 0#32 = 1#1))
    (h2 : ¬ k0_cond2 i n = 1#1) (K : PUnit → sProp 𝕄) :
    iprop(tpt c tCnt fc ∗ (tpt c tCnt fc -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  iintro ⟨Hc, HK⟩
  sl_exec
  iapply (wp_tbl c hn) $$ Hc; iintro Hc
  sl_exec
  sl_step
  iapply HK
  iexact Hc

set_option maxHeartbeats 1000000 in
/-- A grid point whose expert is the one before's. -/
theorem runC (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (n e p s lo hi : BitVec 32)
    (hn : n = word c tCnt fc ![0] S1.size inb_S1_S1_0 numel1_S1)
    (he : e = word c tExp fe (k0_off2 i) S1.size (k0_off2_inb i) numel1_S1)
    (hs : s = word c tSlot fs (k0_off2 i) S1.size (k0_off2_inb i) numel1_S1)
    (hp : p = word c tExp fe (k0_off3 i) S1.size (k0_off3_inb i) numel1_S1)
    (hlo : lo = word c tLo fl (k0_off22 i) S1.size (k0_off22_inb i) numel1_S1)
    (hhi : hi = word c tHi fh (k0_off22 i) S1.size (k0_off22_inb i) numel1_S1)
    (hz : ¬ (Scalar.cmpi .ne (Scalar.extui (Scalar.cmpi .eq (BitVec.ofNat 32 (i 0).val) 0#32)) 0#32 = 1#1))
    (h2 : k0_cond2 i n = 1#1) (h3 : ¬ k0_cond3 i e p = 1#1) (hk : k0_chk1 i n e s p)
    (X : Vec F S4096x128 .f32) (G U : Vec F S1024x512 .bf16) (D : Vec F S512x1024 .bf16) (Y : Vec F S512x1024 .f32)
    (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs
        ∗ owns (c : Thread nD τ) scG fullShare G ∗ owns (c : Thread nD τ) scU fullShare U ∗ owns (c : Thread nD τ) scD fullShare D
        ∗ owns (c : Thread nD τ) scY fullShare Y
        ∗ (iprop(owns (c : Thread nD τ) x fullShare X ∗ owns (c : Thread nD τ) y fullShare (outY (stepY lo hi X G U D Y))
            ∗ tpt c tExp fe ∗ tpt c tLo fl ∗ tpt c tHi fh ∗ tpt c tCnt fc ∗ tpt c tSlot fs
            ∗ owns (c : Thread nD τ) scG fullShare G ∗ owns (c : Thread nD τ) scU fullShare U ∗ owns (c : Thread nD τ) scD fullShare D
            ∗ owns (c : Thread nD τ) scY fullShare (stepY lo hi X G U D Y)) -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns
  iintro ⟨⟨%fx, %hfx, Hx⟩, ⟨%d, %f, -, Hy⟩, He, Hl, Hh, Hc, Hs, ⟨%fg, %hfg, Hg⟩, ⟨%fu, %hfu, Hu⟩, ⟨%fd, %hfd, Hd⟩, ⟨%fY, %hfY, HY⟩, HK⟩
  subst hfx hfg hfu hfd hfY
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of (ld_scG fg) (ld_scU fu) (ld_scD fd) rfl)))
  isplitl [He]; · iexact He
  isplitl [Hl]; · iexact Hl
  isplitl [Hh]; · iexact Hh
  isplitl [Hc]; · iexact Hc
  isplitl [Hs]; · iexact Hs
  isplitl [Hg]
  · iexists _; isplitr; rotate_left; · iexact Hg
    ipureintro; rfl
  isplitl [Hu]
  · iexists _; isplitr; rotate_left; · iexact Hu
    ipureintro; rfl
  isplitl [Hd]
  · iexists _; isplitr; rotate_left; · iexact Hd
    ipureintro; rfl
  iexists _; isplitr; rotate_left; · iexact HY
  ipureintro
  sl_open_run
  exact (ld_scY _).symm.trans ((ld_masked _ _ _).trans (stepY_of (ld_scG fg) (ld_scU fu) (ld_scD fd) rfl))

set_option maxHeartbeats 1000000 in
/-- The first grid point, where another expert's weights are to be fetched behind it. -/
theorem runBn (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 0#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : (Scalar.cmpi .ne (Scalar.extui (Scalar.cmpi .eq (BitVec.ofNat 32 (i 0).val) 0#32)) 0#32 = 1#1))
    (h2 : k0_cond2 i n = 1#1) (h3 : k0_cond3 i e p = 1#1) (h4 : k0_cond4 i = 1#1) (h5 : k0_cond5 nx = 1#1)
    (hk : k0_chk1 i n e 0#32 p) (hk2 : k0_chk2 i n e 0#32 p nx) (he32 : e.toNat < 32)
    (hr : ∀ a, (k0_off6 e) a + S1x1024x512.size a ≤ S32x1024x512.size a)
    (hr' : ∀ a, (k0_off6 e) a + S1x512x1024.size a ≤ S32x512x1024.size a)
    (hq : ∀ a, (k0_off19 nx) a + S1x1024x512.size a ≤ S32x1024x512.size a)
    (hq' : ∀ a, (k0_off19 nx) a + S1x512x1024.size a ≤ S32x512x1024.size a)
    (X : Vec F S4096x128 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ (∃ f, pt c scY f)
        ∗ (∃ f, pt c bufG f) ∗ (∃ f, pt c bufU f) ∗ (∃ f, pt c bufD f) ∗ semVal ((c : Thread nD τ), SemLoc.dma 4) 0 ∗ semVal ((c : Thread nD τ), SemLoc.dma 5) 0 ∗ pt c hbG wg ∗ pt c hbU wu ∗ pt c hbD wd ∗ owes (c : Thread nD τ) 0 W
        ∗ (iprop(owns (c : Thread nD τ) x fullShare X
            ∗ owns (c : Thread nD τ) y fullShare (outY (stepY lo hi X (castG wg e) (castU wu e) (castD wd e) k0_pay1))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) k0_pay1)
            ∗ semVal ((c : Thread nD τ), SemLoc.dma 4) 0 ∗ restW c (k0_off19 nx) hq hq' wg wu wd
        ∗ (∃ bg bu bd, Transfers.Batch (countersEmb (U := Pipeline.UD sig nD τ)) (c : Thread nD τ) (SemLoc.dma 5) () amt
            (deliv c ![1, 0, 0] (by decide) (by decide) (k0_off19 nx) hq hq' wg wu wd bg bu bd) 3 0) ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns restW
  iintro ⟨⟨%fx, %hfx, Hx⟩, ⟨%d, %f, -, Hy⟩, He, Hl, Hh, Hc, Hs, Hn, ⟨%fg, Hg⟩, ⟨%fu, Hu⟩, ⟨%fd, Hd⟩, ⟨%fY, HY⟩, ⟨%bg, Hbg⟩, ⟨%bu, Hbu⟩, ⟨%bd, Hbd⟩, Hq0, Hq1, Hwg, Hwu, Hwd, HW, HK⟩
  subst hfx
  imod (Transfers.batch_alloc' (Lvl := ℕ) (countersEmb (U := Pipeline.UD sig nD τ)) (c : Thread nD τ) () amt
    (deliv c ![0, 0, 0] (by decide) (by decide) (k0_off6 e) hr hr' wg wu wd bg bu bd) (sm := SemLoc.dma 4) (E := Set.univ)) $$ Hq0 with HB0
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB0_src0_in0 Hwg]
  · isplitl [HB0_src0_in0]
    · iexact HB0_src0_in0
    · iexact Hwg
  ihave Hwu := rejoin c hbU (Memref.isWhole_whole _) _ wu $$ [HB0_src1_in1 Hwu]
  · isplitl [HB0_src1_in1]
    · iexact HB0_src1_in1
    · iexact Hwu
  ihave Hwd := rejoin c hbD (Memref.isWhole_whole _) _ wd $$ [HB0_src2_in2 Hwd]
  · isplitl [HB0_src2_in2]
    · iexact HB0_src2_in2
    · iexact Hwd
  imod (Transfers.batch_alloc' (Lvl := ℕ) (countersEmb (U := Pipeline.UD sig nD τ)) (c : Thread nD τ) () amt
    (deliv c ![1, 0, 0] (by decide) (by decide) (k0_off19 nx) hq hq' wg wu wd
      (landG c hbG (k0_off6 e) hr bufG ![0, 0, 0] (by decide) wg bg) (landG c hbU (k0_off6 e) hr bufU ![0, 0, 0] (by decide) wu bu)
      (landD c hbD (k0_off6 e) hr' bufD ![0, 0, 0] (by decide) wd bd)) (sm := SemLoc.dma 5) (E := Set.univ)) $$ Hq1 with HB1
  unfold deliv
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (View.read_writes_full _ _ _ _ _))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (View.read_writes_full _ _ _ _ _)))
  isplitl [HB0]; · iexact HB0
  isplitl [Hwg Hwu Hwd]
  · isplitl [Hwg]; · iexact Hwg
    isplitl [Hwu]; · iexact Hwu
    iexact Hwd
  isplitl [HB1]
  · iexists _, _, _; iexact HB1
  iexists _; iexact HW

set_option maxHeartbeats 1000000 in
/-- The first grid point, where its expert is the only one. -/
theorem runBl (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 0#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : (Scalar.cmpi .ne (Scalar.extui (Scalar.cmpi .eq (BitVec.ofNat 32 (i 0).val) 0#32)) 0#32 = 1#1))
    (h2 : k0_cond2 i n = 1#1) (h3 : k0_cond3 i e p = 1#1) (h4 : k0_cond4 i = 1#1) (h5 : ¬ k0_cond5 nx = 1#1)
    (hk : k0_chk1 i n e 0#32 p) (hk2 : k0_chk2 i n e 0#32 p nx) (he32 : e.toNat < 32)
    (hr : ∀ a, (k0_off6 e) a + S1x1024x512.size a ≤ S32x1024x512.size a)
    (hr' : ∀ a, (k0_off6 e) a + S1x512x1024.size a ≤ S32x512x1024.size a)
    (X : Vec F S4096x128 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ (∃ f, pt c scY f)
        ∗ (∃ f, pt c bufG f) ∗ (∃ f, pt c bufU f) ∗ (∃ f, pt c bufD f) ∗ semVal ((c : Thread nD τ), SemLoc.dma 4) 0 ∗ semVal ((c : Thread nD τ), SemLoc.dma 5) 0 ∗ pt c hbG wg ∗ pt c hbU wu ∗ pt c hbD wd ∗ owes (c : Thread nD τ) 0 W
        ∗ (iprop(owns (c : Thread nD τ) x fullShare X
            ∗ owns (c : Thread nD τ) y fullShare (outY (stepY lo hi X (castG wg e) (castU wu e) (castD wd e) k0_pay1))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) k0_pay1)
            ∗ (∃ f, pt c bufG f) ∗ (∃ f, pt c bufU f) ∗ (∃ f, pt c bufD f) ∗ semVal ((c : Thread nD τ), SemLoc.dma 4) 0 ∗ semVal ((c : Thread nD τ), SemLoc.dma 5) 0 ∗ pt c hbG wg ∗ pt c hbU wu ∗ pt c hbD wd ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns
  iintro ⟨⟨%fx, %hfx, Hx⟩, ⟨%d, %f, -, Hy⟩, He, Hl, Hh, Hc, Hs, Hn, ⟨%fg, Hg⟩, ⟨%fu, Hu⟩, ⟨%fd, Hd⟩, ⟨%fY, HY⟩, ⟨%bg, Hbg⟩, ⟨%bu, Hbu⟩, ⟨%bd, Hbd⟩, Hq0, Hq1, Hwg, Hwu, Hwd, HW, HK⟩
  subst hfx
  imod (Transfers.batch_alloc' (Lvl := ℕ) (countersEmb (U := Pipeline.UD sig nD τ)) (c : Thread nD τ) () amt
    (deliv c ![0, 0, 0] (by decide) (by decide) (k0_off6 e) hr hr' wg wu wd bg bu bd) (sm := SemLoc.dma 4) (E := Set.univ)) $$ Hq0 with HB0
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB0_src0_in0 Hwg]
  · isplitl [HB0_src0_in0]
    · iexact HB0_src0_in0
    · iexact Hwg
  ihave Hwu := rejoin c hbU (Memref.isWhole_whole _) _ wu $$ [HB0_src1_in1 Hwu]
  · isplitl [HB0_src1_in1]
    · iexact HB0_src1_in1
    · iexact Hwu
  ihave Hwd := rejoin c hbD (Memref.isWhole_whole _) _ wd $$ [HB0_src2_in2 Hwd]
  · isplitl [HB0_src2_in2]
    · iexact HB0_src2_in2
    · iexact Hwd
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (View.read_writes_full _ _ _ _ _))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (View.read_writes_full _ _ _ _ _)))
  isplitl [HB0_dst0]; · iexists _; iexact HB0_dst0
  isplitl [HB0_dst1]; · iexists _; iexact HB0_dst1
  isplitl [HB0_dst2]; · iexists _; iexact HB0_dst2
  isplitl [HB0]; · iexact HB0
  isplitl [Hq1]; · iexact Hq1
  isplitl [Hwg]; · iexact Hwg
  isplitl [Hwu]; · iexact Hwu
  isplitl [Hwd]; · iexact Hwd
  iexists _; iexact HW

end Cert.KernelIdeal.Hand
-- ==== Proof.RunD.lean ====
/-
  The kernel's body run once through: the points at which the expert changes.
-/
module

public import proofs.«01_k».proof.Proof.Closed
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

set_option maxHeartbeats 1000000 in
/-- A change of expert, its weights landing in the first slot, another's to be fetched into the second. -/
theorem runD0n (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 0#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : ¬ (Scalar.cmpi .ne (Scalar.extui (Scalar.cmpi .eq (BitVec.ofNat 32 (i 0).val) 0#32)) 0#32 = 1#1))
    (h2 : k0_cond2 i n = 1#1) (h3 : k0_cond3 i e p = 1#1) (h4 : ¬ k0_cond4 i = 1#1) (h5 : k0_cond5 nx = 1#1)
    (hk : k0_chk1 i n e 0#32 p) (hk2 : k0_chk2 i n e 0#32 p nx) (he32 : e.toNat < 32)
    (hr : ∀ a, (k0_off6 e) a + S1x1024x512.size a ≤ S32x1024x512.size a)
    (hr' : ∀ a, (k0_off6 e) a + S1x512x1024.size a ≤ S32x512x1024.size a)
    (hq : ∀ a, (k0_off19 nx) a + S1x1024x512.size a ≤ S32x1024x512.size a)
    (hq' : ∀ a, (k0_off19 nx) a + S1x512x1024.size a ≤ S32x512x1024.size a)
    (X : Vec F S4096x128 .f32) (Y : Vec F S512x1024 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ owns (c : Thread nD τ) scY fullShare Y
        ∗ semVal ((c : Thread nD τ), SemLoc.dma 5) 0 ∗ restW c (k0_off6 e) hr hr' wg wu wd
        ∗ (∃ bg bu bd, Transfers.Batch (countersEmb (U := Pipeline.UD sig nD τ)) (c : Thread nD τ) (SemLoc.dma 4) () amt
            (deliv c ![0, 0, 0] (by decide) (by decide) (k0_off6 e) hr hr' wg wu wd bg bu bd) 3 0) ∗ owes (c : Thread nD τ) 0 W
        ∗ (iprop(owns (c : Thread nD τ) x fullShare X
            ∗ owns (c : Thread nD τ) y fullShare (outY (stepY lo hi X (castG wg e) (castU wu e) (castD wd e) Y))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) Y)
            ∗ semVal ((c : Thread nD τ), SemLoc.dma 4) 0 ∗ restW c (k0_off19 nx) hq hq' wg wu wd
        ∗ (∃ bg bu bd, Transfers.Batch (countersEmb (U := Pipeline.UD sig nD τ)) (c : Thread nD τ) (SemLoc.dma 5) () amt
            (deliv c ![1, 0, 0] (by decide) (by decide) (k0_off19 nx) hq hq' wg wu wd bg bu bd) 3 0) ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns restW
  iintro ⟨⟨%fx, %hfx, Hx⟩, ⟨%d, %f, -, Hy⟩, He, Hl, Hh, Hc, Hs, Hn, ⟨%fg, Hg⟩, ⟨%fu, Hu⟩, ⟨%fd, Hd⟩, ⟨%fY, %hfY, HY⟩, Hq1, ⟨Hwg, Hwu, Hwd⟩, ⟨%bg, %bu, %bd, HB0⟩, HW, HK⟩
  subst hfx hfY
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB0_src0_in0 Hwg]
  · isplitl [HB0_src0_in0]
    · iexact HB0_src0_in0
    · iexact Hwg
  ihave Hwu := rejoin c hbU (Memref.isWhole_whole _) _ wu $$ [HB0_src1_in1 Hwu]
  · isplitl [HB0_src1_in1]
    · iexact HB0_src1_in1
    · iexact Hwu
  ihave Hwd := rejoin c hbD (Memref.isWhole_whole _) _ wd $$ [HB0_src2_in2 Hwd]
  · isplitl [HB0_src2_in2]
    · iexact HB0_src2_in2
    · iexact Hwd
  imod (Transfers.batch_alloc' (Lvl := ℕ) (countersEmb (U := Pipeline.UD sig nD τ)) (c : Thread nD τ) () amt
    (deliv c ![1, 0, 0] (by decide) (by decide) (k0_off19 nx) hq hq' wg wu wd
      (landG c hbG (k0_off6 e) hr bufG ![0, 0, 0] (by decide) wg bg) (landG c hbU (k0_off6 e) hr bufU ![0, 0, 0] (by decide) wu bu)
      (landD c hbD (k0_off6 e) hr' bufD ![0, 0, 0] (by decide) wd bd)) (sm := SemLoc.dma 5) (E := Set.univ)) $$ Hq1 with HB1
  unfold deliv
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl)))
  isplitl [HB0]; · iexact HB0
  isplitl [Hwg Hwu Hwd]
  · isplitl [Hwg]; · iexact Hwg
    isplitl [Hwu]; · iexact Hwu
    iexact Hwd
  isplitl [HB1]
  · iexists _, _, _; iexact HB1
  iexists _; iexact HW

set_option maxHeartbeats 1000000 in
/-- A change to the last expert, its weights landing in the first slot. -/
theorem runD0l (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 0#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : ¬ (Scalar.cmpi .ne (Scalar.extui (Scalar.cmpi .eq (BitVec.ofNat 32 (i 0).val) 0#32)) 0#32 = 1#1))
    (h2 : k0_cond2 i n = 1#1) (h3 : k0_cond3 i e p = 1#1) (h4 : ¬ k0_cond4 i = 1#1) (h5 : ¬ k0_cond5 nx = 1#1)
    (hk : k0_chk1 i n e 0#32 p) (hk2 : k0_chk2 i n e 0#32 p nx) (he32 : e.toNat < 32)
    (hr : ∀ a, (k0_off6 e) a + S1x1024x512.size a ≤ S32x1024x512.size a)
    (hr' : ∀ a, (k0_off6 e) a + S1x512x1024.size a ≤ S32x512x1024.size a)
    (X : Vec F S4096x128 .f32) (Y : Vec F S512x1024 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ owns (c : Thread nD τ) scY fullShare Y
        ∗ semVal ((c : Thread nD τ), SemLoc.dma 5) 0 ∗ restW c (k0_off6 e) hr hr' wg wu wd
        ∗ (∃ bg bu bd, Transfers.Batch (countersEmb (U := Pipeline.UD sig nD τ)) (c : Thread nD τ) (SemLoc.dma 4) () amt
            (deliv c ![0, 0, 0] (by decide) (by decide) (k0_off6 e) hr hr' wg wu wd bg bu bd) 3 0) ∗ owes (c : Thread nD τ) 0 W
        ∗ (iprop(owns (c : Thread nD τ) x fullShare X
            ∗ owns (c : Thread nD τ) y fullShare (outY (stepY lo hi X (castG wg e) (castU wu e) (castD wd e) Y))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) Y)
            ∗ (∃ f, pt c bufG f) ∗ (∃ f, pt c bufU f) ∗ (∃ f, pt c bufD f) ∗ semVal ((c : Thread nD τ), SemLoc.dma 4) 0 ∗ semVal ((c : Thread nD τ), SemLoc.dma 5) 0 ∗ pt c hbG wg ∗ pt c hbU wu ∗ pt c hbD wd ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns restW
  iintro ⟨⟨%fx, %hfx, Hx⟩, ⟨%d, %f, -, Hy⟩, He, Hl, Hh, Hc, Hs, Hn, ⟨%fg, Hg⟩, ⟨%fu, Hu⟩, ⟨%fd, Hd⟩, ⟨%fY, %hfY, HY⟩, Hq1, ⟨Hwg, Hwu, Hwd⟩, ⟨%bg, %bu, %bd, HB0⟩, HW, HK⟩
  subst hfx hfY
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB0_src0_in0 Hwg]
  · isplitl [HB0_src0_in0]
    · iexact HB0_src0_in0
    · iexact Hwg
  ihave Hwu := rejoin c hbU (Memref.isWhole_whole _) _ wu $$ [HB0_src1_in1 Hwu]
  · isplitl [HB0_src1_in1]
    · iexact HB0_src1_in1
    · iexact Hwu
  ihave Hwd := rejoin c hbD (Memref.isWhole_whole _) _ wd $$ [HB0_src2_in2 Hwd]
  · isplitl [HB0_src2_in2]
    · iexact HB0_src2_in2
    · iexact Hwd
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl)))
  isplitl [HB0_dst0]; · iexists _; iexact HB0_dst0
  isplitl [HB0_dst1]; · iexists _; iexact HB0_dst1
  isplitl [HB0_dst2]; · iexists _; iexact HB0_dst2
  isplitl [HB0]; · iexact HB0
  isplitl [Hq1]; · iexact Hq1
  isplitl [Hwg]; · iexact Hwg
  isplitl [Hwu]; · iexact Hwu
  isplitl [Hwd]; · iexact Hwd
  iexists _; iexact HW

set_option maxHeartbeats 1000000 in
/-- A change of expert, its weights landing in the second slot, another's to be fetched into the first. -/
theorem runD1n (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 1#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : ¬ (Scalar.cmpi .ne (Scalar.extui (Scalar.cmpi .eq (BitVec.ofNat 32 (i 0).val) 0#32)) 0#32 = 1#1))
    (h2 : k0_cond2 i n = 1#1) (h3 : k0_cond3 i e p = 1#1) (h4 : ¬ k0_cond4 i = 1#1) (h5 : k0_cond5 nx = 1#1)
    (hk : k0_chk1 i n e 1#32 p) (hk2 : k0_chk2 i n e 1#32 p nx) (he32 : e.toNat < 32)
    (hr : ∀ a, (k0_off6 e) a + S1x1024x512.size a ≤ S32x1024x512.size a)
    (hr' : ∀ a, (k0_off6 e) a + S1x512x1024.size a ≤ S32x512x1024.size a)
    (hq : ∀ a, (k0_off19 nx) a + S1x1024x512.size a ≤ S32x1024x512.size a)
    (hq' : ∀ a, (k0_off19 nx) a + S1x512x1024.size a ≤ S32x512x1024.size a)
    (X : Vec F S4096x128 .f32) (Y : Vec F S512x1024 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ owns (c : Thread nD τ) scY fullShare Y
        ∗ semVal ((c : Thread nD τ), SemLoc.dma 4) 0 ∗ restW c (k0_off6 e) hr hr' wg wu wd
        ∗ (∃ bg bu bd, Transfers.Batch (countersEmb (U := Pipeline.UD sig nD τ)) (c : Thread nD τ) (SemLoc.dma 5) () amt
            (deliv c ![1, 0, 0] (by decide) (by decide) (k0_off6 e) hr hr' wg wu wd bg bu bd) 3 0) ∗ owes (c : Thread nD τ) 0 W
        ∗ (iprop(owns (c : Thread nD τ) x fullShare X
            ∗ owns (c : Thread nD τ) y fullShare (outY (stepY lo hi X (castG wg e) (castU wu e) (castD wd e) Y))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) Y)
            ∗ semVal ((c : Thread nD τ), SemLoc.dma 5) 0 ∗ restW c (k0_off19 nx) hq hq' wg wu wd
        ∗ (∃ bg bu bd, Transfers.Batch (countersEmb (U := Pipeline.UD sig nD τ)) (c : Thread nD τ) (SemLoc.dma 4) () amt
            (deliv c ![0, 0, 0] (by decide) (by decide) (k0_off19 nx) hq hq' wg wu wd bg bu bd) 3 0) ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns restW
  iintro ⟨⟨%fx, %hfx, Hx⟩, ⟨%d, %f, -, Hy⟩, He, Hl, Hh, Hc, Hs, Hn, ⟨%fg, Hg⟩, ⟨%fu, Hu⟩, ⟨%fd, Hd⟩, ⟨%fY, %hfY, HY⟩, Hq0, ⟨Hwg, Hwu, Hwd⟩, ⟨%bg, %bu, %bd, HB1⟩, HW, HK⟩
  subst hfx hfY
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB1_src0_in0 Hwg]
  · isplitl [HB1_src0_in0]
    · iexact HB1_src0_in0
    · iexact Hwg
  ihave Hwu := rejoin c hbU (Memref.isWhole_whole _) _ wu $$ [HB1_src1_in1 Hwu]
  · isplitl [HB1_src1_in1]
    · iexact HB1_src1_in1
    · iexact Hwu
  ihave Hwd := rejoin c hbD (Memref.isWhole_whole _) _ wd $$ [HB1_src2_in2 Hwd]
  · isplitl [HB1_src2_in2]
    · iexact HB1_src2_in2
    · iexact Hwd
  imod (Transfers.batch_alloc' (Lvl := ℕ) (countersEmb (U := Pipeline.UD sig nD τ)) (c : Thread nD τ) () amt
    (deliv c ![0, 0, 0] (by decide) (by decide) (k0_off19 nx) hq hq' wg wu wd
      (landG c hbG (k0_off6 e) hr bufG ![1, 0, 0] (by decide) wg bg) (landG c hbU (k0_off6 e) hr bufU ![1, 0, 0] (by decide) wu bu)
      (landD c hbD (k0_off6 e) hr' bufD ![1, 0, 0] (by decide) wd bd)) (sm := SemLoc.dma 4) (E := Set.univ)) $$ Hq0 with HB0
  unfold deliv
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl)))
  isplitl [HB1]; · iexact HB1
  isplitl [Hwg Hwu Hwd]
  · isplitl [Hwg]; · iexact Hwg
    isplitl [Hwu]; · iexact Hwu
    iexact Hwd
  isplitl [HB0]
  · iexists _, _, _; iexact HB0
  iexists _; iexact HW

set_option maxHeartbeats 1000000 in
/-- A change to the last expert, its weights landing in the second slot. -/
theorem runD1l (c : Dev nD) (i : grid0.Coords) (x : Memref sig .tc .vmem S4096x128 .f32) (hx : x.IsWhole)
    (y : Memref sig .tc .vmem S4096x128 .f32) (hy : y.IsWhole)
    (fe : BufOf (F := F) c tExp) (fl : BufOf (F := F) c tLo) (fh : BufOf (F := F) c tHi) (fc : BufOf (F := F) c tCnt)
    (fs : BufOf (F := F) c tSlot) (fn : BufOf (F := F) c tNext) (n e p nx lo hi : BitVec 32)
    (hn : n = word c tCnt fc ![0] S1.size inb_S1_S1_0 numel1_S1)
    (he : e = word c tExp fe (k0_off2 i) S1.size (k0_off2_inb i) numel1_S1)
    (hs : 1#32 = word c tSlot fs (k0_off2 i) S1.size (k0_off2_inb i) numel1_S1)
    (hp : p = word c tExp fe (k0_off3 i) S1.size (k0_off3_inb i) numel1_S1)
    (hnx : nx = word c tNext fn (k0_off16 i) S1.size (k0_off16_inb i) numel1_S1)
    (hlo : lo = word c tLo fl (k0_off22 i) S1.size (k0_off22_inb i) numel1_S1)
    (hhi : hi = word c tHi fh (k0_off22 i) S1.size (k0_off22_inb i) numel1_S1)
    (hz : ¬ (Scalar.cmpi .ne (Scalar.extui (Scalar.cmpi .eq (BitVec.ofNat 32 (i 0).val) 0#32)) 0#32 = 1#1))
    (h2 : k0_cond2 i n = 1#1) (h3 : k0_cond3 i e p = 1#1) (h4 : ¬ k0_cond4 i = 1#1) (h5 : ¬ k0_cond5 nx = 1#1)
    (hk : k0_chk1 i n e 1#32 p) (hk2 : k0_chk2 i n e 1#32 p nx) (he32 : e.toNat < 32)
    (hr : ∀ a, (k0_off6 e) a + S1x1024x512.size a ≤ S32x1024x512.size a)
    (hr' : ∀ a, (k0_off6 e) a + S1x512x1024.size a ≤ S32x512x1024.size a)
    (X : Vec F S4096x128 .f32) (Y : Vec F S512x1024 .f32)
    (wg : BufOf (F := F) c hbG) (wu : BufOf (F := F) c hbU) (wd : BufOf (F := F) c hbD)
    (W : Waits sig Unit) (K : PUnit → sProp 𝕄) :
    iprop(owns (c : Thread nD τ) x fullShare X ∗ (∃ d, owns (c : Thread nD τ) y fullShare d)
        ∗ tpt c tExp fe ∗ tpt c tLo fl ∗ tpt c tHi fh ∗ tpt c tCnt fc ∗ tpt c tSlot fs ∗ tpt c tNext fn
        ∗ (∃ f, pt c scG f) ∗ (∃ f, pt c scU f) ∗ (∃ f, pt c scD f) ∗ owns (c : Thread nD τ) scY fullShare Y
        ∗ semVal ((c : Thread nD τ), SemLoc.dma 4) 0 ∗ restW c (k0_off6 e) hr hr' wg wu wd
        ∗ (∃ bg bu bd, Transfers.Batch (countersEmb (U := Pipeline.UD sig nD τ)) (c : Thread nD τ) (SemLoc.dma 5) () amt
            (deliv c ![1, 0, 0] (by decide) (by decide) (k0_off6 e) hr hr' wg wu wd bg bu bd) 3 0) ∗ owes (c : Thread nD τ) 0 W
        ∗ (iprop(owns (c : Thread nD τ) x fullShare X
            ∗ owns (c : Thread nD τ) y fullShare (outY (stepY lo hi X (castG wg e) (castU wu e) (castD wd e) Y))
            ∗ tpt c tExp fe ∗ tpt c tLo fl ∗ tpt c tHi fh ∗ tpt c tCnt fc ∗ tpt c tSlot fs ∗ tpt c tNext fn
            ∗ owns (c : Thread nD τ) scG fullShare (castG wg e) ∗ owns (c : Thread nD τ) scU fullShare (castU wu e)
            ∗ owns (c : Thread nD τ) scD fullShare (castD wd e)
            ∗ owns (c : Thread nD τ) scY fullShare (stepY lo hi X (castG wg e) (castU wu e) (castD wd e) Y)
            ∗ (∃ f, pt c bufG f) ∗ (∃ f, pt c bufU f) ∗ (∃ f, pt c bufD f) ∗ semVal ((c : Thread nD τ), SemLoc.dma 4) 0 ∗ semVal ((c : Thread nD τ), SemLoc.dma 5) 0 ∗ pt c hbG wg ∗ pt c hbU wu ∗ pt c hbD wd ∗ ∃ W', owes (c : Thread nD τ) 0 W') -∗ K ⟨⟩))
      ⊢ wp frame (wpE (defs₀ (F := F)) Variants.none c none) Set.univ (bodyAt i x hx y hy) K := by
  simp only [bodyAt, cc0_moe_grouped_ffn_eq_skeleton]; unfold cc0_moe_grouped_ffn_skel
  unfold owns restW
  iintro ⟨⟨%fx, %hfx, Hx⟩, ⟨%d, %f, -, Hy⟩, He, Hl, Hh, Hc, Hs, Hn, ⟨%fg, Hg⟩, ⟨%fu, Hu⟩, ⟨%fd, Hd⟩, ⟨%fY, %hfY, HY⟩, Hq0, ⟨Hwg, Hwu, Hwd⟩, ⟨%bg, %bu, %bd, HB1⟩, HW, HK⟩
  subst hfx hfY
  unfold deliv
  sl_exec
  iapply (wp_tbl c hn) $$ Hc; iintro Hc
  sl_exec
  iapply (wp_tbl c he) $$ He; iintro He
  sl_exec
  iapply (wp_tbl c hs) $$ Hs; iintro Hs
  sl_exec
  iapply (wp_tbl c hp) $$ He; iintro He
  sl_exec
  ihave Hwg := rejoin c hbG (Memref.isWhole_whole _) _ wg $$ [HB1_src0_in0 Hwg]
  · isplitl [HB1_src0_in0]
    · iexact HB1_src0_in0
    · iexact Hwg
  ihave Hwu := rejoin c hbU (Memref.isWhole_whole _) _ wu $$ [HB1_src1_in1 Hwu]
  · isplitl [HB1_src1_in1]
    · iexact HB1_src1_in1
    · iexact Hwu
  ihave Hwd := rejoin c hbD (Memref.isWhole_whole _) _ wd $$ [HB1_src2_in2 Hwd]
  · isplitl [HB1_src2_in2]
    · iexact HB1_src2_in2
    · iexact Hwd
  iapply (wp_tbl c hnx) $$ Hn; iintro Hn
  sl_exec
  iapply (wp_tbl c hlo) $$ Hl; iintro Hl
  sl_exec
  iapply (wp_tbl c hhi) $$ Hh; iintro Hh
  sl_exec
  sl_step
  iapply HK
  isplitl [Hx]
  · iexists fx; isplitr; · ipureintro; rfl
    iexact Hx
  isplitl [Hy]
  · iexists _; isplitr; rotate_left; · iexact Hy
    ipureintro
    sl_open_run
    exact (read_y c y f _).trans (congrArg outY ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl))))
  isplitl [He]; · iexact He
  isplitl [Hl]; · iexact Hl
  isplitl [Hh]; · iexact Hh
  isplitl [Hc]; · iexact Hc
  isplitl [Hs]; · iexact Hs
  isplitl [Hn]; · iexact Hn
  isplitl [Hg]
  · iexists _; isplitr; rotate_left; · iexact Hg
    ipureintro
    sl_open_run
    exact ((View.read_writes_full _ _ _ _ _).trans (congrArg k0_pay4 ((ld_landG c hbG bufG _ _ hr _ wg bg).trans (ld_rowG c e he32 hr wg))))
  isplitl [Hu]
  · iexists _; isplitr; rotate_left; · iexact Hu
    ipureintro
    sl_open_run
    exact ((View.read_writes_full _ _ _ _ _).trans (congrArg (fun z => k0_pay6 (k0_pay5 z)) ((ld_landG c hbU bufU _ _ hr _ wu bu).trans (ld_rowU c e he32 hr wu))))
  isplitl [Hd]
  · iexists _; isplitr; rotate_left; · iexact Hd
    ipureintro
    sl_open_run
    exact ((View.read_writes_full _ _ _ _ _).trans (congrArg k0_pay7 ((ld_landD c hbD bufD _ _ hr' _ wd bd).trans (ld_rowD c e he32 hr' wd))))
  isplitl [HY]
  · iexists _; isplitr; rotate_left; · iexact HY
    ipureintro
    sl_open_run
    exact (ld_scY _).symm.trans ((ld_masked _ _ _).trans (stepY_of
      ((View.readCov_full _ _ _ _ _).trans (congrArg k0_pay4 ((ld_landG c hbG bufG _ _ hr _ wg bg).trans (ld_rowG c e he32 hr wg))))
      ((View.readCov_full _ _ _ _ _).trans (congrArg (fun z => k0_pay6 (k0_pay5 z)) ((ld_landG c hbU bufU _ _ hr _ wu bu).trans (ld_rowU c e he32 hr wu))))
      ((View.readCov_full _ _ _ _ _).trans (congrArg k0_pay7 ((ld_landD c hbD bufD _ _ hr' _ wd bd).trans (ld_rowD c e he32 hr' wd))))
      (rfl)))
  isplitl [HB1_dst0]; · iexists _; iexact HB1_dst0
  isplitl [HB1_dst1]; · iexists _; iexact HB1_dst1
  isplitl [HB1_dst2]; · iexists _; iexact HB1_dst2
  isplitl [Hq0]; · iexact Hq0
  isplitl [HB1]; · iexact HB1
  isplitl [Hwg]; · iexact Hwg
  isplitl [Hwu]; · iexact Hwu
  isplitl [Hwd]; · iexact Hwd
  iexists _; iexact HW

end Cert.KernelIdeal.Hand
-- ==== Proof.Sched.lean ====
/-
  The schedule the seven tables spell, as the kernel's body uses it, and what it makes of the body's conditions.
-/
module

public import proofs.«01_k».proof.Proof.Common
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The seven tables' contents. -/
abbrev Tabs (F : FTy → Type) [FloatOps F] : Type := pre0.Contents (Elt F)

/-- Entry `t` of a table of one word for each grid point. -/
abbrev at159 (t : ℕ) : S159.Idx := ix1 ⟨t % 159, Nat.mod_lt _ (by decide)⟩

def wE (pf : Tabs F) (t : ℕ) : BitVec 32 := (show S159.Idx → BitVec 32 from pf 0) (at159 t)
def wT (pf : Tabs F) (t : ℕ) : BitVec 32 := (show S159.Idx → BitVec 32 from pf 1) (at159 t)
def wL (pf : Tabs F) (t : ℕ) : BitVec 32 := (show S159.Idx → BitVec 32 from pf 2) (at159 t)
def wH (pf : Tabs F) (t : ℕ) : BitVec 32 := (show S159.Idx → BitVec 32 from pf 3) (at159 t)
def wC (pf : Tabs F) : BitVec 32 := (show S1.Idx → BitVec 32 from pf 4) (ix1 0)
def wN (pf : Tabs F) (t : ℕ) : BitVec 32 := (show S159.Idx → BitVec 32 from pf 5) (at159 t)
def wS (pf : Tabs F) (t : ℕ) : BitVec 32 := (show S159.Idx → BitVec 32 from pf 6) (at159 t)

/-- What the body needs of the tables: how many items there are; every expert's and tile's number in range; and, from one
    item to the next, either the expert stays (and with it the slot and the next expert), or it is the one that was announced
    and its slot is the other one. -/
structure Sched (pf : Tabs F) : Prop where
  n_pos : 1 ≤ (wC pf).toNat
  n_le : (wC pf).toNat ≤ 159
  exp_lt : ∀ t, t < 159 → (wE pf t).toNat < 32
  tile_lt : ∀ t, t < 159 → (wT pf t).toNat < 128
  slot0 : wS pf 0 = 0#32
  slot : ∀ t, t < (wC pf).toNat → wS pf t = 0#32 ∨ wS pf t = 1#32
  next : ∀ t, t < (wC pf).toNat → wN pf t = (-1 : BitVec 32) ∨ (wN pf t).toNat < 32
  step : ∀ t, t + 1 < (wC pf).toNat →
    (wE pf (t + 1) = wE pf t ∧ wN pf (t + 1) = wN pf t ∧ wS pf (t + 1) = wS pf t) ∨
    (wE pf (t + 1) ≠ wE pf t ∧ wN pf t = wE pf (t + 1) ∧ wS pf (t + 1) = 1#32 - wS pf t)
  last : wN pf ((wC pf).toNat - 1) = (-1 : BitVec 32)
  tail : ∀ t, t < 159 → (wC pf).toNat ≤ t + 1 → wT pf t = wT pf ((wC pf).toNat - 1)

theorem ofNat_toNat (i : grid0.Coords) : (BitVec.ofNat 32 (i 0).val).toNat = (i 0).val := by
  have h : (i 0).val < 159 := (i 0).isLt
  simp only [BitVec.toNat_ofNat]; omega

theorem off2_eq (i : grid0.Coords) : k0_off2 i = ![(i 0).val] := by
  unfold k0_off2; simp only [Scalar.indexCast]
  have h : (i 0).val < 159 := (i 0).isLt
  word_omega
theorem off16_eq (i : grid0.Coords) : k0_off16 i = ![(i 0).val] := off2_eq i
theorem off22_eq (i : grid0.Coords) : k0_off22 i = ![(i 0).val] := off2_eq i
theorem off1_eq (i : grid0.Coords) : k0_off1 i = ![(i 0).val] := off2_eq i

theorem word_exp (c : Dev nD) (pf : Tabs F) (off : Fin 1 → ℕ) (t : ℕ) (ht : t < 159) (ho : off = ![t]) (h : ∀ a, off a + S1.size a ≤ S159.size a) :
    wE pf t = word c tExp (pf 0) off S1.size h numel1_S1 := by
  subst ho
  unfold wE
  refine congrArg (pf 0) ?_
  funext a
  exact Fin.ext (by rw [Fin.fin_one_eq_zero a]; exact Nat.mod_eq_of_lt ht)
theorem word_lo (c : Dev nD) (pf : Tabs F) (off : Fin 1 → ℕ) (t : ℕ) (ht : t < 159) (ho : off = ![t]) (h : ∀ a, off a + S1.size a ≤ S159.size a) :
    wL pf t = word c tLo (pf 2) off S1.size h numel1_S1 := by
  subst ho
  unfold wL
  refine congrArg (pf 2) ?_
  funext a
  exact Fin.ext (by rw [Fin.fin_one_eq_zero a]; exact Nat.mod_eq_of_lt ht)
theorem word_hi (c : Dev nD) (pf : Tabs F) (off : Fin 1 → ℕ) (t : ℕ) (ht : t < 159) (ho : off = ![t]) (h : ∀ a, off a + S1.size a ≤ S159.size a) :
    wH pf t = word c tHi (pf 3) off S1.size h numel1_S1 := by
  subst ho
  unfold wH
  refine congrArg (pf 3) ?_
  funext a
  exact Fin.ext (by rw [Fin.fin_one_eq_zero a]; exact Nat.mod_eq_of_lt ht)
theorem word_next (c : Dev nD) (pf : Tabs F) (off : Fin 1 → ℕ) (t : ℕ) (ht : t < 159) (ho : off = ![t]) (h : ∀ a, off a + S1.size a ≤ S159.size a) :
    wN pf t = word c tNext (pf 5) off S1.size h numel1_S1 := by
  subst ho
  unfold wN
  refine congrArg (pf 5) ?_
  funext a
  exact Fin.ext (by rw [Fin.fin_one_eq_zero a]; exact Nat.mod_eq_of_lt ht)
theorem word_slot (c : Dev nD) (pf : Tabs F) (off : Fin 1 → ℕ) (t : ℕ) (ht : t < 159) (ho : off = ![t]) (h : ∀ a, off a + S1.size a ≤ S159.size a) :
    wS pf t = word c tSlot (pf 6) off S1.size h numel1_S1 := by
  subst ho
  unfold wS
  refine congrArg (pf 6) ?_
  funext a
  exact Fin.ext (by rw [Fin.fin_one_eq_zero a]; exact Nat.mod_eq_of_lt ht)
theorem word_cnt (c : Dev nD) (pf : Tabs F) : wC pf = word c tCnt (pf 4) ![0] S1.size inb_S1_S1_0 numel1_S1 := by
  unfold wC
  refine congrArg (pf 4) ?_
  funext a
  exact Fin.ext (by rw [Fin.fin_one_eq_zero a]; rfl)

theorem cond2_iff (i : grid0.Coords) (v : BitVec 32) (hv : v.toNat ≤ 159) : k0_cond2 i v = 1#1 ↔ (i 0).val < v.toNat := by
  unfold k0_cond2
  have h : (i 0).val < 159 := (i 0).isLt
  word_omega
theorem cond4_iff (i : grid0.Coords) : k0_cond4 i = 1#1 ↔ (i 0).val = 0 := by
  unfold k0_cond4
  have h : (i 0).val < 159 := (i 0).isLt
  word_omega
theorem cond3_iff (i : grid0.Coords) (e p : BitVec 32) : k0_cond3 i e p = 1#1 ↔ ((i 0).val = 0 ∨ e ≠ p) := by
  unfold k0_cond3
  have h : (i 0).val < 159 := (i 0).isLt
  word_omega
theorem cond5_iff (v : BitVec 32) : k0_cond5 v = 1#1 ↔ 0 ≤ v.toInt := by
  unfold k0_cond5
  word_omega
theorem off3_word (w : BitVec 32) (hw : w.toNat < 159) :
    (Scalar.indexCast (Scalar.maxsi (Scalar.subi w 1#32) 0#32) : Index).toNat = w.toNat - 1 := by
  show (if (0#32 : BitVec 32).slt (w - 1#32) then w - 1#32 else 0#32).toNat = w.toNat - 1
  by_cases h0 : w.toNat = 0
  · have : w = 0#32 := BitVec.eq_of_toNat_eq h0
    subst this; decide
  · have e : (w - 1#32).toNat = w.toNat - 1 := by rw [BitVec.toNat_sub]; simp; omega
    have e' : (w - 1#32).toInt = ((w.toNat - 1 : ℕ) : ℤ) := by rw [BitVec.toInt_eq_toNat_cond, e, if_pos (by omega)]
    have z : (0#32 : BitVec 32).toInt = 0 := by decide
    simp only [BitVec.slt_eq_decide, decide_eq_true_eq, e', z]
    split
    · exact e
    · have : w.toNat - 1 = 0 := by omega
      rw [this]; rfl
theorem off3_eq (i : grid0.Coords) : k0_off3 i = ![(i 0).val - 1] := by
  have h : (i 0).val < 159 := (i 0).isLt
  have e := off3_word (BitVec.ofNat 32 (i 0).val) (by rw [ofNat_toNat]; exact h)
  rw [ofNat_toNat] at e
  unfold k0_off3
  exact congrArg (fun n => ![n]) e

theorem hz_iff (i : grid0.Coords) :
    (Scalar.cmpi .ne (Scalar.extui (Scalar.cmpi .eq (BitVec.ofNat 32 (i 0).val) 0#32)) 0#32 = 1#1) ↔ (i 0).val = 0 :=
  cond4_iff i

theorem inb1 (k : ℕ) (hk : k < 2) : ∀ a, (![k] : Fin 1 → ℕ) a + S1.size a ≤ S2.size a := by
  intro a; rw [Fin.fin_one_eq_zero a]; simp; omega
theorem inbG (k : ℕ) (hk : k < 2) : ∀ a, (![k, 0, 0] : Fin 3 → ℕ) a + S1x1024x512.size a ≤ S2x1024x512.size a := by
  intro a; fin_cases a <;> simp <;> omega
theorem inbD (k : ℕ) (hk : k < 2) : ∀ a, (![k, 0, 0] : Fin 3 → ℕ) a + S1x512x1024.size a ≤ S2x512x1024.size a := by
  intro a; fin_cases a <;> simp <;> omega
theorem inbWG (k : ℕ) (hk : k < 32) : ∀ a, (![k, 0, 0] : Fin 3 → ℕ) a + S1x1024x512.size a ≤ S32x1024x512.size a := by
  intro a; fin_cases a <;> simp <;> omega
theorem inbWD (k : ℕ) (hk : k < 32) : ∀ a, (![k, 0, 0] : Fin 3 → ℕ) a + S1x512x1024.size a ≤ S32x512x1024.size a := by
  intro a; fin_cases a <;> simp <;> omega

theorem chk1_of (i : grid0.Coords) (n e s p : BitVec 32) (he : e.toNat < 32) (hs : s = 0#32 ∨ s = 1#32) : k0_chk1 i n e s p := by
  have h : s.toNat < 2 := by rcases hs with h | h <;> subst h <;> decide
  exact ⟨fun _ _ _ => inb1 _ h, fun _ _ _ => inbG _ h, fun _ _ _ => inbWG _ he, fun _ _ _ => inbD _ h, fun _ _ _ => inbWD _ he,
    fun _ _ => inb1 _ h, fun _ _ => inbG _ h, fun _ _ => inbWG _ he, fun _ _ => inbD _ h, fun _ _ => inbWD _ he,
    fun _ _ => inbG _ h, fun _ _ => inbD _ h⟩
theorem chk2_of (i : grid0.Coords) (n e s p nx : BitVec 32) (hnx : k0_cond5 nx = 1#1 → nx.toNat < 32) (hs : s = 0#32 ∨ s = 1#32) :
    k0_chk2 i n e s p nx := by
  have h : (Scalar.subi 1#32 s).toNat < 2 := by rcases hs with h | h <;> subst h <;> decide
  exact ⟨fun _ _ _ => inb1 _ h, fun _ _ _ => inbG _ h, fun _ _ h5 => inbWG _ (hnx h5), fun _ _ _ => inbD _ h, fun _ _ h5 => inbWD _ (hnx h5)⟩

theorem cond5_of_lt (v : BitVec 32) (h : v.toNat < 32) : k0_cond5 v = 1#1 := by
  rw [cond5_iff, BitVec.toInt_eq_toNat_cond]; split <;> omega
theorem cond5_neg : ¬ k0_cond5 (-1 : BitVec 32) = 1#1 := by decide

end Cert.KernelIdeal.Hand
-- ==== Proof.Inv.lean ====
/-
  What the kernel's scratch memory holds between two grid points, and that the body takes it from each point to the next.
-/
module

public import proofs.«01_k».proof.Proof.RunA
public import proofs.«01_k».proof.Proof.RunD
public import proofs.«01_k».proof.Proof.Sched
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Invariant

/-- The accumulated tile after `t` grid points, from the tables and the blocks of rows at the points. -/
def Yacc (pf : Tabs F) (X : ℕ → Vec F S4096x128 .f32) (wg wu : Vec F S32x1024x512 .f32) (wd : Vec F S32x512x1024 .f32) : ℕ → Vec F S512x1024 .f32
  | 0 => k0_pay1
  | t + 1 => if t < (wC pf).toNat then
      stepY (wL pf t) (wH pf t) (X t) (castG wg (wE pf t)) (castU wu (wE pf t)) (castD wd (wE pf t)) (Yacc pf X wg wu wd t)
    else Yacc pf X wg wu wd t

/-- The seven tables, as the body holds them. -/
def tabs (c : Dev nD) (pf : Tabs F) : sProp 𝕄 :=
  iprop(tpt c tExp (pf 0) ∗ tpt c tTile (pf 1) ∗ tpt c tLo (pf 2) ∗ tpt c tHi (pf 3) ∗ tpt c tCnt (pf 4) ∗ tpt c tNext (pf 5) ∗ tpt c tSlot (pf 6))

/-- No copy under way. -/
def flW (c : Dev nD) (wg : BufOf (F := F) c hbG) (wu : BufOf (F := F) c hbU) (wd : BufOf (F := F) c hbD) : sProp 𝕄 :=
  iprop((∃ f, pt c bufG f) ∗ (∃ f, pt c bufU f) ∗ (∃ f, pt c bufD f) ∗ semVal ((c : Thread nD τ), SemLoc.dma 4) 0
    ∗ semVal ((c : Thread nD τ), SemLoc.dma 5) 0 ∗ pt c hbG wg ∗ pt c hbU wu ∗ pt c hbD wd)
/-- Expert `nx`'s weights on their way into slot 1. -/
def fl0 (c : Dev nD) (nx : BitVec 32) (h : nx.toNat < 32) (wg : BufOf (F := F) c hbG) (wu : BufOf (F := F) c hbU) (wd : BufOf (F := F) c hbD) : sProp 𝕄 :=
  iprop(semVal ((c : Thread nD τ), SemLoc.dma 4) 0 ∗ restW c (k0_off19 nx) (inbWG _ h) (inbWD _ h) wg wu wd
        ∗ (∃ bg bu bd, Transfers.Batch (countersEmb (U := Pipeline.UD sig nD τ)) (c : Thread nD τ) (SemLoc.dma 5) () amt
            (deliv c ![1, 0, 0] (by decide) (by decide) (k0_off19 nx) (inbWG _ h) (inbWD _ h) wg wu wd bg bu bd) 3 0))
/-- Expert `nx`'s weights on their way into slot 0. -/
def fl1 (c : Dev nD) (nx : BitVec 32) (h : nx.toNat < 32) (wg : BufOf (F := F) c hbG) (wu : BufOf (F := F) c hbU) (wd : BufOf (F := F) c hbD) : sProp 𝕄 :=
  iprop(semVal ((c : Thread nD τ), SemLoc.dma 5) 0 ∗ restW c (k0_off19 nx) (inbWG _ h) (inbWD _ h) wg wu wd
        ∗ (∃ bg bu bd, Transfers.Batch (countersEmb (U := Pipeline.UD sig nD τ)) (c : Thread nD τ) (SemLoc.dma 4) () amt
            (deliv c ![0, 0, 0] (by decide) (by decide) (k0_off19 nx) (inbWG _ h) (inbWD _ h) wg wu wd bg bu bd) 3 0))
/-- What is under way while slot `s` is in use and expert `nx` is next. -/
def flight (c : Dev nD) (s nx : BitVec 32) (wg : BufOf (F := F) c hbG) (wu : BufOf (F := F) c hbU) (wd : BufOf (F := F) c hbD) : sProp 𝕄 :=
  if h : nx.toNat < 32 then (if s = 0#32 then fl0 c nx h wg wu wd else fl1 c nx h wg wu wd) else flW c wg wu wd

theorem flight_none (c : Dev nD) (s : BitVec 32) (wg : BufOf (F := F) c hbG) (wu : BufOf (F := F) c hbU) (wd : BufOf (F := F) c hbD) :
    flight c s (-1 : BitVec 32) wg wu wd = flW c wg wu wd := dif_neg (by decide)
theorem flight_0 (c : Dev nD) (nx : BitVec 32) (h : nx.toNat < 32) (wg : BufOf (F := F) c hbG) (wu : BufOf (F := F) c hbU) (wd : BufOf (F := F) c hbD) :
    flight c 0#32 nx wg wu wd = fl0 c nx h wg wu wd := by unfold flight; rw [dif_pos h, if_pos rfl]
theorem flight_1 (c : Dev nD) (nx : BitVec 32) (h : nx.toNat < 32) (wg : BufOf (F := F) c hbG) (wu : BufOf (F := F) c hbU) (wd : BufOf (F := F) c hbD) :
    flight c 1#32 nx wg wu wd = fl1 c nx h wg wu wd := by unfold flight; rw [dif_pos h, if_neg (by decide)]

/-- Before the first point: the scratch buffers at anything. -/
def start (c : Dev nD) (wg : BufOf (F := F) c hbG) (wu : BufOf (F := F) c hbU) (wd : BufOf (F := F) c hbD) : sProp 𝕄 :=
  iprop((∃ f, pt c scG f) ∗ (∃ f, pt c scU f) ∗ (∃ f, pt c scD f) ∗ (∃ f, pt c scY f) ∗ flW c wg wu wd)
/-- After item `k`, with the accumulated tile at `Y`. -/
def live (c : Dev nD) (pf : Tabs F) (k : ℕ) (Y : Vec F S512x1024 .f32) (wg : BufOf (F := F) c hbG) (wu : BufOf (F := F) c hbU) (wd : BufOf (F := F) c hbD) : sProp 𝕄 :=
  iprop(owns (c : Thread nD τ) scG fullShare (castG wg (wE pf k)) ∗ owns (c : Thread nD τ) scU fullShare (castU wu (wE pf k))
    ∗ owns (c : Thread nD τ) scD fullShare (castD wd (wE pf k)) ∗ owns (c : Thread nD τ) scY fullShare Y
    ∗ flight c (wS pf k) (wN pf k) wg wu wd)
/-- What holds between the points. -/
def inv (c : Dev nD) (pf : Tabs F) (X : ℕ → Vec F S4096x128 .f32) (wg : BufOf (F := F) c hbG) (wu : BufOf (F := F) c hbU) (wd : BufOf (F := F) c hbD) (t : ℕ) : sProp 𝕄 :=
  iprop(tabs c pf ∗ (if t = 0 then start c wg wu wd else live c pf (min t (wC pf).toNat - 1) (Yacc pf X wg wu wd t) wg wu wd))

end Invariant

section Steps

variable (c : Dev nD) (i : grid0.Coords) (x : Memref sig .tc .vmem S4096x128 .f32) (hx : x.IsWhole)
    (y : Memref sig .tc .vmem S4096x128 .f32) (hy : y.IsWhole) (pf : Tabs F) (S : Sched pf)
    (wg : BufOf (F := F) c hbG) (wu : BufOf (F := F) c hbU) (wd : BufOf (F := F) c hbD) (W : Waits sig Unit)

theorem owns_some {sp : Space} {s : Shape} {e : EltTy} (M : Memref sig .tc sp s e) (G : s.Idx → Elt F e) :
    (owns (c : Thread nD τ) M fullShare G : sProp 𝕄) ⊢ iprop(∃ f, pt c M f) := by
  unfold owns
  iintro ⟨%f, -, H⟩
  iexists f; iexact H

include S

/-- The first point. -/
theorem stepB (t : ℕ) (ht0 : t = 0) (hi : (i 0).val = t) (X : Vec F S4096x128 .f32) (K : PUnit → sProp 𝕄) :
    iprop(owns (c : Thread nD τ) x fullShare X ∗ (∃ d, owns (c : Thread nD τ) y fullShare d) ∗ tabs c pf ∗ start c wg wu wd ∗ owes (c : Thread nD τ) 0 W
      ∗ (iprop(owns (c : Thread nD τ) x fullShare X
          ∗ owns (c : Thread nD τ) y fullShare (outY (stepY (wL pf t) (wH pf t) X (castG wg (wE pf t)) (castU wu (wE pf t)) (castD wd (wE pf t)) k0_pay1))
          ∗ tabs c pf ∗ live c pf t (stepY (wL pf t) (wH pf t) X (castG wg (wE pf t)) (castU wu (wE pf t)) (castD wd (wE pf t)) k0_pay1) wg wu wd
          ∗ ∃ W', owes (c : Thread nD τ) 0 W') -∗ K ⟨⟩))
    ⊢ wp frame (wpE (defs₀ (F := F)) Variants.none c none) Set.univ (bodyAt i x hx y hy) K := by
  have htn : t < (wC pf).toNat := by have := S.n_pos; omega
  have htt : t < 159 := by have := S.n_le; omega
  have he := S.exp_lt t htt
  have h2 : k0_cond2 i (wC pf) = 1#1 := (cond2_iff i _ S.n_le).2 (by omega)
  have hz := (hz_iff i).2 (hi.trans ht0)
  have h4 : k0_cond4 i = 1#1 := (cond4_iff i).2 (hi.trans ht0)
  have h3 : k0_cond3 i (wE pf t) (wE pf (t - 1)) = 1#1 := (cond3_iff i _ _).2 (Or.inl (hi.trans ht0))
  have hS : wS pf t = 0#32 := by subst ht0; exact S.slot0
  have hs01 : (0#32 : BitVec 32) = 0#32 ∨ (0#32 : BitVec 32) = 1#32 := Or.inl rfl
  have hs' := hS.symm.trans (word_slot c pf _ t htt ((off2_eq i).trans (by rw [hi])) (k0_off2_inb i))
  unfold tabs start flW
  iintro ⟨Hx, Hy, ⟨He, Htt, Hl, Hh, Hc, Hn, Hs⟩, ⟨HG, HU, HD, HY, Hbg, Hbu, Hbd, Hq4, Hq5, Hwg, Hwu, Hwd⟩, HW, HK⟩
  rcases S.next t htn with hN | hnx
  · have h5 : ¬ k0_cond5 (wN pf t) = 1#1 := by rw [hN]; exact cond5_neg
    have hn5 : k0_cond5 (wN pf t) = 1#1 → (wN pf t).toNat < 32 := fun h => absurd h h5
    iapply (runBl c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) X wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hbg]; · iexact Hbg
    isplitl [Hbu]; · iexact Hbu
    isplitl [Hbd]; · iexact Hbd
    isplitl [Hq4]; · iexact Hq4
    isplitl [Hq5]; · iexact Hq5
    isplitl [Hwg]; · iexact Hwg
    isplitl [Hwu]; · iexact Hwu
    isplitl [Hwd]; · iexact Hwd
    isplitl [HW]; · iexact HW
    iintro ⟨Px, Py, He, Hl, Hh, Hc, Hs, Hn, HG, HU, HD, HY, Hbg, Hbu, Hbd, Hq4, Hq5, Hwg, Hwu, Hwd, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hN, flight_none]; unfold flW
      isplitl [Hbg]; · iexact Hbg
      isplitl [Hbu]; · iexact Hbu
      isplitl [Hbd]; · iexact Hbd
      isplitl [Hq4]; · iexact Hq4
      isplitl [Hq5]; · iexact Hq5
      isplitl [Hwg]; · iexact Hwg
      isplitl [Hwu]; · iexact Hwu
      iexact Hwd
    iexact HW
  · have h5 := cond5_of_lt _ hnx
    have hn5 : k0_cond5 (wN pf t) = 1#1 → (wN pf t).toNat < 32 := fun _ => hnx
    iapply (runBn c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) (inbWG _ hnx) (inbWD _ hnx) X wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hbg]; · iexact Hbg
    isplitl [Hbu]; · iexact Hbu
    isplitl [Hbd]; · iexact Hbd
    isplitl [Hq4]; · iexact Hq4
    isplitl [Hq5]; · iexact Hq5
    isplitl [Hwg]; · iexact Hwg
    isplitl [Hwu]; · iexact Hwu
    isplitl [Hwd]; · iexact Hwd
    isplitl [HW]; · iexact HW
    iintro ⟨Px, Py, He, Hl, Hh, Hc, Hs, Hn, HG, HU, HD, HY, Hf1, Hf2, Hf3, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hS, flight_0 c _ hnx]; unfold fl0
      isplitl [Hf1]; · iexact Hf1
      isplitl [Hf2]; · iexact Hf2
      iexact Hf3
    iexact HW

/-- A later point at which the expert changes, into slot 0. -/
theorem stepD0 (t : ℕ) (ht0 : 0 < t) (htn : t < (wC pf).toNat) (hi : (i 0).val = t) (hne : wE pf t ≠ wE pf (t - 1))
    (hS : wS pf t = 0#32) (he' : (wE pf t).toNat < 32)
    (X : Vec F S4096x128 .f32) (Y : Vec F S512x1024 .f32) (K : PUnit → sProp 𝕄) :
    iprop(owns (c : Thread nD τ) x fullShare X ∗ (∃ d, owns (c : Thread nD τ) y fullShare d) ∗ tabs c pf
      ∗ (∃ f, pt c scG f) ∗ (∃ f, pt c scU f) ∗ (∃ f, pt c scD f) ∗ owns (c : Thread nD τ) scY fullShare Y
      ∗ fl1 c (wE pf t) he' wg wu wd ∗ owes (c : Thread nD τ) 0 W
      ∗ (iprop(owns (c : Thread nD τ) x fullShare X
          ∗ owns (c : Thread nD τ) y fullShare (outY (stepY (wL pf t) (wH pf t) X (castG wg (wE pf t)) (castU wu (wE pf t)) (castD wd (wE pf t)) Y))
          ∗ tabs c pf ∗ live c pf t (stepY (wL pf t) (wH pf t) X (castG wg (wE pf t)) (castU wu (wE pf t)) (castD wd (wE pf t)) Y) wg wu wd
          ∗ ∃ W', owes (c : Thread nD τ) 0 W') -∗ K ⟨⟩))
    ⊢ wp frame (wpE (defs₀ (F := F)) Variants.none c none) Set.univ (bodyAt i x hx y hy) K := by
  have htt : t < 159 := by have := S.n_le; omega
  have he := S.exp_lt t htt
  have h2 : k0_cond2 i (wC pf) = 1#1 := (cond2_iff i _ S.n_le).2 (by omega)
  have hz : ¬ _ := fun h => absurd ((hz_iff i).1 h) (by omega)
  have h4 : ¬ k0_cond4 i = 1#1 := fun h => absurd ((cond4_iff i).1 h) (by omega)
  have h3 : k0_cond3 i (wE pf t) (wE pf (t - 1)) = 1#1 := (cond3_iff i _ _).2 (Or.inr hne)
  have hs01 : (0#32 : BitVec 32) = 0#32 ∨ (0#32 : BitVec 32) = 1#32 := by decide
  have hs' := hS.symm.trans (word_slot c pf _ t htt ((off2_eq i).trans (by rw [hi])) (k0_off2_inb i))
  unfold tabs fl1
  iintro ⟨Hx, Hy, ⟨He, Htt, Hl, Hh, Hc, Hn, Hs⟩, HG, HU, HD, HY, ⟨Hf1, Hf2, Hf3⟩, HW, HK⟩
  rcases S.next t htn with hN | hnx
  · have h5 : ¬ k0_cond5 (wN pf t) = 1#1 := by rw [hN]; exact cond5_neg
    have hn5 : k0_cond5 (wN pf t) = 1#1 → (wN pf t).toNat < 32 := fun h => absurd h h5
    iapply (runD0l c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) X Y wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hf1]; · iexact Hf1
    isplitl [Hf2]; · iexact Hf2
    isplitl [Hf3]; · iexact Hf3
    isplitl [HW]; · iexact HW
    iintro ⟨Px, Py, He, Hl, Hh, Hc, Hs, Hn, HG, HU, HD, HY, Hbg, Hbu, Hbd, Hq4, Hq5, Hwg, Hwu, Hwd, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hN, flight_none]; unfold flW
      isplitl [Hbg]; · iexact Hbg
      isplitl [Hbu]; · iexact Hbu
      isplitl [Hbd]; · iexact Hbd
      isplitl [Hq4]; · iexact Hq4
      isplitl [Hq5]; · iexact Hq5
      isplitl [Hwg]; · iexact Hwg
      isplitl [Hwu]; · iexact Hwu
      iexact Hwd
    iexact HW
  · have h5 := cond5_of_lt _ hnx
    have hn5 : k0_cond5 (wN pf t) = 1#1 → (wN pf t).toNat < 32 := fun _ => hnx
    iapply (runD0n c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) (inbWG _ hnx) (inbWD _ hnx) X Y wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hf1]; · iexact Hf1
    isplitl [Hf2]; · iexact Hf2
    isplitl [Hf3]; · iexact Hf3
    isplitl [HW]; · iexact HW
    iintro ⟨Px, Py, He, Hl, Hh, Hc, Hs, Hn, HG, HU, HD, HY, Hf1, Hf2, Hf3, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hS, flight_0 c _ hnx]; unfold fl0
      isplitl [Hf1]; · iexact Hf1
      isplitl [Hf2]; · iexact Hf2
      iexact Hf3
    iexact HW

/-- A later point at which the expert changes, into slot 1. -/
theorem stepD1 (t : ℕ) (ht0 : 0 < t) (htn : t < (wC pf).toNat) (hi : (i 0).val = t) (hne : wE pf t ≠ wE pf (t - 1))
    (hS : wS pf t = 1#32) (he' : (wE pf t).toNat < 32)
    (X : Vec F S4096x128 .f32) (Y : Vec F S512x1024 .f32) (K : PUnit → sProp 𝕄) :
    iprop(owns (c : Thread nD τ) x fullShare X ∗ (∃ d, owns (c : Thread nD τ) y fullShare d) ∗ tabs c pf
      ∗ (∃ f, pt c scG f) ∗ (∃ f, pt c scU f) ∗ (∃ f, pt c scD f) ∗ owns (c : Thread nD τ) scY fullShare Y
      ∗ fl0 c (wE pf t) he' wg wu wd ∗ owes (c : Thread nD τ) 0 W
      ∗ (iprop(owns (c : Thread nD τ) x fullShare X
          ∗ owns (c : Thread nD τ) y fullShare (outY (stepY (wL pf t) (wH pf t) X (castG wg (wE pf t)) (castU wu (wE pf t)) (castD wd (wE pf t)) Y))
          ∗ tabs c pf ∗ live c pf t (stepY (wL pf t) (wH pf t) X (castG wg (wE pf t)) (castU wu (wE pf t)) (castD wd (wE pf t)) Y) wg wu wd
          ∗ ∃ W', owes (c : Thread nD τ) 0 W') -∗ K ⟨⟩))
    ⊢ wp frame (wpE (defs₀ (F := F)) Variants.none c none) Set.univ (bodyAt i x hx y hy) K := by
  have htt : t < 159 := by have := S.n_le; omega
  have he := S.exp_lt t htt
  have h2 : k0_cond2 i (wC pf) = 1#1 := (cond2_iff i _ S.n_le).2 (by omega)
  have hz : ¬ _ := fun h => absurd ((hz_iff i).1 h) (by omega)
  have h4 : ¬ k0_cond4 i = 1#1 := fun h => absurd ((cond4_iff i).1 h) (by omega)
  have h3 : k0_cond3 i (wE pf t) (wE pf (t - 1)) = 1#1 := (cond3_iff i _ _).2 (Or.inr hne)
  have hs01 : (1#32 : BitVec 32) = 0#32 ∨ (1#32 : BitVec 32) = 1#32 := by decide
  have hs' := hS.symm.trans (word_slot c pf _ t htt ((off2_eq i).trans (by rw [hi])) (k0_off2_inb i))
  unfold tabs fl0
  iintro ⟨Hx, Hy, ⟨He, Htt, Hl, Hh, Hc, Hn, Hs⟩, HG, HU, HD, HY, ⟨Hf1, Hf2, Hf3⟩, HW, HK⟩
  rcases S.next t htn with hN | hnx
  · have h5 : ¬ k0_cond5 (wN pf t) = 1#1 := by rw [hN]; exact cond5_neg
    have hn5 : k0_cond5 (wN pf t) = 1#1 → (wN pf t).toNat < 32 := fun h => absurd h h5
    iapply (runD1l c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) X Y wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hf1]; · iexact Hf1
    isplitl [Hf2]; · iexact Hf2
    isplitl [Hf3]; · iexact Hf3
    isplitl [HW]; · iexact HW
    iintro ⟨Px, Py, He, Hl, Hh, Hc, Hs, Hn, HG, HU, HD, HY, Hbg, Hbu, Hbd, Hq4, Hq5, Hwg, Hwu, Hwd, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hN, flight_none]; unfold flW
      isplitl [Hbg]; · iexact Hbg
      isplitl [Hbu]; · iexact Hbu
      isplitl [Hbd]; · iexact Hbd
      isplitl [Hq4]; · iexact Hq4
      isplitl [Hq5]; · iexact Hq5
      isplitl [Hwg]; · iexact Hwg
      isplitl [Hwu]; · iexact Hwu
      iexact Hwd
    iexact HW
  · have h5 := cond5_of_lt _ hnx
    have hn5 : k0_cond5 (wN pf t) = 1#1 → (wN pf t).toNat < 32 := fun _ => hnx
    iapply (runD1n c i x hx y hy _ _ _ _ _ _ (wC pf) (wE pf t) (wE pf (t - 1)) (wN pf t) (wL pf t) (wH pf t) (word_cnt c pf) (word_exp c pf _ t htt ((off2_eq i).trans (by rw [hi])) _) hs' (word_exp c pf _ (t - 1) (by omega) ((off3_eq i).trans (by rw [hi])) _) (word_next c pf _ t htt ((off16_eq i).trans (by rw [hi])) _) (word_lo c pf _ t htt ((off22_eq i).trans (by rw [hi])) _) (word_hi c pf _ t htt ((off22_eq i).trans (by rw [hi])) _) hz h2 h3 h4 h5 (chk1_of i _ _ _ _ he hs01) (chk2_of i _ _ _ _ _ hn5 hs01) he (inbWG _ he) (inbWD _ he) (inbWG _ hnx) (inbWD _ hnx) X Y wg wu wd W _)
    isplitl [Hx]; · iexact Hx
    isplitl [Hy]; · iexact Hy
    isplitl [He]; · iexact He
    isplitl [Hl]; · iexact Hl
    isplitl [Hh]; · iexact Hh
    isplitl [Hc]; · iexact Hc
    isplitl [Hs]; · iexact Hs
    isplitl [Hn]; · iexact Hn
    isplitl [HG]; · iexact HG
    isplitl [HU]; · iexact HU
    isplitl [HD]; · iexact HD
    isplitl [HY]; · iexact HY
    isplitl [Hf1]; · iexact Hf1
    isplitl [Hf2]; · iexact Hf2
    isplitl [Hf3]; · iexact Hf3
    isplitl [HW]; · iexact HW
    iintro ⟨Px, Py, He, Hl, Hh, Hc, Hs, Hn, HG, HU, HD, HY, Hf1, Hf2, Hf3, HW⟩
    iapply HK
    isplitl [Px]; · iexact Px
    isplitl [Py]; · iexact Py
    isplitl [He Htt Hl Hh Hc Hn Hs]
    · isplitl [He]; · iexact He
      isplitl [Htt]; · iexact Htt
      isplitl [Hl]; · iexact Hl
      isplitl [Hh]; · iexact Hh
      isplitl [Hc]; · iexact Hc
      isplitl [Hn]; · iexact Hn
      iexact Hs
    isplitr [HW]
    · unfold live
      isplitl [HG]; · iexact HG
      isplitl [HU]; · iexact HU
      isplitl [HD]; · iexact HD
      isplitl [HY]; · iexact HY
      rw [hS, flight_1 c _ hnx]; unfold fl1
      isplitl [Hf1]; · iexact Hf1
      isplitl [Hf2]; · iexact Hf2
      iexact Hf3
    iexact HW

/-- A later point whose expert is the one before's. -/
theorem stepC (t : ℕ) (ht0 : 0 < t) (htn : t < (wC pf).toNat) (hi : (i 0).val = t) (heq : wE pf t = wE pf (t - 1))
    (hNx : wN pf t = wN pf (t - 1)) (hSl : wS pf t = wS pf (t - 1))
    (X : Vec F S4096x128 .f32) (Y : Vec F S512x1024 .f32) (K : PUnit → sProp 𝕄) :
    iprop(owns (c : Thread nD τ) x fullShare X ∗ (∃ d, owns (c : Thread nD τ) y fullShare d) ∗ tabs c pf ∗ live c pf (t - 1) Y wg wu wd
      ∗ (iprop(owns (c : Thread nD τ) x fullShare X
          ∗ owns (c : Thread nD τ) y fullShare (outY (stepY (wL pf t) (wH pf t) X (castG wg (wE pf t)) (castU wu (wE pf t)) (castD wd (wE pf t)) Y))
          ∗ tabs c pf ∗ live c pf t (stepY (wL pf t) (wH pf t) X (castG wg (wE pf t)) (castU wu (wE pf t)) (castD wd (wE pf t)) Y) wg wu wd) -∗ K ⟨⟩))
    ⊢ wp frame (wpE (defs₀ (F := F)) Variants.none c none) Set.univ (bodyAt i x hx y hy) K := by
  have htt : t < 159 := by have := S.n_le; omega
  have he := S.exp_lt t htt
  have h2 : k0_cond2 i (wC pf) = 1#1 := (cond2_iff i _ S.n_le).2 (by omega)
  have hz : ¬ _ := fun h => absurd ((hz_iff i).1 h) (by omega)
  have h3 : ¬ k0_cond3 i (wE pf t) (wE pf (t - 1)) = 1#1 := fun h => by
    rcases (cond3_iff i _ _).1 h with h | h
    · omega
    · exact h heq
  unfold tabs live
  rw [hNx, hSl, ← heq]
  iintro ⟨Hx, Hy, ⟨He, Htt, Hl, Hh, Hc, Hn, Hs⟩, ⟨HG, HU, HD, HY, Hfl⟩, HK⟩
  iapply (runC c i x hx y hy _ _ _ _ _ (wC pf) (wE pf t) (wE pf (t - 1)) (wS pf t) (wL pf t) (wH pf t) (word_cnt c pf) (word_exp c pf _ t htt ((off2_eq i).trans (by rw [hi])) _)
    (word_slot c pf _ t htt ((off2_eq i).trans (by rw [hi])) _) (word_exp c pf _ (t - 1) (by omega) ((off3_eq i).trans (by rw [hi])) _)
    (word_lo c pf _ t htt ((off22_eq i).trans (by rw [hi])) _) (word_hi c pf _ t htt ((off22_eq i).trans (by rw [hi])) _)
    hz h2 h3 (chk1_of i _ _ _ _ he (S.slot t htn)) X _ _ _ Y _)
  isplitl [Hx]; · iexact Hx
  isplitl [Hy]; · iexact Hy
  isplitl [He]; · iexact He
  isplitl [Hl]; · iexact Hl
  isplitl [Hh]; · iexact Hh
  isplitl [Hc]; · iexact Hc
  isplitl [Hs]; · iexact Hs
  isplitl [HG]; · iexact HG
  isplitl [HU]; · iexact HU
  isplitl [HD]; · iexact HD
  isplitl [HY]; · iexact HY
  iintro ⟨Px, Py, He, Hl, Hh, Hc, Hs, HG, HU, HD, HY⟩
  iapply HK
  isplitl [Px]; · iexact Px
  isplitl [Py]; · iexact Py
  isplitl [He Htt Hl Hh Hc Hn Hs]
  · isplitl [He]; · iexact He
    isplitl [Htt]; · iexact Htt
    isplitl [Hl]; · iexact Hl
    isplitl [Hh]; · iexact Hh
    isplitl [Hc]; · iexact Hc
    isplitl [Hn]; · iexact Hn
    iexact Hs
  isplitl [HG]; · iexact HG
  isplitl [HU]; · iexact HU
  isplitl [HD]; · iexact HD
  isplitl [HY]; · iexact HY
  iexact Hfl

/-- A point past the last item. -/
theorem stepA (t : ℕ) (htt : t < 159) (htn : (wC pf).toNat ≤ t) (hi : (i 0).val = t)
    (X : ℕ → Vec F S4096x128 .f32) (K : PUnit → sProp 𝕄) :
    iprop(inv c pf X wg wu wd t ∗ (inv c pf X wg wu wd (t + 1) -∗ K ⟨⟩))
    ⊢ wp frame (wpE (defs₀ (F := F)) Variants.none c none) Set.univ (bodyAt i x hx y hy) K := by
  have hp := S.n_pos
  have h2 : ¬ k0_cond2 i (wC pf) = 1#1 := fun h => absurd ((cond2_iff i _ S.n_le).1 h) (by omega)
  have hz : ¬ _ := fun h => absurd ((hz_iff i).1 h) (by omega)
  have e : inv c pf X wg wu wd (t + 1) = (inv c pf X wg wu wd t : sProp 𝕄) := by
    unfold inv
    rw [if_neg (by omega), if_neg (by omega), Yacc, if_neg (by omega), Nat.min_eq_right (by omega), Nat.min_eq_right (by omega)]
  rw [e]
  unfold inv tabs
  iintro ⟨⟨⟨He, Htt, Hl, Hh, Hc, Hn, Hs⟩, Hr⟩, HK⟩
  iapply (runA c i x hx y hy _ (wC pf) (word_cnt c pf) hz h2 _)
  isplitl [Hc]; · iexact Hc
  iintro Hc
  iapply HK
  isplitr [Hr]
  · isplitl [He]; · iexact He
    isplitl [Htt]; · iexact Htt
    isplitl [Hl]; · iexact Hl
    isplitl [Hh]; · iexact Hh
    isplitl [Hc]; · iexact Hc
    isplitl [Hn]; · iexact Hn
    iexact Hs
  iexact Hr

/-- A point of an item. -/
theorem stepI (t : ℕ) (htn : t < (wC pf).toNat) (hi : (i 0).val = t) (X : ℕ → Vec F S4096x128 .f32) (K : PUnit → sProp 𝕄) :
    iprop(owns (c : Thread nD τ) x fullShare (X t) ∗ (∃ d, owns (c : Thread nD τ) y fullShare d) ∗ inv c pf X wg wu wd t ∗ owes (c : Thread nD τ) 0 W
      ∗ (iprop(owns (c : Thread nD τ) x fullShare (X t) ∗ owns (c : Thread nD τ) y fullShare (outY (Yacc pf X wg wu wd (t + 1)))
          ∗ inv c pf X wg wu wd (t + 1) ∗ ∃ W', owes (c : Thread nD τ) 0 W') -∗ K ⟨⟩))
    ⊢ wp frame (wpE (defs₀ (F := F)) Variants.none c none) Set.univ (bodyAt i x hx y hy) K := by
  unfold inv
  rw [if_neg (Nat.succ_ne_zero t), Yacc, if_pos htn, Nat.min_eq_left (by omega : t + 1 ≤ _), Nat.add_sub_cancel]
  rcases Nat.eq_zero_or_pos t with h0 | h0
  · rw [if_pos h0, show Yacc pf X wg wu wd t = k0_pay1 by subst h0; rfl]
    iintro ⟨Hx, Hy, ⟨Ht, Hr⟩, HW, HK⟩
    iapply (stepB c i x hx y hy pf S wg wu wd W t h0 hi (X t) K)
    isplitl [Hx]; · iexact Hx
    isplitl [Hy]; · iexact Hy
    isplitl [Ht]; · iexact Ht
    isplitl [Hr]; · iexact Hr
    isplitl [HW]; · iexact HW
    iintro ⟨Hx, Hy, Ht, Hr, HW⟩
    iapply HK
    isplitl [Hx]; · iexact Hx
    isplitl [Hy]; · iexact Hy
    isplitl [Ht Hr]
    · isplitl [Ht]; · iexact Ht
      iexact Hr
    iexact HW
  · rw [if_neg (by omega), Nat.min_eq_left (by omega : t ≤ _)]
    have e1 : t - 1 + 1 = t := by omega
    have hst := S.step (t - 1) (by omega)
    rw [e1] at hst
    rcases hst with ⟨he, hN, hS⟩ | ⟨hne, hN, hS⟩
    · iintro ⟨Hx, Hy, ⟨Ht, Hr⟩, HW, HK⟩
      iapply (stepC c i x hx y hy pf S wg wu wd t h0 htn hi he hN hS (X t) _ K)
      isplitl [Hx]; · iexact Hx
      isplitl [Hy]; · iexact Hy
      isplitl [Ht]; · iexact Ht
      isplitl [Hr]; · iexact Hr
      iintro ⟨Hx, Hy, Ht, Hr⟩
      iapply HK
      isplitl [Hx]; · iexact Hx
      isplitl [Hy]; · iexact Hy
      isplitl [Ht Hr]
      · isplitl [Ht]; · iexact Ht
        iexact Hr
      iexists W; iexact HW
    · have he' := S.exp_lt t (by have := S.n_le; omega)
      rcases S.slot (t - 1) (by omega) with hs | hs
      · have hS' : wS pf t = 1#32 := by rw [hS, hs]; decide
        unfold live
        rw [hs, hN, flight_0 c _ he']
        iintro ⟨Hx, Hy, ⟨Ht, ⟨HG, HU, HD, HY, Hf⟩⟩, HW, HK⟩
        iapply (stepD1 c i x hx y hy pf S wg wu wd W t h0 htn hi hne hS' he' (X t) _ K)
        isplitl [Hx]; · iexact Hx
        isplitl [Hy]; · iexact Hy
        isplitl [Ht]; · iexact Ht
        isplitl [HG]; · iapply (owns_some c scG _); iexact HG
        isplitl [HU]; · iapply (owns_some c scU _); iexact HU
        isplitl [HD]; · iapply (owns_some c scD _); iexact HD
        isplitl [HY]; · iexact HY
        isplitl [Hf]; · iexact Hf
        isplitl [HW]; · iexact HW
        iintro ⟨Hx, Hy, Ht, Hr, HW⟩
        iapply HK
        isplitl [Hx]; · iexact Hx
        isplitl [Hy]; · iexact Hy
        isplitl [Ht Hr]
        · isplitl [Ht]; · iexact Ht
          unfold live
          iexact Hr
        iexact HW
      · have hS' : wS pf t = 0#32 := by rw [hS, hs]; decide
        unfold live
        rw [hs, hN, flight_1 c _ he']
        iintro ⟨Hx, Hy, ⟨Ht, ⟨HG, HU, HD, HY, Hf⟩⟩, HW, HK⟩
        iapply (stepD0 c i x hx y hy pf S wg wu wd W t h0 htn hi hne hS' he' (X t) _ K)
        isplitl [Hx]; · iexact Hx
        isplitl [Hy]; · iexact Hy
        isplitl [Ht]; · iexact Ht
        isplitl [HG]; · iapply (owns_some c scG _); iexact HG
        isplitl [HU]; · iapply (owns_some c scU _); iexact HU
        isplitl [HD]; · iapply (owns_some c scD _); iexact HD
        isplitl [HY]; · iexact HY
        isplitl [Hf]; · iexact Hf
        isplitl [HW]; · iexact HW
        iintro ⟨Hx, Hy, Ht, Hr, HW⟩
        iapply HK
        isplitl [Hx]; · iexact Hx
        isplitl [Hy]; · iexact Hy
        isplitl [Ht Hr]
        · isplitl [Ht]; · iexact Ht
          unfold live
          iexact Hr
        iexact HW

end Steps

end Cert.KernelIdeal.Hand
-- ==== Proof.Host.lean ====
/-
  The pipeline's data, the body at every grid point, and the run of the kernel, from tables that spell a schedule.
-/
module

public import proofs.«01_k».proof.Proof.Inv
public import Idealize.ShloMosaic.Lib.Pipeline.TableIdle
public import Idealize.ShloMosaic.Lib.Pipeline.FrameBody
public import Idealize.ShloMosaic.Lib.StableHlo.Run
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The host's operations before the region -/

/-- The host's operations, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

/-- What the buffers hold when the region is entered. -/
def V (c : Dev nD) (b : Ref sig .tc) : Buf (Elt F) ((c : Thread nD τ).loc b) :=
  StableHlo.after (opss (F := F)).flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main opss opss_sub (by
    simp only [List.Forall]
    repeat' constructor) fun c => main_chain c

/-- The tables the region finds. -/
def pfm : Tabs F := fun k => V m 0 (pre0.ref k)

/-! ## The side condition -/

theorem tr_eq (pf : Tabs F) (i : grid0.Coords) (t : ℕ) (ht : t < 159) (hi : (i 0).val = t) :
    cc0_transform_0 k0_off1_inb numel1_S1 pf i = ![(wT pf t).toNat, 0] := by
  have e : (pf.at 1 (Rect.unit (s := S159) (k0_off1 i) S1.size (k0_off1_inb i)) numel1_S1 : BitVec 32) = wT pf t := by
    unfold wT
    refine congrArg (pf 1) ?_
    funext a
    refine Fin.ext ?_
    rw [Fin.fin_one_eq_zero a]
    have e0 : (k0_off1 i) 0 = (i 0).val := congrFun (off1_eq i) 0
    show (k0_off1 i) 0 + 1 * 0 = t % 159
    rw [e0, hi, Nat.mod_eq_of_lt ht, Nat.mul_zero, Nat.add_zero]
  exact congrArg (fun w : BitVec 32 => ![w.toNat, 0]) e

theorem ok_of (pf : Tabs F) (S : Sched pf) : ok0 pf := by
  have h : ∀ i : grid0.Coords, ∀ a, (cc0_transform_0 k0_off1_inb numel1_S1 pf i a + 1) * S4096x128.size a ≤ S524288x128.size a := fun i a => by
    rw [tr_eq pf i _ (i 0).isLt rfl]
    have := S.tile_lt (i 0).val (i 0).isLt
    fin_cases a
    · simp; omega
    · simp
  exact ⟨fun i => ⟨h i, Or.inl rfl⟩, fun i => ⟨h i, Or.inl rfl⟩⟩

end Cert.KernelIdeal.Hand
-- ==== Proof.HostCut.lean ====
/-
  Each host operation's result among what the region finds, in terms of what the region finds of its operands.
-/
module

public import proofs.«01_k».proof.Proof.Host
public import Idealize.ShloMosaic.Lib.StableHlo.ReadAt
public import Idealize.ShloMosaic.Lib.Pointwise
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (c : Dev nD)

/-! ## What each stretch writes -/

abbrev wr0 : List (Ref sig .tc) := [main_call0_call0_c, main_call0_call0_v0, main_v0]
abbrev wr1 : List (Ref sig .tc) := [main_v1, main_c]
abbrev wr2 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
abbrev wr3 : List (Ref sig .tc) := [main_c_0, main_v3, main_v4, main_c_1, main_v5, main_v6, main_c_2]
abbrev wr4 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
abbrev wr5 : List (Ref sig .tc) := [main_c_3, main_v8, main_v9, main_v10, main_c_4, main_v11, main_v12, main_c_5]
abbrev wr6 : List (Ref sig .tc) := [main_call3_v0, main_call3_v1, main_v13]
abbrev wr7 : List (Ref sig .tc) := [main_call4_call0_c, main_call4_call0_v0, main_v14]
abbrev wr8 : List (Ref sig .tc) := [main_v15, main_v16, main_v17, main_c_6, main_v18, main_v19, main_v20, main_v21, main_v22, main_v23, main_v24, main_v25, main_v26, main_c_7, main_v27, main_c_8, main_v28, main_v29, main_c_9, main_v30, main_v31, main_c_10, main_v32, main_v33, main_v34, main_v35, main_v36, main_v37, main_c_11, main_v38, main_v39, main_c_12, main_v40, main_v41, main_v42, main_v43, main_v44, main_v45, main_v46, main_c_13, main_v47, main_v48, main_c_14, main_v49, main_v50, main_v51, main_v52, main_v53, main_c_15, main_v54, main_v55, main_v56, main_c_16, main_c_17]
abbrev wr9 : List (Ref sig .tc) := [main_call5_v0, main_call5_v1, main_call5_v2, main_call5_v3, main_call5_v4, main_v57]
abbrev wr10 : List (Ref sig .tc) := [main_c_18, main_v58, main_v59, main_c_19, main_v60, main_v61, main_v62, main_v63, main_v64, main_c_20, main_v65, main_v66, main_v67, main_c_21, main_c_22]
abbrev wr11 : List (Ref sig .tc) := [main_call6_v0, main_call6_v1, main_call6_v2, main_call6_v3, main_call6_v4, main_v68]
abbrev wr12 : List (Ref sig .tc) := [main_c_23, main_v69, main_v70, main_v71, main_v72, main_v73, main_v74, main_v75, main_v76, main_v77, main_v78, main_v79, main_v80, main_c_24]
abbrev wr13 : List (Ref sig .tc) := [main_call7_v0, main_call7_v1, main_call7_v2, main_v81]
abbrev wr14 : List (Ref sig .tc) := [main_c_25, main_v82, main_c_26, main_v83, main_v84, main_c_27]
abbrev wr15 : List (Ref sig .tc) := [main_call8_v0, main_call8_v1, main_v85]
abbrev wr16 : List (Ref sig .tc) := [main_v86]
abbrev wr17 : List (Ref sig .tc) := [main_call9_call0_c, main_call9_call0_v0, main_v87]
abbrev wr18 : List (Ref sig .tc) := [main_c_28, main_v88, main_v89, main_c_29]
abbrev wr19 : List (Ref sig .tc) := [main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v90]
abbrev wr20 : List (Ref sig .tc) := [main_c_30, main_v91, main_v92, main_c_31, main_v93, main_v94, main_v95, main_v96, main_v97, main_c_32, main_v98, main_v99, main_c_33, main_v100, main_v101, main_v102, main_v103, main_v104, main_v105]
abbrev wrs21 : List (Ref sig .tc) := []
abbrev wrs20 : List (Ref sig .tc) := wr20 ++ wrs21
abbrev wrs19 : List (Ref sig .tc) := wr19 ++ wrs20
abbrev wrs18 : List (Ref sig .tc) := wr18 ++ wrs19
abbrev wrs17 : List (Ref sig .tc) := wr17 ++ wrs18
abbrev wrs16 : List (Ref sig .tc) := wr16 ++ wrs17
abbrev wrs15 : List (Ref sig .tc) := wr15 ++ wrs16
abbrev wrs14 : List (Ref sig .tc) := wr14 ++ wrs15
abbrev wrs13 : List (Ref sig .tc) := wr13 ++ wrs14
abbrev wrs12 : List (Ref sig .tc) := wr12 ++ wrs13
abbrev wrs11 : List (Ref sig .tc) := wr11 ++ wrs12
abbrev wrs10 : List (Ref sig .tc) := wr10 ++ wrs11
abbrev wrs9 : List (Ref sig .tc) := wr9 ++ wrs10
abbrev wrs8 : List (Ref sig .tc) := wr8 ++ wrs9
abbrev wrs7 : List (Ref sig .tc) := wr7 ++ wrs8
abbrev wrs6 : List (Ref sig .tc) := wr6 ++ wrs7
abbrev wrs5 : List (Ref sig .tc) := wr5 ++ wrs6
abbrev wrs4 : List (Ref sig .tc) := wr4 ++ wrs5
abbrev wrs3 : List (Ref sig .tc) := wr3 ++ wrs4
abbrev wrs2 : List (Ref sig .tc) := wr2 ++ wrs3
abbrev wrs1 : List (Ref sig .tc) := wr1 ++ wrs2
abbrev wrs0 : List (Ref sig .tc) := wr0 ++ wrs1

/-- What the buffers hold before the `k`-th stretch. -/
def Vp (k : ℕ) : Valuation τ sig (Elt F) := StableHlo.after ((opss (F := F)).take k).flatten (fun b => m (c, b))

theorem cut (k : ℕ) (b) : V m c b = StableHlo.after ((opss (F := F)).drop k).flatten (Vp m c k) b := by
  unfold V Vp
  rw [← StableHlo.after_append, ← List.flatten_append, List.take_append_drop]

theorem cut' (k : ℕ) (ops) (h : (opss (F := F)).drop k = ops :: (opss (F := F)).drop (k + 1)) (b) :
    V m c b = StableHlo.after ((opss (F := F)).drop (k + 1)).flatten (StableHlo.after ops (Vp m c k)) b := by
  rw [cut m c k, h, List.flatten_cons, StableHlo.after_append]

theorem in0 (r : Ref sig .tc) (h : r ∉ wrs0) : Vp m c 0 (Proc.devRef .tc r) = V m c r := by
  rw [cut m c 0]
  exact (StableHlo.after_unwritten wrs0 rfl h _).symm
theorem at0 (r : Ref sig .tc) (h : r ∉ wrs1) : V m c r = StableHlo.after hostOps0 (Vp m c 0) (Proc.devRef .tc r) := by
  rw [cut' m c 0 hostOps0 rfl]
  exact StableHlo.after_unwritten wrs1 rfl h _
theorem in1 (r : Ref sig .tc) (h : r ∉ wrs1) : Vp m c 1 (Proc.devRef .tc r) = V m c r := by
  rw [cut m c 1]
  exact (StableHlo.after_unwritten wrs1 rfl h _).symm
theorem at1 (r : Ref sig .tc) (h : r ∉ wrs2) : V m c r = StableHlo.after hostOps0_1 (Vp m c 1) (Proc.devRef .tc r) := by
  rw [cut' m c 1 hostOps0_1 rfl]
  exact StableHlo.after_unwritten wrs2 rfl h _
theorem in2 (r : Ref sig .tc) (h : r ∉ wrs2) : Vp m c 2 (Proc.devRef .tc r) = V m c r := by
  rw [cut m c 2]
  exact (StableHlo.after_unwritten wrs2 rfl h _).symm
theorem at2 (r : Ref sig .tc) (h : r ∉ wrs3) : V m c r = StableHlo.after hostOps0_2 (Vp m c 2) (Proc.devRef .tc r) := by
  rw [cut' m c 2 hostOps0_2 rfl]
  exact StableHlo.after_unwritten wrs3 rfl h _
theorem in3 (r : Ref sig .tc) (h : r ∉ wrs3) : Vp m c 3 (Proc.devRef .tc r) = V m c r := by
  rw [cut m c 3]
  exact (StableHlo.after_unwritten wrs3 rfl h _).symm
theorem at3 (r : Ref sig .tc) (h : r ∉ wrs4) : V m c r = StableHlo.after hostOps0_3 (Vp m c 3) (Proc.devRef .tc r) := by
  rw [cut' m c 3 hostOps0_3 rfl]
  exact StableHlo.after_unwritten wrs4 rfl h _
theorem in4 (r : Ref sig .tc) (h : r ∉ wrs4) : Vp m c 4 (Proc.devRef .tc r) = V m c r := by
  rw [cut m c 4]
  exact (StableHlo.after_unwritten wrs4 rfl h _).symm
theorem at4 (r : Ref sig .tc) (h : r ∉ wrs5) : V m c r = StableHlo.after hostOps0_4 (Vp m c 4) (Proc.devRef .tc r) := by
  rw [cut' m c 4 hostOps0_4 rfl]
  exact StableHlo.after_unwritten wrs5 rfl h _
theorem in5 (r : Ref sig .tc) (h : r ∉ wrs5) : Vp m c 5 (Proc.devRef .tc r) = V m c r := by
  rw [cut m c 5]
  exact (StableHlo.after_unwritten wrs5 rfl h _).symm
theorem at5 (r : Ref sig .tc) (h : r ∉ wrs6) : V m c r = StableHlo.after hostOps0_5 (Vp m c 5) (Proc.devRef .tc r) := by
  rw [cut' m c 5 hostOps0_5 rfl]
  exact StableHlo.after_unwritten wrs6 rfl h _
theorem in6 (r : Ref sig .tc) (h : r ∉ wrs6) : Vp m c 6 (Proc.devRef .tc r) = V m c r := by
  rw [cut m c 6]
  exact (StableHlo.after_unwritten wrs6 rfl h _).symm
theorem at6 (r : Ref sig .tc) (h : r ∉ wrs7) : V m c r = StableHlo.after hostOps0_6 (Vp m c 6) (Proc.devRef .tc r) := by
  rw [cut' m c 6 hostOps0_6 rfl]
  exact StableHlo.after_unwritten wrs7 rfl h _
theorem in7 (r : Ref sig .tc) (h : r ∉ wrs7) : Vp m c 7 (Proc.devRef .tc r) = V m c r := by
  rw [cut m c 7]
  exact (StableHlo.after_unwritten wrs7 rfl h _).symm
theorem at7 (r : Ref sig .tc) (h : r ∉ wrs8) : V m c r = StableHlo.after hostOps0_7 (Vp m c 7) (Proc.devRef .tc r) := by
  rw [cut' m c 7 hostOps0_7 rfl]
  exact StableHlo.after_unwritten wrs8 rfl h _
theorem in8 (r : Ref sig .tc) (h : r ∉ wrs8) : Vp m c 8 (Proc.devRef .tc r) = V m c r := by
  rw [cut m c 8]
  exact (StableHlo.after_unwritten wrs8 rfl h _).symm
theorem at8 (r : Ref sig .tc) (h : r ∉ wrs9) : V m c r = StableHlo.after hostOps0_8 (Vp m c 8) (Proc.devRef .tc r) := by
  rw [cut' m c 8 hostOps0_8 rfl]
  exact StableHlo.after_unwritten wrs9 rfl h _
theorem in9 (r : Ref sig .tc) (h : r ∉ wrs9) : Vp m c 9 (Proc.devRef .tc r) = V m c r := by
  rw [cut m c 9]
  exact (StableHlo.after_unwritten wrs9 rfl h _).symm
theorem at9 (r : Ref sig .tc) (h : r ∉ wrs10) : V m c r = StableHlo.after hostOps0_9 (Vp m c 9) (Proc.devRef .tc r) := by
  rw [cut' m c 9 hostOps0_9 rfl]
  exact StableHlo.after_unwritten wrs10 rfl h _
theorem in10 (r : Ref sig .tc) (h : r ∉ wrs10) : Vp m c 10 (Proc.devRef .tc r) = V m c r := by
  rw [cut m c 10]
  exact (StableHlo.after_unwritten wrs10 rfl h _).symm
theorem at10 (r : Ref sig .tc) (h : r ∉ wrs11) : V m c r = StableHlo.after hostOps0_10 (Vp m c 10) (Proc.devRef .tc r) := by
  rw [cut' m c 10 hostOps0_10 rfl]
  exact StableHlo.after_unwritten wrs11 rfl h _
theorem in11 (r : Ref sig .tc) (h : r ∉ wrs11) : Vp m c 11 (Proc.devRef .tc r) = V m c r := by
  rw [cut m c 11]
  exact (StableHlo.after_unwritten wrs11 rfl h _).symm
theorem at11 (r : Ref sig .tc) (h : r ∉ wrs12) : V m c r = StableHlo.after hostOps0_11 (Vp m c 11) (Proc.devRef .tc r) := by
  rw [cut' m c 11 hostOps0_11 rfl]
  exact StableHlo.after_unwritten wrs12 rfl h _
theorem in12 (r : Ref sig .tc) (h : r ∉ wrs12) : Vp m c 12 (Proc.devRef .tc r) = V m c r := by
  rw [cut m c 12]
  exact (StableHlo.after_unwritten wrs12 rfl h _).symm
theorem at12 (r : Ref sig .tc) (h : r ∉ wrs13) : V m c r = StableHlo.after hostOps0_12 (Vp m c 12) (Proc.devRef .tc r) := by
  rw [cut' m c 12 hostOps0_12 rfl]
  exact StableHlo.after_unwritten wrs13 rfl h _
theorem in13 (r : Ref sig .tc) (h : r ∉ wrs13) : Vp m c 13 (Proc.devRef .tc r) = V m c r := by
  rw [cut m c 13]
  exact (StableHlo.after_unwritten wrs13 rfl h _).symm
theorem at13 (r : Ref sig .tc) (h : r ∉ wrs14) : V m c r = StableHlo.after hostOps0_13 (Vp m c 13) (Proc.devRef .tc r) := by
  rw [cut' m c 13 hostOps0_13 rfl]
  exact StableHlo.after_unwritten wrs14 rfl h _
theorem in14 (r : Ref sig .tc) (h : r ∉ wrs14) : Vp m c 14 (Proc.devRef .tc r) = V m c r := by
  rw [cut m c 14]
  exact (StableHlo.after_unwritten wrs14 rfl h _).symm
theorem at14 (r : Ref sig .tc) (h : r ∉ wrs15) : V m c r = StableHlo.after hostOps0_14 (Vp m c 14) (Proc.devRef .tc r) := by
  rw [cut' m c 14 hostOps0_14 rfl]
  exact StableHlo.after_unwritten wrs15 rfl h _
theorem in15 (r : Ref sig .tc) (h : r ∉ wrs15) : Vp m c 15 (Proc.devRef .tc r) = V m c r := by
  rw [cut m c 15]
  exact (StableHlo.after_unwritten wrs15 rfl h _).symm
theorem at15 (r : Ref sig .tc) (h : r ∉ wrs16) : V m c r = StableHlo.after hostOps0_15 (Vp m c 15) (Proc.devRef .tc r) := by
  rw [cut' m c 15 hostOps0_15 rfl]
  exact StableHlo.after_unwritten wrs16 rfl h _
theorem in16 (r : Ref sig .tc) (h : r ∉ wrs16) : Vp m c 16 (Proc.devRef .tc r) = V m c r := by
  rw [cut m c 16]
  exact (StableHlo.after_unwritten wrs16 rfl h _).symm
theorem at16 (r : Ref sig .tc) (h : r ∉ wrs17) : V m c r = StableHlo.after hostOps0_16 (Vp m c 16) (Proc.devRef .tc r) := by
  rw [cut' m c 16 hostOps0_16 rfl]
  exact StableHlo.after_unwritten wrs17 rfl h _
theorem in17 (r : Ref sig .tc) (h : r ∉ wrs17) : Vp m c 17 (Proc.devRef .tc r) = V m c r := by
  rw [cut m c 17]
  exact (StableHlo.after_unwritten wrs17 rfl h _).symm
theorem at17 (r : Ref sig .tc) (h : r ∉ wrs18) : V m c r = StableHlo.after hostOps0_17 (Vp m c 17) (Proc.devRef .tc r) := by
  rw [cut' m c 17 hostOps0_17 rfl]
  exact StableHlo.after_unwritten wrs18 rfl h _
theorem in18 (r : Ref sig .tc) (h : r ∉ wrs18) : Vp m c 18 (Proc.devRef .tc r) = V m c r := by
  rw [cut m c 18]
  exact (StableHlo.after_unwritten wrs18 rfl h _).symm
theorem at18 (r : Ref sig .tc) (h : r ∉ wrs19) : V m c r = StableHlo.after hostOps0_18 (Vp m c 18) (Proc.devRef .tc r) := by
  rw [cut' m c 18 hostOps0_18 rfl]
  exact StableHlo.after_unwritten wrs19 rfl h _
theorem in19 (r : Ref sig .tc) (h : r ∉ wrs19) : Vp m c 19 (Proc.devRef .tc r) = V m c r := by
  rw [cut m c 19]
  exact (StableHlo.after_unwritten wrs19 rfl h _).symm
theorem at19 (r : Ref sig .tc) (h : r ∉ wrs20) : V m c r = StableHlo.after hostOps0_19 (Vp m c 19) (Proc.devRef .tc r) := by
  rw [cut' m c 19 hostOps0_19 rfl]
  exact StableHlo.after_unwritten wrs20 rfl h _
theorem in20 (r : Ref sig .tc) (h : r ∉ wrs20) : Vp m c 20 (Proc.devRef .tc r) = V m c r := by
  rw [cut m c 20]
  exact (StableHlo.after_unwritten wrs20 rfl h _).symm
theorem at20 (r : Ref sig .tc) (h : r ∉ wrs21) : V m c r = StableHlo.after hostOps0_20 (Vp m c 20) (Proc.devRef .tc r) := by
  rw [cut' m c 20 hostOps0_20 rfl]
  exact StableHlo.after_unwritten wrs21 rfl h _

end Cert.KernelIdeal.Hand
-- ==== Proof.HostAt.lean ====
/-
  Each table's word, in terms of the words of what the host computed before it.
-/
module

public import proofs.«01_k».proof.Proof.HostCut
public import Idealize.ShloMosaic.Lib.Pointwise
public import Idealize.ShloMosaic.Lib.Routing.OpsSet
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (c : Dev nD)

def cnW (e : Fin 32) : BitVec 32 := (show S32.Idx → BitVec 32 from V m c main_arg0) (ix1 e)
def enW (e : Fin 32) : BitVec 32 := (show S32.Idx → BitVec 32 from V m c main_v0) (ix1 e)
def stW (e : Fin 32) : BitVec 32 := (show S32.Idx → BitVec 32 from V m c main_v1) (ix1 e)
def ftW (e : Fin 32) : BitVec 32 := (show S32.Idx → BitVec 32 from V m c main_v2) (ix1 e)
def lcW (e : Fin 32) : BitVec 32 := (show S32.Idx → BitVec 32 from V m c main_v6) (ix1 e)
def ltW (e : Fin 32) : BitVec 32 := (show S32.Idx → BitVec 32 from V m c main_v7) (ix1 e)
def ipW (e : Fin 32) : BitVec 32 := (show S32.Idx → BitVec 32 from V m c main_v13) (ix1 e)
def ieW (e : Fin 32) : BitVec 32 := (show S32.Idx → BitVec 32 from V m c main_v14) (ix1 e)
def naW (e : Fin 32) : BitVec 32 := (show S32.Idx → BitVec 32 from V m c main_v85) (ix1 e)
def nmW (e : Fin 32) : BitVec 32 := (show S32.Idx → BitVec 32 from V m c main_v82) (ix1 e)
def sxW (e : Fin 32) : BitVec 32 := (show S32.Idx → BitVec 32 from V m c main_v87) (ix1 e)
def smW (e : Fin 32) : BitVec 32 := (show S32.Idx → BitVec 32 from V m c main_v89) (ix1 e)
def soW (e : Fin 32) : BitVec 32 := (show S32.Idx → BitVec 32 from V m c main_v90) (ix1 e)
def acW (e : Fin 32) : BitVec 32 := (show S32.Idx → BitVec 32 from V m c main_v86) (ix1 e)
def a12W (e : Fin 32) : BitVec 32 := (show S32.Idx → BitVec 32 from V m c main_v12) (ix1 e)
def exW (j : Fin 159) : BitVec 32 := (show S159.Idx → BitVec 32 from V m c main_v29) (ix1 j)
def tlW (j : Fin 159) : BitVec 32 := (show S159.Idx → BitVec 32 from V m c main_v46) (ix1 j)
def lxW (j : Fin 159) : BitVec 32 := (show S159.Idx → BitVec 32 from V m c main_v56) (ix1 j)
def hxW (j : Fin 159) : BitVec 32 := (show S159.Idx → BitVec 32 from V m c main_v67) (ix1 j)
def loW (j : Fin 159) : BitVec 32 := (show S159.Idx → BitVec 32 from V m c main_v57) (ix1 j)
def hiW (j : Fin 159) : BitVec 32 := (show S159.Idx → BitVec 32 from V m c main_v68) (ix1 j)
def nxW (j : Fin 159) : BitVec 32 := (show S159.Idx → BitVec 32 from V m c main_v97) (ix1 j)
def slW (j : Fin 159) : BitVec 32 := (show S159.Idx → BitVec 32 from V m c main_v104) (ix1 j)
def paW (e : Fin 32) : BitVec 1 := (show S32.Idx → BitVec 1 from V m c main_v9) (ix1 e)
def pbW (e : Fin 32) : BitVec 1 := (show S32.Idx → BitVec 1 from V m c main_v70) (ix1 e)
def pcW (e : Fin 32) : BitVec 1 := (show S32.Idx → BitVec 1 from V m c main_v84) (ix1 e)
def mkW (e x : Fin 32) : BitVec 1 := (show S32x32.Idx → BitVec 1 from V m c main_v79) (ix2 e x)
def laW (e x : Fin 32) : BitVec 32 := (show S32x32.Idx → BitVec 32 from V m c main_v81) (ix2 e x)
def idW (e : Fin 32) : BitVec 32 := (show S1x32.Idx → BitVec 32 from V m c main_v80) (ix2 0 e)
def nnW (j : Fin 1) : BitVec 32 := (show S1.Idx → BitVec 32 from V m c main_v15) (ix1 j)

/-- Division rounding down, as the host computes it. -/
def fdiv (x d : BitVec 32) : BitVec 32 :=
  Scalar.select
    (IntOp.andi (IntOp.cmpi .ne (if x = 0 then 0 else if BitVec.msb x = true then -1 else 1 : BitVec 32)
        (if d = 0 then 0 else if BitVec.msb d = true then -1 else 1))
      (IntOp.cmpi .ne (IntOp.remsi .host x d) 0#32))
    (IntOp.subi (IntOp.divsi .host x d) 1#32) (IntOp.divsi .host x d)

/-- The remainder of division rounding down, as the host computes it. -/
def frem (x d : BitVec 32) : BitVec 32 :=
  let d' := Scalar.select (IntOp.cmpi .eq d 0#32) (1#32) d
  Scalar.select
    (IntOp.andi (IntOp.cmpi .ne (IntOp.cmpi .slt (IntOp.remsi .host x d') 0#32) (IntOp.cmpi .slt d' 0#32))
      (IntOp.cmpi .ne (IntOp.remsi .host x d') 0#32))
    (IntOp.addi (IntOp.remsi .host x d') d') (IntOp.remsi .host x d')

/-- A table of 32 words read at 159 indices, a negative index counting from the end. -/
def gat (tab : S32.Idx → BitVec 32) (ixs : S159.Idx → BitVec 32) : S159.Idx → BitVec 32 :=
  Host.gather gather_S32_S159x1_S159_n_0_n_n_0_1_1 tab
    (broadcastInDim S159x1 ![0] bcast_S159_S159x1_0
      (select (cmpi .slt ixs (broadcastInDim S159 ![] bcast_S_S159 (constantI S_ 32 0#32)))
        (addi ixs (broadcastInDim S159 ![] bcast_S_S159 (constantI S_ 32 32#32))) ixs))

/-- The expert of each item, from the counts of items up to each expert. -/
def exV (v14 : S32.Idx → BitVec 32) : S159.Idx → BitVec 32 :=
  minsi
    (Host.reduce IntOp.addi
      (extui 32
        (cmpi .sle
          (broadcastInDim S159x32 ![0, 1] bcast_S1x32_S159x32_0_1 (broadcastInDim S1x32 ![1] bcast_S32_S1x32_1 v14))
          (broadcastInDim S159x32 ![0, 1] bcast_S159x1_S159x32_0_1
            (broadcastInDim S159x1 ![0] bcast_S159_S159x1_0
              (minsi (iotaInDim S159 32 0)
                (broadcastInDim S159 ![] bcast_S_S159
                  (subi (fun _ => v14 (ix1 31)) (constantI S_ 32 1#32)))))))
        natLt_1_32)
      (constantI S_ 32 0#32) reducesTo_S159x32_S159_d1 h_S_)
    (broadcastInDim S159 ![] bcast_S_S159 (constantI S_ 32 31#32))

theorem exV_at (v : S32.Idx → BitVec 32) (j : Fin 159) : exV v (ix1 j) =
    IntOp.minsi (Finset.fold IntOp.addi (0#32) (fun x : Fin 32 => BitVec.setWidth 32
      (IntOp.cmpi .sle (v (ix1 x)) (IntOp.minsi (BitVec.ofNat 32 j.val) (IntOp.subi (v (ix1 31)) 1#32)))) Finset.univ) 31#32 := by
  unfold exV
  pointwise

theorem gat_at (tab : S32.Idx → BitVec 32) (ixs : S159.Idx → BitVec 32) (j : Fin 159) (e : Fin 32)
    (h : ixs (ix1 j) = BitVec.ofNat 32 e.val) : gat tab ixs (ix1 j) = tab (ix1 e) := by
  unfold gat
  refine Routing.gather_take1 _ rfl rfl rfl rfl _ _ _ e ?_ (by norm_num)
  have : (Scalar.select (IntOp.cmpi .slt (ixs (ix1 j)) 0#32) (IntOp.addi (ixs (ix1 j)) 32#32) (ixs (ix1 j))) = BitVec.ofNat 32 e.val := by
    rw [h]
    clear h
    revert e
    decide
  refine Eq.trans ?_ this
  show broadcastInDim S159x1 ![0] bcast_S159_S159x1_0
    (select (cmpi .slt ixs (broadcastInDim S159 ![] bcast_S_S159 (constantI S_ 32 0#32)))
      (addi ixs (broadcastInDim S159 ![] bcast_S_S159 (constantI S_ 32 32#32))) ixs) (ix2 j 0) = _
  pointwise

theorem en_eq (e : Fin 32) : enW m c e = Host.reduceWindow IntOp.addi ![32] ![1] ![31] ![0] (show S32.Idx → BitVec 32 from V m c main_arg0)
      (broadcastInDim S_ ![] bcast_S_S_ (constantI S_ 32 0#32)) reduceWindows_S32_S32_w32s1p31_0 h_S_ (ix1 e) := by
  try unfold enW
  try unfold cnW
  rw [at0 m c main_v0 (by decide)]
  have h0 := in0 m c main_arg0 (by decide)
  generalize Vp m c 0 = X at *
  try rw [← h0]
  after_reads_at
  all_goals rfl

theorem st_eq (e : Fin 32) : stW m c e = IntOp.subi (enW m c e) (cnW m c e) := by
  try unfold stW
  try unfold enW
  try unfold cnW
  rw [at1 m c main_v1 (by decide)]
  have h0 := in1 m c main_v0 (by decide)
  have h1 := in1 m c main_arg0 (by decide)
  generalize Vp m c 1 = X at *
  try rw [← h0]
  try rw [← h1]
  after_reads_at
  all_goals rfl

theorem ft_eq (e : Fin 32) : ftW m c e = fdiv (stW m c e) 512#32 := by
  try unfold ftW
  try unfold stW
  rw [at2 m c main_v2 (by decide)]
  have h0 := in2 m c main_v1 (by decide)
  have h1 := in2 m c main_c (by decide)
  generalize Vp m c 2 = X at *
  try rw [← h0]
  try rw [← h1]
  have g0 : V m c main_c = constantI S_ 32 512#32 := by rw [at1 m c main_c (by decide)]; generalize Vp m c 1 = Y; after_reads_simp; try rfl
  rw [g0] at h1
  after_reads_at
  all_goals (try rw [h1])
  all_goals rfl

theorem lc_eq (e : Fin 32) : lcW m c e = IntOp.maxsi (IntOp.subi (enW m c e) 1#32) 0#32 := by
  try unfold lcW
  try unfold enW
  rw [at3 m c main_v6 (by decide)]
  have h0 := in3 m c main_v0 (by decide)
  generalize Vp m c 3 = X at *
  try rw [← h0]
  after_reads_at
  all_goals rfl

theorem lt_eq (e : Fin 32) : ltW m c e = fdiv (lcW m c e) 512#32 := by
  try unfold ltW
  try unfold lcW
  rw [at4 m c main_v7 (by decide)]
  have h0 := in4 m c main_v6 (by decide)
  have h1 := in4 m c main_c_2 (by decide)
  generalize Vp m c 4 = X at *
  try rw [← h0]
  try rw [← h1]
  have g0 : V m c main_c_2 = constantI S_ 32 512#32 := by rw [at3 m c main_c_2 (by decide)]; generalize Vp m c 3 = Y; after_reads_simp; try rfl
  rw [g0] at h1
  after_reads_at
  all_goals (try rw [h1])
  all_goals rfl

theorem a12_eq (e : Fin 32) : a12W m c e = IntOp.addi (IntOp.subi (ltW m c e) (ftW m c e)) 1#32 := by
  try unfold a12W
  try unfold ltW
  try unfold ftW
  rw [at5 m c main_v12 (by decide)]
  have h0 := in5 m c main_v7 (by decide)
  have h1 := in5 m c main_v2 (by decide)
  generalize Vp m c 5 = X at *
  try rw [← h0]
  try rw [← h1]
  after_reads_at
  all_goals rfl

theorem pa_eq (e : Fin 32) : paW m c e = IntOp.cmpi .sgt (cnW m c e) 0#32 := by
  try unfold paW
  try unfold cnW
  rw [at5 m c main_v9 (by decide)]
  have h0 := in5 m c main_arg0 (by decide)
  generalize Vp m c 5 = X at *
  try rw [← h0]
  after_reads_at
  all_goals rfl

theorem ip_eq (e : Fin 32) : ipW m c e = Scalar.select (paW m c e) (a12W m c e) 0#32 := by
  try unfold ipW
  try unfold paW
  try unfold a12W
  rw [at6 m c main_v13 (by decide)]
  have h0 := in6 m c main_v9 (by decide)
  have h1 := in6 m c main_v12 (by decide)
  have h2 := in6 m c main_c_5 (by decide)
  generalize Vp m c 6 = X at *
  try rw [← h0]
  try rw [← h1]
  try rw [← h2]
  have g0 : V m c main_c_5 = constantI S_ 32 0#32 := by rw [at5 m c main_c_5 (by decide)]; generalize Vp m c 5 = Y; after_reads_simp; try rfl
  rw [g0] at h2
  after_reads_at
  all_goals (try rw [h2])
  all_goals rfl

theorem ie_eq (e : Fin 32) : ieW m c e = Host.reduceWindow IntOp.addi ![32] ![1] ![31] ![0] (show S32.Idx → BitVec 32 from V m c main_v13)
      (broadcastInDim S_ ![] bcast_S_S_ (constantI S_ 32 0#32)) reduceWindows_S32_S32_w32s1p31_0 h_S_ (ix1 e) := by
  try unfold ieW
  try unfold ipW
  rw [at7 m c main_v14 (by decide)]
  have h0 := in7 m c main_v13 (by decide)
  generalize Vp m c 7 = X at *
  try rw [← h0]
  after_reads_at
  all_goals rfl

theorem nn_eq (j : Fin 1) : nnW m c j = ieW m c 31 := by
  try unfold nnW
  try unfold ieW
  rw [at8 m c main_v15 (by decide)]
  have h0 := in8 m c main_v14 (by decide)
  generalize Vp m c 8 = X at *
  try rw [← h0]
  after_reads_at
  all_goals rfl

theorem ex_eq (j : Fin 159) : exW m c j = IntOp.minsi (Finset.fold IntOp.addi (0#32) (fun x : Fin 32 => BitVec.setWidth 32
      (IntOp.cmpi .sle (ieW m c x) (IntOp.minsi (BitVec.ofNat 32 j.val) (IntOp.subi (ieW m c 31) 1#32)))) Finset.univ) 31#32 := by
  try unfold exW
  try unfold ieW
  rw [at8 m c main_v29 (by decide)]
  have h0 := in8 m c main_v14 (by decide)
  generalize Vp m c 8 = X at *
  try rw [← h0]
  after_reads_at
  all_goals rfl

theorem tl_eq (j : Fin 159) : tlW m c j = IntOp.addi (gat (show S32.Idx → BitVec 32 from V m c main_v2) (exV (show S32.Idx → BitVec 32 from V m c main_v14)) (ix1 j))
      (IntOp.subi (IntOp.minsi (BitVec.ofNat 32 j.val) (IntOp.subi (ieW m c 31) 1#32))
        (gat (subi (show S32.Idx → BitVec 32 from V m c main_v14) (show S32.Idx → BitVec 32 from V m c main_v13)) (exV (show S32.Idx → BitVec 32 from V m c main_v14)) (ix1 j))) := by
  try unfold tlW
  try unfold ieW
  try unfold ftW
  try unfold ipW
  rw [at8 m c main_v46 (by decide)]
  have h0 := in8 m c main_v14 (by decide)
  have h1 := in8 m c main_v2 (by decide)
  have h2 := in8 m c main_v13 (by decide)
  generalize Vp m c 8 = X at *
  try rw [← h0]
  try rw [← h1]
  try rw [← h2]
  after_reads_at
  all_goals rfl

theorem lx_eq (j : Fin 159) : lxW m c j = IntOp.subi (gat (show S32.Idx → BitVec 32 from V m c main_v1) (exV (show S32.Idx → BitVec 32 from V m c main_v14)) (ix1 j))
      (IntOp.muli (IntOp.addi (gat (show S32.Idx → BitVec 32 from V m c main_v2) (exV (show S32.Idx → BitVec 32 from V m c main_v14)) (ix1 j))
      (IntOp.subi (IntOp.minsi (BitVec.ofNat 32 j.val) (IntOp.subi (ieW m c 31) 1#32))
        (gat (subi (show S32.Idx → BitVec 32 from V m c main_v14) (show S32.Idx → BitVec 32 from V m c main_v13)) (exV (show S32.Idx → BitVec 32 from V m c main_v14)) (ix1 j)))) 512#32) := by
  try unfold lxW
  try unfold ieW
  try unfold stW
  try unfold ftW
  try unfold ipW
  rw [at8 m c main_v56 (by decide)]
  have h0 := in8 m c main_v14 (by decide)
  have h1 := in8 m c main_v1 (by decide)
  have h2 := in8 m c main_v2 (by decide)
  have h3 := in8 m c main_v13 (by decide)
  generalize Vp m c 8 = X at *
  try rw [← h0]
  try rw [← h1]
  try rw [← h2]
  try rw [← h3]
  after_reads_at
  all_goals rfl

theorem lo_eq (j : Fin 159) : loW m c j = IntOp.minsi 512#32 (IntOp.maxsi 0#32 (lxW m c j)) := by
  try unfold loW
  try unfold lxW
  rw [at9 m c main_v57 (by decide)]
  have h0 := in9 m c main_v56 (by decide)
  have h1 := in9 m c main_c_16 (by decide)
  have h2 := in9 m c main_c_17 (by decide)
  generalize Vp m c 9 = X at *
  try rw [← h0]
  try rw [← h1]
  try rw [← h2]
  have g0 : V m c main_c_16 = constantI S_ 32 0#32 := by rw [at8 m c main_c_16 (by decide)]; generalize Vp m c 8 = Y; after_reads_simp; try rfl
  rw [g0] at h1
  have g1 : V m c main_c_17 = constantI S_ 32 512#32 := by rw [at8 m c main_c_17 (by decide)]; generalize Vp m c 8 = Y; after_reads_simp; try rfl
  rw [g1] at h2
  after_reads_at
  all_goals (try rw [h1])
  all_goals (try rw [h2])
  all_goals rfl

theorem hx_eq (j : Fin 159) : hxW m c j = IntOp.subi (gat (show S32.Idx → BitVec 32 from V m c main_v0) (show S159.Idx → BitVec 32 from V m c main_v29) (ix1 j)) (IntOp.muli (tlW m c j) 512#32) := by
  try unfold hxW
  try unfold enW
  try unfold exW
  try unfold tlW
  rw [at10 m c main_v67 (by decide)]
  have h0 := in10 m c main_v0 (by decide)
  have h1 := in10 m c main_v29 (by decide)
  have h2 := in10 m c main_v46 (by decide)
  generalize Vp m c 10 = X at *
  try rw [← h0]
  try rw [← h1]
  try rw [← h2]
  after_reads_at
  all_goals rfl

theorem hi_eq (j : Fin 159) : hiW m c j = IntOp.minsi 512#32 (IntOp.maxsi 0#32 (hxW m c j)) := by
  try unfold hiW
  try unfold hxW
  rw [at11 m c main_v68 (by decide)]
  have h0 := in11 m c main_v67 (by decide)
  have h1 := in11 m c main_c_21 (by decide)
  have h2 := in11 m c main_c_22 (by decide)
  generalize Vp m c 11 = X at *
  try rw [← h0]
  try rw [← h1]
  try rw [← h2]
  have g0 : V m c main_c_21 = constantI S_ 32 0#32 := by rw [at10 m c main_c_21 (by decide)]; generalize Vp m c 10 = Y; after_reads_simp; try rfl
  rw [g0] at h1
  have g1 : V m c main_c_22 = constantI S_ 32 512#32 := by rw [at10 m c main_c_22 (by decide)]; generalize Vp m c 10 = Y; after_reads_simp; try rfl
  rw [g1] at h2
  after_reads_at
  all_goals (try rw [h1])
  all_goals (try rw [h2])
  all_goals rfl

theorem pb_eq (e : Fin 32) : pbW m c e = IntOp.cmpi .sgt (cnW m c e) 0#32 := by
  try unfold pbW
  try unfold cnW
  rw [at12 m c main_v70 (by decide)]
  have h0 := in12 m c main_arg0 (by decide)
  generalize Vp m c 12 = X at *
  try rw [← h0]
  after_reads_at
  all_goals rfl

theorem mk_eq (e x : Fin 32) : mkW m c e x = IntOp.andi (IntOp.cmpi .sgt (BitVec.ofNat 32 x.val) (BitVec.ofNat 32 e.val)) (IntOp.cmpi .sgt (cnW m c x) 0#32) := by
  try unfold mkW
  try unfold cnW
  rw [at12 m c main_v79 (by decide)]
  have h0 := in12 m c main_arg0 (by decide)
  generalize Vp m c 12 = X at *
  try rw [← h0]
  after_reads_at
  all_goals rfl

theorem id_eq (e : Fin 32) : idW m c e = BitVec.ofNat 32 e.val := by
  try unfold idW
  rw [at12 m c main_v80 (by decide)]
  generalize Vp m c 12 = X at *
  after_reads_at
  all_goals rfl

theorem la_eq (e x : Fin 32) : laW m c e x = Scalar.select (mkW m c e x) (idW m c x) 32#32 := by
  try unfold laW
  try unfold mkW
  try unfold idW
  rw [at13 m c main_v81 (by decide)]
  have h0 := in13 m c main_v79 (by decide)
  have h1 := in13 m c main_v80 (by decide)
  have h2 := in13 m c main_c_24 (by decide)
  generalize Vp m c 13 = X at *
  try rw [← h0]
  try rw [← h1]
  try rw [← h2]
  have g0 : V m c main_c_24 = constantI S_ 32 32#32 := by rw [at12 m c main_c_24 (by decide)]; generalize Vp m c 12 = Y; after_reads_simp; try rfl
  rw [g0] at h2
  after_reads_at
  all_goals (try rw [h2])
  all_goals rfl

theorem nm_eq (e : Fin 32) : nmW m c e = Finset.fold IntOp.minsi (2147483647#32) (fun x => laW m c e x) Finset.univ := by
  try unfold nmW
  try unfold laW
  rw [at14 m c main_v82 (by decide)]
  have h0 := in14 m c main_v81 (by decide)
  generalize Vp m c 14 = X at *
  try rw [← h0]
  after_reads_at
  all_goals rfl

theorem pc_eq (e : Fin 32) : pcW m c e = IntOp.cmpi .slt (Finset.fold IntOp.minsi (2147483647#32) (fun x => laW m c e x) Finset.univ) 32#32 := by
  try unfold pcW
  try unfold laW
  rw [at14 m c main_v84 (by decide)]
  have h0 := in14 m c main_v81 (by decide)
  generalize Vp m c 14 = X at *
  try rw [← h0]
  after_reads_at
  all_goals rfl

theorem na_eq (e : Fin 32) : naW m c e = Scalar.select (pcW m c e) (nmW m c e) 4294967295#32 := by
  try unfold naW
  try unfold pcW
  try unfold nmW
  rw [at15 m c main_v85 (by decide)]
  have h0 := in15 m c main_v84 (by decide)
  have h1 := in15 m c main_v82 (by decide)
  have h2 := in15 m c main_c_27 (by decide)
  generalize Vp m c 15 = X at *
  try rw [← h0]
  try rw [← h1]
  try rw [← h2]
  have g0 : V m c main_c_27 = constantI S_ 32 4294967295#32 := by rw [at14 m c main_c_27 (by decide)]; generalize Vp m c 14 = Y; after_reads_simp; try rfl
  rw [g0] at h2
  after_reads_at
  all_goals (try rw [h2])
  all_goals rfl

theorem ac_eq (e : Fin 32) : acW m c e = BitVec.setWidth 32 (pbW m c e) := by
  try unfold acW
  try unfold pbW
  rw [at16 m c main_v86 (by decide)]
  have h0 := in16 m c main_v70 (by decide)
  generalize Vp m c 16 = X at *
  try rw [← h0]
  after_reads_at
  all_goals rfl

theorem sx_eq (e : Fin 32) : sxW m c e = Host.reduceWindow IntOp.addi ![32] ![1] ![31] ![0] (show S32.Idx → BitVec 32 from V m c main_v86)
      (broadcastInDim S_ ![] bcast_S_S_ (constantI S_ 32 0#32)) reduceWindows_S32_S32_w32s1p31_0 h_S_ (ix1 e) := by
  try unfold sxW
  try unfold acW
  rw [at17 m c main_v87 (by decide)]
  have h0 := in17 m c main_v86 (by decide)
  generalize Vp m c 17 = X at *
  try rw [← h0]
  after_reads_at
  all_goals rfl

theorem sm_eq (e : Fin 32) : smW m c e = IntOp.subi (sxW m c e) 1#32 := by
  try unfold smW
  try unfold sxW
  rw [at18 m c main_v89 (by decide)]
  have h0 := in18 m c main_v87 (by decide)
  generalize Vp m c 18 = X at *
  try rw [← h0]
  after_reads_at
  all_goals rfl

theorem so_eq (e : Fin 32) : soW m c e = frem (smW m c e) 2#32 := by
  try unfold soW
  try unfold smW
  rw [at19 m c main_v90 (by decide)]
  have h0 := in19 m c main_v89 (by decide)
  have h1 := in19 m c main_c_29 (by decide)
  generalize Vp m c 19 = X at *
  try rw [← h0]
  try rw [← h1]
  have g0 : V m c main_c_29 = constantI S_ 32 2#32 := by rw [at18 m c main_c_29 (by decide)]; generalize Vp m c 18 = Y; after_reads_simp; try rfl
  rw [g0] at h1
  after_reads_at
  all_goals (try rw [h1])
  all_goals rfl

theorem nx_eq (j : Fin 159) : nxW m c j = gat (show S32.Idx → BitVec 32 from V m c main_v85) (show S159.Idx → BitVec 32 from V m c main_v29) (ix1 j) := by
  try unfold nxW
  try unfold naW
  try unfold exW
  rw [at20 m c main_v97 (by decide)]
  have h0 := in20 m c main_v85 (by decide)
  have h1 := in20 m c main_v29 (by decide)
  generalize Vp m c 20 = X at *
  try rw [← h0]
  try rw [← h1]
  after_reads_at
  all_goals rfl

theorem sl_eq (j : Fin 159) : slW m c j = gat (show S32.Idx → BitVec 32 from V m c main_v90) (show S159.Idx → BitVec 32 from V m c main_v29) (ix1 j) := by
  try unfold slW
  try unfold soW
  try unfold exW
  rw [at20 m c main_v104 (by decide)]
  have h0 := in20 m c main_v90 (by decide)
  have h1 := in20 m c main_v29 (by decide)
  generalize Vp m c 20 = X at *
  try rw [← h0]
  try rw [← h1]
  after_reads_at
  all_goals rfl

end Cert.KernelIdeal.Hand
-- ==== Proof.Words.lean ====
/-
  What the host's word operations do to small counts.
-/
module

public import proofs.«01_k».proof.Proof.HostAt
public import Idealize.ShloMosaic.Lib.StableHlo.Predicate
public import Idealize.ShloMosaic.Lib.IndicatorCount

@[expose] public section

noncomputable section

namespace Cert.KernelIdeal.Hand

open Cert.KernelIdeal Cert.KernelIdeal.Gen
open Idealize.ShloMosaic Idealize.ShloMosaic.TcCoe

namespace W

theorem toInt_small {a : ℕ} (ha : a < 2 ^ 31) : (BitVec.ofNat 32 a).toInt = a := StableHlo.Predicate.toInt_ofNat_small a ha

theorem addi (a b : ℕ) : IntOp.addi (BitVec.ofNat 32 a) (BitVec.ofNat 32 b) = BitVec.ofNat 32 (a + b) :=
  (BitVec.ofNat_add a b).symm

theorem subi {a b : ℕ} (h : b ≤ a) (ha : a < 2 ^ 32) : IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

theorem toInt_subi {a b : ℕ} (ha : a < 2 ^ 30) (hb : b < 2 ^ 30) :
    (IntOp.subi (BitVec.ofNat 32 a) (BitVec.ofNat 32 b)).toInt = (a : Int) - b := by
  show (BitVec.ofNat 32 a - BitVec.ofNat 32 b).toInt = _
  rw [BitVec.toInt_sub, toInt_small (by omega), toInt_small (by omega), Int.bmod_eq_of_le (by omega) (by omega)]

theorem max0_subi {a b : ℕ} (ha : a < 2 ^ 30) (hb : b < 2 ^ 30) :
    IntOp.maxsi (IntOp.subi (BitVec.ofNat 32 a) (BitVec.ofNat 32 b)) 0#32 = BitVec.ofNat 32 (a - b) := by
  have h := toInt_subi ha hb
  unfold IntOp.maxsi
  split <;> rename_i hc <;> simp only [BitVec.slt, h, show (0#32 : BitVec 32).toInt = 0 from rfl, decide_eq_true_eq] at hc
  all_goals first
    | exact subi (by omega) (by omega)
    | (rw [show a - b = 0 by omega])

theorem max0_subi' {a b : ℕ} (ha : a < 2 ^ 30) (hb : b < 2 ^ 30) :
    IntOp.maxsi 0#32 (IntOp.subi (BitVec.ofNat 32 a) (BitVec.ofNat 32 b)) = BitVec.ofNat 32 (a - b) := by
  have h := toInt_subi ha hb
  unfold IntOp.maxsi
  split <;> rename_i hc <;> simp only [BitVec.slt, h, show (0#32 : BitVec 32).toInt = 0 from rfl, decide_eq_true_eq] at hc
  all_goals first
    | exact subi (by omega) (by omega)
    | (rw [show a - b = 0 by omega])

theorem minsi {a b : ℕ} (ha : a < 2 ^ 31) (hb : b < 2 ^ 31) :
    IntOp.minsi (BitVec.ofNat 32 a) (BitVec.ofNat 32 b) = BitVec.ofNat 32 (min a b) := by
  unfold IntOp.minsi
  simp only [BitVec.slt, toInt_small ha, toInt_small hb]
  by_cases hab : a < b
  · rw [if_pos (by simp; omega), min_eq_left (by omega)]
  · rw [if_neg (by simp; omega), min_eq_right (by omega)]

theorem muli {a b : ℕ} : IntOp.muli (BitVec.ofNat 32 a) (BitVec.ofNat 32 b) = BitVec.ofNat 32 (a * b) :=
  (BitVec.ofNat_mul a b).symm

theorem sgt_iff {a b : ℕ} (ha : a < 2 ^ 31) (hb : b < 2 ^ 31) :
    IntOp.cmpi .sgt (BitVec.ofNat 32 a) (BitVec.ofNat 32 b) = 1#1 ↔ b < a :=
  StableHlo.Predicate.slt_ofNat_iff b a hb ha

theorem slt_iff {a b : ℕ} (ha : a < 2 ^ 31) (hb : b < 2 ^ 31) :
    IntOp.cmpi .slt (BitVec.ofNat 32 a) (BitVec.ofNat 32 b) = 1#1 ↔ a < b :=
  StableHlo.Predicate.slt_ofNat_iff a b ha hb

theorem sle_iff {a b : ℕ} (ha : a < 2 ^ 31) (hb : b < 2 ^ 31) :
    IntOp.cmpi .sle (BitVec.ofNat 32 a) (BitVec.ofNat 32 b) = 1#1 ↔ a ≤ b :=
  StableHlo.Predicate.sle_ofNat_iff a b ha hb

theorem andi_iff (c d : BitVec 1) : IntOp.andi c d = 1#1 ↔ c = 1#1 ∧ d = 1#1 := by revert c d; decide

theorem msb_small {a : ℕ} (ha : a < 2 ^ 31) : (BitVec.ofNat 32 a).msb = false := by
  rw [BitVec.msb_eq_false_iff_two_mul_lt, BitVec.toNat_ofNat]
  omega

theorem divsi {a d : ℕ} (ha : a < 2 ^ 31) (hd : 0 < d) (hd' : d < 2 ^ 31) :
    IntOp.divsi .host (BitVec.ofNat 32 a) (BitVec.ofNat 32 d) = BitVec.ofNat 32 (a / d) := by
  have hc : ¬ IntOp.SDivCorner (BitVec.ofNat 32 a) (BitVec.ofNat 32 d) := by
    rintro (h | ⟨_, h⟩)
    · have := congrArg BitVec.toNat h
      simp only [BitVec.toNat_ofNat] at this
      rw [Nat.mod_eq_of_lt (by omega)] at this
      simp at this
      omega
    · have := congrArg BitVec.msb h
      rw [msb_small hd'] at this
      revert this
      decide
  unfold IntOp.divsi
  rw [if_neg hc, BitVec.sdiv_eq, msb_small ha, msb_small hd']
  have h1 : a / d ≤ a := Nat.div_le_self a d
  apply BitVec.eq_of_toNat_eq
  simp only [BitVec.udiv_eq, BitVec.toNat_udiv, BitVec.toNat_ofNat]
  rw [Nat.mod_eq_of_lt (show a < 2 ^ 32 by omega), Nat.mod_eq_of_lt (show d < 2 ^ 32 by omega), Nat.mod_eq_of_lt (show a / d < 2 ^ 32 by omega)]

theorem remsi {a d : ℕ} (ha : a < 2 ^ 31) (hd : 0 < d) (hd' : d < 2 ^ 31) :
    IntOp.remsi .host (BitVec.ofNat 32 a) (BitVec.ofNat 32 d) = BitVec.ofNat 32 (a % d) := by
  have hc : ¬ IntOp.SDivCorner (BitVec.ofNat 32 a) (BitVec.ofNat 32 d) := by
    rintro (h | ⟨_, h⟩)
    · have := congrArg BitVec.toNat h
      simp only [BitVec.toNat_ofNat] at this
      rw [Nat.mod_eq_of_lt (by omega)] at this
      simp at this
      omega
    · have := congrArg BitVec.msb h
      rw [msb_small hd'] at this
      revert this
      decide
  unfold IntOp.remsi
  rw [if_neg hc, BitVec.srem_eq, msb_small ha, msb_small hd']
  have h1 : a % d < d := Nat.mod_lt a hd
  apply BitVec.eq_of_toNat_eq
  simp only [BitVec.toNat_umod, BitVec.toNat_ofNat]
  rw [Nat.mod_eq_of_lt (show a < 2 ^ 32 by omega), Nat.mod_eq_of_lt (show d < 2 ^ 32 by omega), Nat.mod_eq_of_lt (show a % d < 2 ^ 32 by omega)]

theorem fdiv512 {a : ℕ} (ha : a < 2 ^ 31) : fdiv (BitVec.ofNat 32 a) 512#32 = BitVec.ofNat 32 (a / 512) := by
  have hd : IntOp.divsi .host (BitVec.ofNat 32 a) 512#32 = BitVec.ofNat 32 (a / 512) := divsi ha (by omega) (by omega)
  have hr : IntOp.remsi .host (BitVec.ofNat 32 a) 512#32 = BitVec.ofNat 32 (a % 512) := remsi ha (by omega) (by omega)
  unfold fdiv
  rw [hd, hr, msb_small ha]
  unfold Scalar.select
  rw [if_neg]
  show ¬ (_ = 1#1)
  rw [andi_iff]
  rintro ⟨h1, h2⟩
  by_cases h0 : a = 0
  · subst h0
    revert h2
    decide
  · have hne : ¬ (BitVec.ofNat 32 a = 0) := by
      intro h
      have := congrArg BitVec.toNat h
      simp only [BitVec.toNat_ofNat] at this
      rw [Nat.mod_eq_of_lt (by omega)] at this
      simp at this
      omega
    rw [if_neg hne, if_neg (by decide)] at h1
    revert h1
    decide

theorem frem2 {a : ℕ} (ha : a < 2 ^ 31) : frem (BitVec.ofNat 32 a) 2#32 = BitVec.ofNat 32 (a % 2) := by
  have hs : Scalar.select (IntOp.cmpi .eq (2#32 : BitVec 32) 0#32) (1#32) 2#32 = 2#32 := by decide
  have hr : IntOp.remsi .host (BitVec.ofNat 32 a) 2#32 = BitVec.ofNat 32 (a % 2) := remsi ha (by omega) (by omega)
  unfold frem
  simp only [hs, hr]
  rcases Nat.mod_two_eq_zero_or_one a with h | h <;> rw [h] <;> decide

theorem select_pos {α : Type} {c : BitVec 1} (h : c = 1#1) (x y : α) : Scalar.select c x y = x := if_pos h
theorem select_neg {α : Type} {c : BitVec 1} (h : ¬ c = 1#1) (x y : α) : Scalar.select c x y = y := if_neg h

theorem toNat_ofNat {a : ℕ} (ha : a < 2 ^ 32) : (BitVec.ofNat 32 a).toNat = a := by
  rw [BitVec.toNat_ofNat, Nat.mod_eq_of_lt ha]

theorem inj {a b : ℕ} (ha : a < 2 ^ 32) (hb : b < 2 ^ 32) : BitVec.ofNat 32 a = BitVec.ofNat 32 b ↔ a = b := by
  constructor
  · intro h
    have := congrArg BitVec.toNat h
    rwa [toNat_ofNat ha, toNat_ofNat hb] at this
  · intro h; rw [h]

/-- The smallest of a set of small numbers, as a fold of words. -/
theorem fold_min (S : Finset (Fin 32)) (f : Fin 32 → ℕ) (hf : ∀ i, f i ≤ 32) :
    S.fold IntOp.minsi 2147483647#32 (fun i => BitVec.ofNat 32 (f i)) = BitVec.ofNat 32 (S.fold min 2147483647 f) := by
  have hle : ∀ S : Finset (Fin 32), S.fold min 2147483647 f ≤ 2147483647 := fun S => by
    induction S using Finset.induction_on with
    | empty => simp
    | insert a S ha ih => rw [Finset.fold_insert ha]; omega
  induction S using Finset.induction_on with
  | empty => rfl
  | insert a S ha ih =>
    rw [Finset.fold_insert ha, Finset.fold_insert ha, ih, minsi (by have := hf a; omega) (by have := hle S; omega)]

end W

end Cert.KernelIdeal.Hand

end
-- ==== Proof.Items.lean ====
module

public import Mathlib.Algebra.BigOperators.Intervals
public import Mathlib.Algebra.Order.BigOperators.Group.Finset
public import Mathlib.Tactic.Ring

@[expose] public section

noncomputable section

namespace Cert.Items

open Finset

/-- How many rows come before expert `e`'s. -/
def P (cnt : ℕ → ℕ) (e : ℕ) : ℕ := ∑ i ∈ range e, cnt i

/-- How many items expert `e` has: one for each tile its rows touch. -/
def ip (cnt : ℕ → ℕ) (e : ℕ) : ℕ := if 0 < cnt e then (P cnt (e + 1) - 1) / 512 - P cnt e / 512 + 1 else 0

/-- How many items come before expert `e`'s. -/
def Q (cnt : ℕ → ℕ) (e : ℕ) : ℕ := ∑ i ∈ range e, ip cnt i

/-- How many experts before `e` have rows. -/
def R (cnt : ℕ → ℕ) (e : ℕ) : ℕ := ∑ i ∈ range e, if 0 < cnt i then 1 else 0

/-- The expert of item `j`: the number of experts whose items all come before it. -/
def ex (cnt : ℕ → ℕ) (j : ℕ) : ℕ := ((range 32).filter fun e => Q cnt (e + 1) ≤ j).card

/-- The tile of item `j`. -/
def tl (cnt : ℕ → ℕ) (j : ℕ) : ℕ := P cnt (ex cnt j) / 512 + (j - Q cnt (ex cnt j))

variable {cnt : ℕ → ℕ}

theorem P_succ (e : ℕ) : P cnt (e + 1) = P cnt e + cnt e := sum_range_succ _ _
theorem Q_succ (e : ℕ) : Q cnt (e + 1) = Q cnt e + ip cnt e := sum_range_succ _ _
theorem R_succ (e : ℕ) : R cnt (e + 1) = R cnt e + if 0 < cnt e then 1 else 0 := sum_range_succ _ _

theorem mono_of_succ {f : ℕ → ℕ} (h : ∀ e, f e ≤ f (e + 1)) {a b : ℕ} (hab : a ≤ b) : f a ≤ f b :=
  monotone_nat_of_le_succ h hab

theorem P_mono {a b : ℕ} (h : a ≤ b) : P cnt a ≤ P cnt b := mono_of_succ (fun e => by rw [P_succ]; omega) h
theorem Q_mono {a b : ℕ} (h : a ≤ b) : Q cnt a ≤ Q cnt b := mono_of_succ (fun e => by rw [Q_succ]; omega) h
theorem R_mono {a b : ℕ} (h : a ≤ b) : R cnt a ≤ R cnt b := mono_of_succ (fun e => by rw [R_succ]; omega) h

theorem ip_pos {e : ℕ} (h : 0 < cnt e) : 0 < ip cnt e := by unfold ip; rw [if_pos h]; omega
theorem ip_zero {e : ℕ} (h : cnt e = 0) : ip cnt e = 0 := by unfold ip; rw [if_neg (by omega)]
theorem pos_of_ip {e : ℕ} (h : 0 < ip cnt e) : 0 < cnt e := by
  by_contra h'
  have := ip_zero (cnt := cnt) (e := e) (by omega)
  omega

theorem Q_zero : Q cnt 0 = 0 := rfl
theorem P_zero : P cnt 0 = 0 := rfl
theorem R_zero : R cnt 0 = 0 := rfl

theorem Q_le (e : ℕ) : Q cnt e ≤ (P cnt e - 1) / 512 + e := by
  induction e with
  | zero => simp [Q_zero]
  | succ e ih =>
    rw [Q_succ]
    have h1 : P cnt (e + 1) = P cnt e + cnt e := P_succ e
    by_cases h : 0 < cnt e
    · have hi : ip cnt e = (P cnt (e + 1) - 1) / 512 - P cnt e / 512 + 1 := by unfold ip; rw [if_pos h]
      omega
    · rw [ip_zero (by omega)]
      have : cnt e = 0 := by omega
      rw [h1, this]
      simp only [Nat.add_zero]
      omega

/-- What the counts are: of 32 experts, 65536 rows in all. -/
structure Counts (cnt : ℕ → ℕ) : Prop where
  total : P cnt 32 = 65536

variable (C : Counts cnt)
include C

theorem n_le : Q cnt 32 ≤ 159 := by
  have := Q_le (cnt := cnt) 32
  rw [C.total] at this
  omega

theorem n_pos : 1 ≤ Q cnt 32 := by
  by_contra h
  have h0 : Q cnt 32 = 0 := by omega
  have : ∀ e, e ≤ 32 → P cnt e = 0 := by
    intro e he
    induction e with
    | zero => rfl
    | succ e ih =>
      have := Q_mono (cnt := cnt) he
      rw [Q_succ] at this
      have hc : cnt e = 0 := by
        by_contra hc
        have := ip_pos (cnt := cnt) (e := e) (by omega)
        omega
      rw [P_succ, ih (by omega), hc]
  have := this 32 (le_refl _)
  have := C.total
  omega

omit C in
/-- The expert of an item is the one whose range of items it lies in. -/
theorem ex_eq {j e : ℕ} (he : e < 32) (h1 : Q cnt e ≤ j) (h2 : j < Q cnt (e + 1)) : ex cnt j = e := by
  unfold ex
  have : ((range 32).filter fun i => Q cnt (i + 1) ≤ j) = range e := by
    ext i
    simp only [mem_filter, mem_range]
    constructor
    · rintro ⟨_, h⟩
      by_contra hc
      have := Q_mono (cnt := cnt) (a := e + 1) (b := i + 1) (by omega)
      omega
    · intro h
      have := Q_mono (cnt := cnt) (a := i + 1) (b := e) (by omega)
      exact ⟨by omega, by omega⟩
  rw [this, card_range]

omit C in
theorem ex_exists {j : ℕ} (hj : j < Q cnt 32) : ∃ e, e < 32 ∧ Q cnt e ≤ j ∧ j < Q cnt (e + 1) := by
  have key : ∀ k, j < Q cnt k → ∃ e, e < k ∧ Q cnt e ≤ j ∧ j < Q cnt (e + 1) := by
    intro k
    induction k with
    | zero => intro h; rw [Q_zero] at h; omega
    | succ k ih =>
      intro h
      by_cases hk : j < Q cnt k
      · obtain ⟨e, a, b⟩ := ih hk
        exact ⟨e, by omega, b⟩
      · exact ⟨k, by omega, by omega, h⟩
  exact key 32 hj

omit C in
theorem ex_spec {j : ℕ} (hj : j < Q cnt 32) : ex cnt j < 32 ∧ Q cnt (ex cnt j) ≤ j ∧ j < Q cnt (ex cnt j + 1) := by
  obtain ⟨e, h0, h1, h2⟩ := ex_exists hj
  rw [ex_eq h0 h1 h2]
  exact ⟨h0, h1, h2⟩

omit C in
theorem cnt_ex {j : ℕ} (hj : j < Q cnt 32) : 0 < cnt (ex cnt j) := by
  obtain ⟨_, h1, h2⟩ := ex_spec hj
  rw [Q_succ] at h2
  exact pos_of_ip (by omega)

omit C in
theorem tl_le {j : ℕ} (hj : j < Q cnt 32) :
    P cnt (ex cnt j) / 512 ≤ tl cnt j ∧ tl cnt j ≤ (P cnt (ex cnt j + 1) - 1) / 512 := by
  obtain ⟨h0, h1, h2⟩ := ex_spec hj
  rw [Q_succ] at h2
  have hc := cnt_ex hj
  have hP := P_succ (cnt := cnt) (ex cnt j)
  unfold ip at h2
  rw [if_pos hc] at h2
  have hh : P cnt (ex cnt j) / 512 ≤ (P cnt (ex cnt j + 1) - 1) / 512 := Nat.div_le_div_right (by omega)
  unfold tl
  omega

theorem tl_lt {j : ℕ} (hj : j < Q cnt 32) : tl cnt j < 128 := by
  have h := (tl_le hj).2
  have h1 := P_mono (cnt := cnt) (a := ex cnt j + 1) (b := 32) (by have := (ex_spec hj).1; omega)
  rw [C.total] at h1
  omega

omit C in
theorem Q_flat {a b i : ℕ} (h : Q cnt a = Q cnt b) (h1 : a ≤ i) (h2 : i < b) : cnt i = 0 := by
  by_contra hc
  have := ip_pos (cnt := cnt) (e := i) (by omega)
  have h3 := Q_mono (cnt := cnt) h1
  have h4 := Q_mono (cnt := cnt) (a := i + 1) (b := b) (by omega)
  rw [Q_succ] at h4
  omega

omit C in
theorem R_flat {a b : ℕ} (hab : a ≤ b) (h : ∀ i, a ≤ i → i < b → cnt i = 0) : R cnt b = R cnt a := by
  induction b with
  | zero => rw [show a = 0 by omega]
  | succ b ih =>
    by_cases hb : a = b + 1
    · rw [hb]
    · rw [R_succ, if_neg (by rw [h b (by omega) (by omega)]; omega), ih (by omega) fun i h1 h2 => h i h1 (by omega),
        Nat.add_zero]

omit C in
/-- The next item is of the same expert, or of the first later one that has rows. -/
theorem ex_step {j : ℕ} (hj : j + 1 < Q cnt 32) :
    ex cnt (j + 1) = ex cnt j ∨
      (ex cnt j < ex cnt (j + 1) ∧ 0 < cnt (ex cnt (j + 1)) ∧ ∀ i, ex cnt j < i → i < ex cnt (j + 1) → cnt i = 0) := by
  obtain ⟨a0, a1, a2⟩ := ex_spec (cnt := cnt) (j := j) (by omega)
  obtain ⟨b0, b1, b2⟩ := ex_spec hj
  rcases Nat.lt_trichotomy (ex cnt (j + 1)) (ex cnt j) with h | h | h
  · have := Q_mono (cnt := cnt) (a := ex cnt (j + 1) + 1) (b := ex cnt j) (by omega)
    omega
  · exact Or.inl h
  · refine Or.inr ⟨h, cnt_ex hj, fun i h1 h2 => ?_⟩
    have h3 := Q_mono (cnt := cnt) (a := ex cnt j + 1) (b := ex cnt (j + 1)) (by omega)
    exact Q_flat (a := ex cnt j + 1) (b := ex cnt (j + 1)) (by omega) (by omega) h2

theorem ex_last {i : ℕ} (h1 : ex cnt (Q cnt 32 - 1) < i) (h2 : i < 32) : cnt i = 0 := by
  have hn := n_pos C
  obtain ⟨a0, a1, a2⟩ := ex_spec (cnt := cnt) (j := Q cnt 32 - 1) (by omega)
  have h3 := Q_mono (cnt := cnt) (a := ex cnt (Q cnt 32 - 1) + 1) (b := 32) (by omega)
  exact Q_flat (a := ex cnt (Q cnt 32 - 1) + 1) (b := 32) (by omega) (by omega) h2

theorem R_first : R cnt (ex cnt 0 + 1) = 1 := by
  have hn := n_pos C
  obtain ⟨a0, a1, a2⟩ := ex_spec (cnt := cnt) (j := 0) (by omega)
  rw [R_succ, if_pos (cnt_ex (by omega)), R_flat (a := 0) (by omega) fun i _ h2 =>
    Q_flat (cnt := cnt) (a := 0) (b := ex cnt 0) (by rw [Q_zero]; omega) (by omega) h2, R_zero]

omit C in
theorem R_pos {j : ℕ} (hj : j < Q cnt 32) : 1 ≤ R cnt (ex cnt j + 1) := by
  rw [R_succ, if_pos (cnt_ex hj)]
  omega

omit C in
theorem R_step {j : ℕ} (hj : j + 1 < Q cnt 32) (hne : ex cnt (j + 1) ≠ ex cnt j) :
    R cnt (ex cnt (j + 1) + 1) = R cnt (ex cnt j + 1) + 1 := by
  rcases ex_step hj with h | ⟨h1, h2, h3⟩
  · exact absurd h hne
  · rw [R_succ, if_pos h2, R_flat (a := ex cnt j + 1) (by omega) fun i a b => h3 i (by omega) b]

omit C in
/-- Tiles never go back. -/
theorem tl_step {j : ℕ} (hj : j + 1 < Q cnt 32) : tl cnt j ≤ tl cnt (j + 1) ∧ tl cnt (j + 1) ≤ tl cnt j + 1 := by
  obtain ⟨a0, a1, a2⟩ := ex_spec (cnt := cnt) (j := j) (by omega)
  obtain ⟨b0, b1, b2⟩ := ex_spec hj
  rcases ex_step hj with h | ⟨h1, h2, h3⟩
  · unfold tl
    rw [h]
    rw [h] at b1
    omega
  · have ha := tl_le (cnt := cnt) (j := j) (by omega)
    have hb := tl_le hj
    have hQ : Q cnt (ex cnt (j + 1)) = j + 1 := by
      have h4 := Q_mono (cnt := cnt) (a := ex cnt j + 1) (b := ex cnt (j + 1)) (by omega)
      have : ∀ b, ex cnt j + 1 ≤ b → b ≤ ex cnt (j + 1) → Q cnt b = Q cnt (ex cnt j + 1) ∧ P cnt b = P cnt (ex cnt j + 1) := by
        intro b hb1 hb2
        induction b with
        | zero => omega
        | succ b ih =>
          by_cases hbb : b = ex cnt j
          · rw [hbb]; exact ⟨rfl, rfl⟩
          · have hz := h3 b (by omega) (by omega)
            rw [Q_succ, P_succ, ip_zero hz, hz]
            exact ih (by omega) (by omega)
      have := (this (ex cnt (j + 1)) (by omega) (le_refl _)).1
      omega
    have hP : P cnt (ex cnt (j + 1)) = P cnt (ex cnt j + 1) := by
      have : ∀ b, ex cnt j + 1 ≤ b → b ≤ ex cnt (j + 1) → P cnt b = P cnt (ex cnt j + 1) := by
        intro b hb1 hb2
        induction b with
        | zero => omega
        | succ b ih =>
          by_cases hbb : b = ex cnt j
          · rw [hbb]
          · have hz := h3 b (by omega) (by omega)
            rw [P_succ, hz]
            exact ih (by omega) (by omega)
      exact this (ex cnt (j + 1)) (by omega) (le_refl _)
    have ht : tl cnt (j + 1) = P cnt (ex cnt j + 1) / 512 := by unfold tl; rw [hQ, hP]; omega
    have hq : Q cnt (ex cnt j + 1) = j + 1 := by
      have h4 := Q_mono (cnt := cnt) (a := ex cnt j + 1) (b := ex cnt (j + 1)) (by omega)
      omega
    have hc := cnt_ex (cnt := cnt) (j := j) (by omega)
    have hl : tl cnt j = (P cnt (ex cnt j + 1) - 1) / 512 := by
      rw [Q_succ] at hq
      unfold ip at hq
      rw [if_pos hc] at hq
      have hps := P_succ (cnt := cnt) (ex cnt j)
      have hh : P cnt (ex cnt j) / 512 ≤ (P cnt (ex cnt j + 1) - 1) / 512 := Nat.div_le_div_right (by omega)
      unfold tl
      omega
    rw [ht, hl]
    omega

omit C in
theorem tl_mono {i j : ℕ} (hij : i ≤ j) (hj : j < Q cnt 32) : tl cnt i ≤ tl cnt j := by
  induction j with
  | zero => rw [show i = 0 by omega]
  | succ j ih =>
    by_cases h : i = j + 1
    · rw [h]
    · exact (ih (by omega) (by omega)).trans (tl_step hj).1

/-- Each row is of one expert. -/
theorem row_exists {r : ℕ} (hr : r < 65536) : ∃ e, e < 32 ∧ P cnt e ≤ r ∧ r < P cnt (e + 1) := by
  have key : ∀ k, r < P cnt k → ∃ e, e < k ∧ P cnt e ≤ r ∧ r < P cnt (e + 1) := by
    intro k
    induction k with
    | zero => intro h; rw [P_zero] at h; omega
    | succ k ih =>
      intro h
      by_cases hk : r < P cnt k
      · obtain ⟨e, a, b⟩ := ih hk
        exact ⟨e, by omega, b⟩
      · exact ⟨k, by omega, by omega, h⟩
  exact key 32 (by rw [C.total]; exact hr)

omit C in
theorem row_unique {r e e' : ℕ} (h1 : P cnt e ≤ r) (h2 : r < P cnt (e + 1)) (h1' : P cnt e' ≤ r) (h2' : r < P cnt (e' + 1)) : e = e' := by
  rcases Nat.lt_trichotomy e e' with h | h | h
  · have := P_mono (cnt := cnt) (a := e + 1) (b := e') h; omega
  · exact h
  · have := P_mono (cnt := cnt) (a := e' + 1) (b := e) h; omega

omit C in
/-- The item that writes row `r`: its expert's, of the tile `r` lies in. -/
theorem item_of {r e : ℕ} (he : e < 32) (h1 : P cnt e ≤ r) (h2 : r < P cnt (e + 1)) :
    ∃ j, j < Q cnt 32 ∧ ex cnt j = e ∧ tl cnt j = r / 512 := by
  have hc : 0 < cnt e := by rw [P_succ] at h2; omega
  have hi : ip cnt e = (P cnt (e + 1) - 1) / 512 - P cnt e / 512 + 1 := by unfold ip; rw [if_pos hc]
  have ha : P cnt e / 512 ≤ r / 512 := Nat.div_le_div_right h1
  have hb : r / 512 ≤ (P cnt (e + 1) - 1) / 512 := Nat.div_le_div_right (by omega)
  have hQ := Q_succ (cnt := cnt) e
  have hQm := Q_mono (cnt := cnt) (a := e + 1) (b := 32) (by omega)
  have he' : ex cnt (Q cnt e + (r / 512 - P cnt e / 512)) = e := ex_eq he (by omega) (by omega)
  refine ⟨Q cnt e + (r / 512 - P cnt e / 512), by omega, he', ?_⟩
  unfold tl
  rw [he']
  omega

end Cert.Items

end
-- ==== Proof.Tables.lean ====
/-
  Each table's words, as numbers: where the counts are of all the rows, the tables list, for each item, its expert, its tile and the rows of
  the tile that are the expert's.
-/
module

public import proofs.«01_k».proof.Proof.Words
public import proofs.«01_k».proof.Proof.Items

@[expose] public section

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

attribute [local irreducible] V

/-- How many rows expert `e` has. -/
def cntN (e : ℕ) : ℕ := if h : e < 32 then (cnW m c ⟨e, h⟩).toNat else 0

/-- The counts are of all the rows. -/
structure Good : Prop where
  le : ∀ e, cntN m c e ≤ 65536
  counts : Items.Counts (cntN m c)

theorem list_sum (f : ℕ → ℕ) (n : ℕ) : ((List.range n).map f).sum = ∑ i ∈ Finset.range n, f i := rfl

theorem cn_nat (e : Fin 32) : cnW m c e = BitVec.ofNat 32 (cntN m c e.val) := by
  unfold cntN
  rw [dif_pos e.isLt, BitVec.ofNat_toNat, BitVec.setWidth_eq]

theorem en_nat (e : Fin 32) : enW m c e = BitVec.ofNat 32 (Items.P (cntN m c) (e.val + 1)) := by
  rw [en_eq]
  exact Routing.cumsum1 (N := 32) (Nm1 := 31) rfl _ (cntN m c) (fun i => cn_nat m c i) _ rfl _ _ e

section
variable {m c}
variable (H : Good m c)
include H

theorem P_le {e : ℕ} (he : e ≤ 32) : Items.P (cntN m c) e ≤ 65536 := by
  have := Items.P_mono (cnt := cntN m c) he
  rw [H.counts.total] at this
  exact this

theorem Q_le' {e : ℕ} (he : e ≤ 32) : Items.Q (cntN m c) e ≤ 159 :=
  (Items.Q_mono (cnt := cntN m c) he).trans (Items.n_le H.counts)

theorem st_nat (e : Fin 32) : stW m c e = BitVec.ofNat 32 (Items.P (cntN m c) e.val) := by
  have h1 := P_le H (e := e.val + 1) (by omega)
  have h2 := Items.P_succ (cnt := cntN m c) e.val
  rw [st_eq, en_nat, cn_nat, W.subi (by omega) (by omega), h2, Nat.add_sub_cancel]

theorem ft_nat (e : Fin 32) : ftW m c e = BitVec.ofNat 32 (Items.P (cntN m c) e.val / 512) := by
  have h1 := P_le H (e := e.val) (by omega)
  rw [ft_eq, st_nat H, W.fdiv512 (by omega)]

theorem lc_nat (e : Fin 32) : lcW m c e = BitVec.ofNat 32 (Items.P (cntN m c) (e.val + 1) - 1) := by
  have h1 := P_le H (e := e.val + 1) (by omega)
  rw [lc_eq, en_nat]
  exact W.max0_subi (b := 1) (by omega) (by omega)

theorem lt_nat (e : Fin 32) : ltW m c e = BitVec.ofNat 32 ((Items.P (cntN m c) (e.val + 1) - 1) / 512) := by
  have h1 := P_le H (e := e.val + 1) (by omega)
  rw [lt_eq, lc_nat H, W.fdiv512 (by omega)]

theorem pos_iff (e : Fin 32) : IntOp.cmpi .sgt (cnW m c e) 0#32 = 1#1 ↔ 0 < cntN m c e.val := by
  have h := H.le e.val
  rw [cn_nat]
  exact W.sgt_iff (b := 0) (by omega) (by omega)

theorem ip_nat (e : Fin 32) : ipW m c e = BitVec.ofNat 32 (Items.ip (cntN m c) e.val) := by
  rw [ip_eq, pa_eq]
  unfold Items.ip
  by_cases h : 0 < cntN m c e.val
  · have h1 := P_le H (e := e.val + 1) (by omega)
    have h2 := Items.P_succ (cnt := cntN m c) e.val
    have hh : Items.P (cntN m c) e.val / 512 ≤ (Items.P (cntN m c) (e.val + 1) - 1) / 512 := Nat.div_le_div_right (by omega)
    rw [W.select_pos ((pos_iff H e).2 h), if_pos h, a12_eq, lt_nat H, ft_nat H, W.subi hh (by omega)]
    exact W.addi _ 1
  · rw [W.select_neg (fun h' => h ((pos_iff H e).1 h')), if_neg h]

theorem ie_nat (e : Fin 32) : ieW m c e = BitVec.ofNat 32 (Items.Q (cntN m c) (e.val + 1)) := by
  rw [ie_eq]
  exact Routing.cumsum1 (N := 32) (Nm1 := 31) rfl _ (Items.ip (cntN m c)) (fun i => ip_nat H i) _ rfl _ _ e

theorem nn_nat (j : Fin 1) : nnW m c j = BitVec.ofNat 32 (Items.Q (cntN m c) 32) := by
  rw [nn_eq, ie_nat H]
  rfl

/-- The item a point of the grid takes: its own, or the last. -/
theorem j_nat (j : Fin 159) : IntOp.minsi (BitVec.ofNat 32 j.val) (IntOp.subi (ieW m c 31) 1#32)
    = BitVec.ofNat 32 (min j.val (Items.Q (cntN m c) 32 - 1)) := by
  have h1 := Q_le' H (e := 32) (by omega)
  have h2 := Items.n_pos H.counts
  have h3 := j.isLt
  have e1 : IntOp.subi (ieW m c 31) 1#32 = BitVec.ofNat 32 (Items.Q (cntN m c) 32 - 1) := by
    rw [ie_nat H]
    exact W.subi (b := 1) h2 (lt_of_le_of_lt h1 (by norm_num))
  rw [e1, W.minsi (by omega) (by omega)]

end

/-- The item a point of the grid takes: its own, or the last. -/
def jj (t : ℕ) : ℕ := min t (Items.Q (cntN m c) 32 - 1)

/-- Its expert. -/
def xN (t : ℕ) : ℕ := Items.ex (cntN m c) (jj m c t)

section
variable {m c}
variable (H : Good m c)
include H

theorem jj_lt (t : ℕ) : jj m c t < Items.Q (cntN m c) 32 := by
  have := Items.n_pos H.counts
  unfold jj
  omega

omit H in
theorem jj_of {t : ℕ} (h : t < Items.Q (cntN m c) 32) : jj m c t = t := by unfold jj; omega

theorem xN_lt (t : ℕ) : xN m c t < 32 := (Items.ex_spec (jj_lt H t)).1

theorem exV_of (v : S32.Idx → BitVec 32) (hv : ∀ e : Fin 32, v (ix1 e) = BitVec.ofNat 32 (Items.Q (cntN m c) (e.val + 1))) (j : Fin 159) :
    exV v (ix1 j) = BitVec.ofNat 32 (xN m c j.val) := by
  rw [exV_at]
  have e0 : IntOp.minsi (BitVec.ofNat 32 j.val) (IntOp.subi (v (ix1 31)) 1#32)
      = BitVec.ofNat 32 (jj m c j.val) := by
    have hj0 := j_nat H j
    rw [ie_nat H] at hj0
    rw [hv 31]
    exact hj0
  rw [e0, IndicatorCount.fold_addi_setWidth_eq_card]
  have hj := jj_lt H j.val
  have hq := Q_le' H (e := 32) (by omega)
  have hc : (Finset.univ.filter fun k : Fin 32 => IntOp.cmpi .sle (v (ix1 k))
      (BitVec.ofNat 32 (jj m c j.val)) = 1#1).card = xN m c j.val := by
    unfold xN Items.ex
    rw [← Finset.card_map Fin.valEmbedding]
    congr 1
    ext i
    simp only [Finset.mem_map, Finset.mem_filter, Finset.mem_univ, true_and, Fin.valEmbedding_apply, Finset.mem_range]
    constructor
    · rintro ⟨k, hk, rfl⟩
      have h2 := Q_le' H (e := k.val + 1) (by omega)
      refine ⟨k.isLt, ?_⟩
      rw [hv k, W.sle_iff (by omega) (by omega)] at hk
      exact hk
    · rintro ⟨hi, hk⟩
      refine ⟨⟨i, hi⟩, ?_, rfl⟩
      have h2 := Q_le' H (e := i + 1) (by omega)
      rw [hv ⟨i, hi⟩, W.sle_iff (lt_of_le_of_lt h2 (by norm_num)) (by omega)]
      exact hk
  have hx := xN_lt H j.val
  rw [hc]
  refine (W.minsi (b := 31) (by omega) (by omega)).trans ?_
  rw [min_eq_left (by omega)]

theorem exV_nat (j : Fin 159) : exV (show S32.Idx → BitVec 32 from V m c main_v14) (ix1 j) = BitVec.ofNat 32 (xN m c j.val) :=
  exV_of H _ (ie_nat H) j

theorem ex_nat (j : Fin 159) : exW m c j = BitVec.ofNat 32 (xN m c j.val) :=
  ((ex_eq m c j).trans (exV_at _ j).symm).trans (exV_nat H j)

theorem tl_nat (j : Fin 159) : tlW m c j = BitVec.ofNat 32 (Items.tl (cntN m c) (jj m c j.val)) := by
  have hj := jj_lt H j.val
  have hx := xN_lt H j.val
  have h1 := gat_at (show S32.Idx → BitVec 32 from V m c main_v2) _ j ⟨xN m c j.val, hx⟩ (exV_nat H j)
  have h2 := gat_at (subi (show S32.Idx → BitVec 32 from V m c main_v14) (show S32.Idx → BitVec 32 from V m c main_v13)) _ j
    ⟨xN m c j.val, hx⟩ (exV_nat H j)
  have h3 : (show S32.Idx → BitVec 32 from V m c main_v2) (ix1 ⟨xN m c j.val, hx⟩) = _ := ft_nat H ⟨xN m c j.val, hx⟩
  have h4 : subi (show S32.Idx → BitVec 32 from V m c main_v14) (show S32.Idx → BitVec 32 from V m c main_v13) (ix1 ⟨xN m c j.val, hx⟩)
      = IntOp.subi (ieW m c ⟨xN m c j.val, hx⟩) (ipW m c ⟨xN m c j.val, hx⟩) := rfl
  obtain ⟨a0, a1, a2⟩ := Items.ex_spec hj
  have hq := Q_le' H (e := xN m c j.val + 1) (by omega)
  have hs := Items.Q_succ (cnt := cntN m c) (xN m c j.val)
  rw [ie_nat H, ip_nat H, W.subi (by simp only; omega) (by simp only; omega)] at h4
  simp only at h4
  rw [hs, Nat.add_sub_cancel] at h4
  rw [tl_eq, h1, h2, h3, h4, j_nat H]
  have hq1 : Items.Q (cntN m c) (xN m c j.val) ≤ jj m c j.val := a1
  have hjl : jj m c j.val < 159 := lt_of_lt_of_le hj (Q_le' H (le_refl 32))
  show IntOp.addi (BitVec.ofNat 32 (Items.P (cntN m c) (xN m c j.val) / 512))
    (IntOp.subi (BitVec.ofNat 32 (jj m c j.val)) (BitVec.ofNat 32 (Items.Q (cntN m c) (xN m c j.val)))) = _
  rw [W.subi hq1 (by omega), W.addi]
  rfl

theorem tl_bound (t : ℕ) : Items.tl (cntN m c) (jj m c t) < 128 := Items.tl_lt H.counts (jj_lt H t)

theorem lo_nat (j : Fin 159) : loW m c j
    = BitVec.ofNat 32 (min 512 (Items.P (cntN m c) (xN m c j.val) - Items.tl (cntN m c) (jj m c j.val) * 512)) := by
  have hx := xN_lt H j.val
  have hp := P_le H (e := xN m c j.val) (by omega)
  have ht := tl_bound H j.val
  have h1 := gat_at (show S32.Idx → BitVec 32 from V m c main_v1) _ j ⟨xN m c j.val, hx⟩ (exV_nat H j)
  have h3 : (show S32.Idx → BitVec 32 from V m c main_v1) (ix1 ⟨xN m c j.val, hx⟩) = _ := st_nat H ⟨xN m c j.val, hx⟩
  have h5 := tl_nat H j
  rw [tl_eq] at h5
  rw [lo_eq, lx_eq, h1, h3, h5]
  show IntOp.minsi 512#32 (IntOp.maxsi 0#32 (IntOp.subi (BitVec.ofNat 32 (Items.P (cntN m c) (xN m c j.val)))
    (IntOp.muli (BitVec.ofNat 32 (Items.tl (cntN m c) (jj m c j.val))) 512#32))) = _
  rw [W.muli, W.max0_subi' (by omega) (by omega), W.minsi (by omega) (by omega)]

theorem hi_nat (j : Fin 159) : hiW m c j
    = BitVec.ofNat 32 (min 512 (Items.P (cntN m c) (xN m c j.val + 1) - Items.tl (cntN m c) (jj m c j.val) * 512)) := by
  have hx := xN_lt H j.val
  have hp := P_le H (e := xN m c j.val + 1) (by omega)
  have ht := tl_bound H j.val
  have h1 := gat_at (show S32.Idx → BitVec 32 from V m c main_v0) (show S159.Idx → BitVec 32 from V m c main_v29) j ⟨xN m c j.val, hx⟩ (ex_nat H j)
  have h3 : (show S32.Idx → BitVec 32 from V m c main_v0) (ix1 ⟨xN m c j.val, hx⟩) = _ := en_nat m c ⟨xN m c j.val, hx⟩
  rw [hi_eq, hx_eq, h1, h3, tl_nat H]
  show IntOp.minsi 512#32 (IntOp.maxsi 0#32 (IntOp.subi (BitVec.ofNat 32 (Items.P (cntN m c) (xN m c j.val + 1)))
    (IntOp.muli (BitVec.ofNat 32 (Items.tl (cntN m c) (jj m c j.val))) 512#32))) = _
  rw [W.muli, W.max0_subi' (by omega) (by omega), W.minsi (by omega) (by omega)]

theorem la_nat (e x : Fin 32) : laW m c e x = BitVec.ofNat 32 (if e.val < x.val ∧ 0 < cntN m c x.val then x.val else 32) := by
  have he := e.isLt
  have hx := x.isLt
  have hi : mkW m c e x = 1#1 ↔ (e.val < x.val ∧ 0 < cntN m c x.val) := by
    rw [mk_eq, W.andi_iff, pos_iff H, W.sgt_iff (by omega) (by omega)]
  rw [la_eq, id_eq]
  by_cases h : e.val < x.val ∧ 0 < cntN m c x.val
  · rw [W.select_pos (hi.2 h), if_pos h]
  · rw [W.select_neg (fun h' => h (hi.1 h')), if_neg h]

/-- The smallest later expert with rows, or a number past them all. -/
def nf (m : (ℓ : Loc nD τ sig) → Buf (Elt F) ℓ) (c : Dev nD) (e : ℕ) : ℕ :=
  (Finset.univ : Finset (Fin 32)).fold min 2147483647 fun x => if e < x.val ∧ 0 < cntN m c x.val then x.val else 32

omit H in
theorem nf_le (e : ℕ) : nf m c e ≤ 32 := by
  unfold nf
  rw [Finset.fold_min_le]
  refine Or.inr ⟨0, Finset.mem_univ _, ?_⟩
  split <;> simp

theorem fold_nat (e : Fin 32) : Finset.fold IntOp.minsi (2147483647#32) (fun x => laW m c e x) Finset.univ = BitVec.ofNat 32 (nf m c e.val) := by
  have : (fun x => laW m c e x) = fun x : Fin 32 => BitVec.ofNat 32 (if e.val < x.val ∧ 0 < cntN m c x.val then x.val else 32) := by
    funext x
    exact la_nat H e x
  rw [this]
  exact W.fold_min _ _ fun i => by split <;> omega

theorem na_nat (e : Fin 32) : naW m c e = if nf m c e.val < 32 then BitVec.ofNat 32 (nf m c e.val) else 4294967295#32 := by
  have hn := nf_le (m := m) (c := c) e.val
  rw [na_eq, pc_eq, nm_eq, fold_nat H]
  have hi : IntOp.cmpi .slt (BitVec.ofNat 32 (nf m c e.val)) 32#32 = 1#1 ↔ nf m c e.val < 32 := W.slt_iff (by omega) (by omega)
  by_cases h : nf m c e.val < 32
  · rw [W.select_pos (hi.2 h), if_pos h]
  · rw [W.select_neg (fun h' => h (hi.1 h')), if_neg h]

omit H in
/-- The next expert with rows. -/
theorem nf_of {e y : ℕ} (hy : y < 32) (hey : e < y) (hc : 0 < cntN m c y) (hb : ∀ i, e < i → i < y → cntN m c i = 0) : nf m c e = y := by
  apply le_antisymm
  · unfold nf
    rw [Finset.fold_min_le]
    exact Or.inr ⟨⟨y, hy⟩, Finset.mem_univ _, by rw [if_pos ⟨hey, hc⟩]⟩
  · unfold nf
    rw [Finset.le_fold_min]
    refine ⟨by omega, fun x _ => ?_⟩
    split
    · next h =>
      by_contra hx
      have := hb x.val h.1 (by omega)
      omega
    · omega

omit H in
theorem nf_none {e : ℕ} (hb : ∀ i, e < i → i < 32 → cntN m c i = 0) : nf m c e = 32 := by
  apply le_antisymm (nf_le e)
  unfold nf
  rw [Finset.le_fold_min]
  refine ⟨by omega, fun x _ => ?_⟩
  split
  · next h =>
    have := hb x.val h.1 x.isLt
    omega
  · omega

theorem nx_nat (j : Fin 159) : nxW m c j = if nf m c (xN m c j.val) < 32 then BitVec.ofNat 32 (nf m c (xN m c j.val)) else 4294967295#32 := by
  have hx := xN_lt H j.val
  have h1 := gat_at (show S32.Idx → BitVec 32 from V m c main_v85) (show S159.Idx → BitVec 32 from V m c main_v29) j ⟨xN m c j.val, hx⟩ (ex_nat H j)
  have h3 : (show S32.Idx → BitVec 32 from V m c main_v85) (ix1 ⟨xN m c j.val, hx⟩) = _ := na_nat H ⟨xN m c j.val, hx⟩
  rw [nx_eq, h1, h3]

theorem ac_nat (e : Fin 32) : acW m c e = BitVec.ofNat 32 (if 0 < cntN m c e.val then 1 else 0) := by
  rw [ac_eq, pb_eq]
  by_cases h : 0 < cntN m c e.val
  · rw [(pos_iff H e).2 h, if_pos h]
    rfl
  · have h0 : ∀ b : BitVec 1, ¬ b = 1#1 → b = 0#1 := by decide
    rw [h0 _ (fun h' => h ((pos_iff H e).1 h')), if_neg h]
    rfl

theorem sx_nat (e : Fin 32) : sxW m c e = BitVec.ofNat 32 (Items.R (cntN m c) (e.val + 1)) := by
  rw [sx_eq]
  exact Routing.cumsum1 (N := 32) (Nm1 := 31) rfl _ (fun i => if 0 < cntN m c i then 1 else 0) (fun i => ac_nat H i) _ rfl _ _ e

omit H in
theorem R_le (e : ℕ) : Items.R (cntN m c) e ≤ e := by
  induction e with
  | zero => exact le_refl _
  | succ e ih => rw [Items.R_succ]; split <;> omega

theorem sl_nat (j : Fin 159) : slW m c j = BitVec.ofNat 32 ((Items.R (cntN m c) (xN m c j.val + 1) - 1) % 2) := by
  have hx := xN_lt H j.val
  have hr := Items.R_pos (jj_lt H j.val)
  have hr' : 1 ≤ Items.R (cntN m c) (xN m c j.val + 1) := hr
  have hl := R_le (m := m) (c := c) (xN m c j.val + 1)
  have h1 := gat_at (show S32.Idx → BitVec 32 from V m c main_v90) (show S159.Idx → BitVec 32 from V m c main_v29) j ⟨xN m c j.val, hx⟩ (ex_nat H j)
  have h3 : (show S32.Idx → BitVec 32 from V m c main_v90) (ix1 ⟨xN m c j.val, hx⟩) = _ := so_eq m c ⟨xN m c j.val, hx⟩
  rw [sl_eq, h1, h3, sm_eq, sx_nat H]
  have hs : IntOp.subi (BitVec.ofNat 32 (Items.R (cntN m c) (xN m c j.val + 1))) 1#32
      = BitVec.ofNat 32 (Items.R (cntN m c) (xN m c j.val + 1) - 1) := W.subi hr' (by omega)
  show frem (IntOp.subi (BitVec.ofNat 32 (Items.R (cntN m c) (xN m c j.val + 1))) 1#32) 2#32 = _
  rw [hs, W.frem2 (by omega)]

end

end Cert.KernelIdeal.Hand

end
-- ==== Proof.SchedOf.lean ====
/-
  The tables the host computes from counts of all the rows are ones the kernel's body can follow.
-/
module

public import proofs.«01_k».proof.Proof.Tables

@[expose] public section

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

attribute [local irreducible] V

/-- A point of the grid, as a point of the tables. -/
abbrev pnt (t : ℕ) : Fin 159 := ⟨t % 159, Nat.mod_lt _ (by decide)⟩

theorem wE_pfm (t : ℕ) : wE (pfm m) t = exW m 0 (pnt t) := rfl
theorem wT_pfm (t : ℕ) : wT (pfm m) t = tlW m 0 (pnt t) := rfl
theorem wL_pfm (t : ℕ) : wL (pfm m) t = loW m 0 (pnt t) := rfl
theorem wH_pfm (t : ℕ) : wH (pfm m) t = hiW m 0 (pnt t) := rfl
theorem wC_pfm : wC (pfm m) = nnW m 0 0 := rfl
theorem wN_pfm (t : ℕ) : wN (pfm m) t = nxW m 0 (pnt t) := rfl
theorem wS_pfm (t : ℕ) : wS (pfm m) t = slW m 0 (pnt t) := rfl

variable {m}
variable (H : Good m 0)
include H

theorem n_eq : (wC (pfm m)).toNat = Items.Q (cntN m 0) 32 := by
  have h := Items.n_le H.counts
  rw [wC_pfm, nn_nat H, W.toNat_ofNat (by omega)]

omit H in
theorem pnt_val {t : ℕ} (ht : t < 159) : (pnt t).val = t := Nat.mod_eq_of_lt ht

theorem sched_of : Sched (pfm m) where
  n_pos := by rw [n_eq H]; exact Items.n_pos H.counts
  n_le := by rw [n_eq H]; exact Items.n_le H.counts
  exp_lt := fun t ht => by
    have h := xN_lt H (pnt t).val
    rw [wE_pfm, ex_nat H, W.toNat_ofNat (by omega)]
    exact h
  tile_lt := fun t ht => by
    have h := tl_bound H (pnt t).val
    rw [wT_pfm, tl_nat H, W.toNat_ofNat (by omega)]
    exact h
  slot0 := by
    have hn := Items.n_pos H.counts
    have e : xN m 0 (pnt 0).val = Items.ex (cntN m 0) 0 := by
      unfold xN
      rw [show (pnt 0).val = 0 from rfl, jj_of (by omega)]
    rw [wS_pfm, sl_nat H, e, Items.R_first H.counts]
  slot := fun t _ => by
    rw [wS_pfm, sl_nat H]
    rcases Nat.mod_two_eq_zero_or_one (Items.R (cntN m 0) (xN m 0 (pnt t).val + 1) - 1) with h | h <;> rw [h]
    · exact Or.inl rfl
    · exact Or.inr rfl
  next := fun t _ => by
    rw [wN_pfm, nx_nat H]
    split
    · next h => exact Or.inr (by rw [W.toNat_ofNat (by omega)]; exact h)
    · exact Or.inl rfl
  step := fun t ht => by
    rw [n_eq H] at ht
    have hn := Items.n_le H.counts
    have e1 : xN m 0 (pnt t).val = Items.ex (cntN m 0) t := by
      unfold xN
      rw [pnt_val (by omega), jj_of (by omega)]
    have e2 : xN m 0 (pnt (t + 1)).val = Items.ex (cntN m 0) (t + 1) := by
      unfold xN
      rw [pnt_val (by omega), jj_of (by omega)]
    have b1 := (Items.ex_spec (cnt := cntN m 0) (j := t) (by omega)).1
    have b2 := (Items.ex_spec (cnt := cntN m 0) ht).1
    have r1 := Items.R_pos (cnt := cntN m 0) (j := t) (by omega)
    simp only [wE_pfm, wN_pfm, wS_pfm, ex_nat H, nx_nat H, sl_nat H, e1, e2]
    by_cases h : Items.ex (cntN m 0) (t + 1) = Items.ex (cntN m 0) t
    · rw [h]
      exact Or.inl ⟨rfl, rfl, rfl⟩
    · refine Or.inr ⟨fun h' => h ((W.inj (by omega) (by omega)).1 h'), ?_, ?_⟩
      · rcases Items.ex_step ht with h' | ⟨h1, h2, h3⟩
        · exact absurd h' h
        · rw [nf_of b2 h1 h2 h3, if_pos b2]
      · rw [Items.R_step ht h, Nat.add_sub_cancel]
        have : ∀ k, 1 ≤ k → BitVec.ofNat 32 (k % 2) = 1#32 - BitVec.ofNat 32 ((k - 1) % 2) := fun k hk => by
          rcases Nat.mod_two_eq_zero_or_one k with h | h
          · rw [h, show (k - 1) % 2 = 1 by omega]; rfl
          · rw [h, show (k - 1) % 2 = 0 by omega]; rfl
        exact this _ r1
  last := by
    have hn := Items.n_pos H.counts
    have hl := Items.n_le H.counts
    have e1 : xN m 0 (pnt (Items.Q (cntN m 0) 32 - 1)).val = Items.ex (cntN m 0) (Items.Q (cntN m 0) 32 - 1) := by
      unfold xN
      rw [pnt_val (by omega), jj_of (by omega)]
    rw [n_eq H, wN_pfm, nx_nat H, e1, nf_none fun i h1 h2 => Items.ex_last H.counts h1 h2, if_neg (by omega)]
    rfl
  tail := fun t ht h => by
    rw [n_eq H] at h
    have hn := Items.n_pos H.counts
    have hl := Items.n_le H.counts
    rw [n_eq H, wT_pfm, wT_pfm, tl_nat H, tl_nat H, pnt_val ht, pnt_val (by omega)]
    unfold jj
    rw [min_eq_right (by omega), min_self]

end Cert.KernelIdeal.Hand

end
-- ==== Proof.Frame.lean ====
/-
  The pipeline's data, the body at every grid point, and the run of the kernel, from tables that spell a schedule.
-/
module

public import proofs.«01_k».proof.Proof.Host
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (A : (c : Dev nD) → (b : Ref sig .tc) → Buf (Elt F) ((c : Thread nD τ).loc b)) (pf : Tabs F) (S : Sched pf)

/-- The admissible tables. -/
abbrev adm (_ : Fin 1) : (pcfg0 (F := F)).Adm := ⟨pf, ok_of _ S⟩
abbrev cfgA : Cfg sig Λ₀ := cfg0 (adm pf S 0)

theorem N_A : (cfgA pf S).N = 159 := N_0

theorem coordsA (t : Fin (cfgA pf S).N) : (((cfgA pf S).grid.coords t) 0).val = t.val := by
  have h := Pipeline.Grid.coords_val (G := grid0) t 0 (S := 1) (B := 159) (by decide) rfl
  rw [h]
  have := t.isLt; have := N_A pf S
  omega

/-- A number as a point of the grid. -/
def ptA (t : ℕ) : Fin (cfgA pf S).N := ⟨t % 159, (Nat.mod_lt _ (by decide) : t % 159 < 159).trans_eq (N_A pf S).symm⟩
theorem ptA_val (t : Fin (cfgA pf S).N) : ptA pf S t.val = t := Fin.ext (Nat.mod_eq_of_lt (t.isLt.trans_eq (N_A pf S)))

/-- The rows a grid point reads. -/
def Xc (c : Dev nD) (t : ℕ) : Vec F S4096x128 .f32 :=
  View.read (Elt F) (((cfgA pf S).win 0).blk (ptA pf S t)).view (show Buf (Elt F) ((c : Thread nD τ).loc main_v105) from A c main_v105)

/-- The accumulated tile. -/
abbrev Yc (c : Dev nD) : ℕ → Vec F S512x1024 .f32 :=
  Yacc pf (Xc A pf S c) (A c main_arg2) (A c main_arg3) (A c main_arg4)

abbrev invA (c : Dev nD) (t : ℕ) : sProp 𝕄 :=
  inv c pf (Xc A pf S c) (A c main_arg2) (A c main_arg3) (A c main_arg4) t

/-- What the body leaves in the two windows' buffers. -/
def aftA (X Y : Vec F S4096x128 .f32) : (w : Fin 2) → (spec0 w).block.Idx → Elt F (spec0 w).elt
  | 0 => X
  | 1 => Y

theorem aftA_0 (X Y : Vec F S4096x128 .f32) : aftA X Y 0 = X := rfl
theorem aftA_1 (X Y : Vec F S4096x128 .f32) : aftA X Y 1 = Y := rfl

def dats (_ : Fin 1) (c : Dev nD) : Dat τ (Elt F) Unit ℕ (Pipeline.UD sig nD τ) ℕ (cfgA pf S) c where
  A w := A c (Pipeline.arrRef spec0 w)
  after w t := aftA (Xc A pf S c t.val) (outY (Yc A pf S c (t.val + 1))) w
  Φ t := iprop((∃ r, prngReg c r) ∗ invA A pf S c t.val)
  q _ := fullShare
  owed _ := 0

theorem A_eq (c : Dev nD) (w : Fin (cfgA pf S).W) : (dats A pf S 0 c).A w = A c (Pipeline.arrRef spec0 w) := by
  dsimp only [dats]
theorem after_0 (c : Dev nD) (t : Fin (cfgA pf S).N) : (dats A pf S 0 c).after 0 t = Xc A pf S c t.val := aftA_0 (Xc A pf S c t.val) (outY (Yc A pf S c (t.val + 1)))
theorem after_1 (c : Dev nD) (t : Fin (cfgA pf S).N) : (dats A pf S 0 c).after 1 t = outY (Yc A pf S c (t.val + 1)) := aftA_1 (Xc A pf S c t.val) (outY (Yc A pf S c (t.val + 1)))

theorem Xc_blockOf (c : Dev nD) (t : Fin (cfgA pf S).N) : Xc A pf S c t.val = (dats A pf S 0 c).blockOf 0 t := by
  unfold Xc
  rw [ptA_val]
  rfl

theorem before_0 (c : Dev nD) (t : Fin (cfgA pf S).N) (d) : (dats A pf S 0 c).before 0 t d = Xc A pf S c t.val := by
  rw [Dat.before_in_eq_fetched (dats A pf S 0 c) 0 rfl (fun _ => rfl) (fun _ _ _ => rfl)
    (fun t => by rw [after_0, Xc_blockOf]) t d, Xc_blockOf]
  rfl

theorem atD_wC (pf : Tabs F) : (pf.atD 4 ![0] : BitVec 32) = wC pf := by
  have h : ∀ a : Fin (pre0.ref 4).ty.shape.rank, (![0] : Fin 1 → ℕ) a + 1 ≤ (pre0.ref 4).ty.shape.size a := by decide
  show (if h : ∀ a : Fin (pre0.ref 4).ty.shape.rank, (![0] : Fin 1 → ℕ) a + 1 ≤ (pre0.ref 4).ty.shape.size a then _ else _) = _
  rw [dif_pos h]
  unfold wC
  refine congrArg (pf 4) ?_
  funext a
  refine Fin.ext ?_
  rw [Fin.fin_one_eq_zero a]
  rfl

theorem idle_1 (t : Fin (cfgA pf S).N) : (cfgA pf S).idle 1 ((cfgA pf S).grid.coords t) = !decide (t.val < (wC pf).toNat) := by
  have h : (cfgA pf S).idle 1 ((cfgA pf S).grid.coords t) = !(k0_cond2 ((cfgA pf S).grid.coords t) (pf.atD 4 ![0]) == 1#1) := rfl
  rw [h, atD_wC, ← coordsA pf S t]
  refine congrArg _ ?_
  rw [Bool.eq_iff_iff, beq_iff_eq, decide_eq_true_iff]
  exact cond2_iff _ _ S.n_le

theorem index_1 (t : Fin (cfgA pf S).N) : ((cfgA pf S).win 1).index t = ![(wT pf t.val).toNat, 0] :=
  tr_eq pf _ t.val (N_A pf S ▸ t.isLt) (coordsA pf S t)

theorem flush_1 (t : Fin (cfgA pf S).N) (h : (wC pf).toNat ≤ t.val + 1) (h' : t.val + 1 < 159) : ((cfgA pf S).win 1).flush t = false := by
  have hN := N_A pf S
  have e : ∀ h : t.val + 1 < (cfgA pf S).N, ((cfgA pf S).win 1).index ⟨t.val + 1, h⟩ = ((cfgA pf S).win 1).index t := fun h2 => by
    rw [index_1, index_1, S.tail _ (by omega) (by omega : _ ≤ t.val + 1 + 1), S.tail _ (by omega) h]
  unfold Window.flush
  rw [decide_eq_false (by omega : ¬ t.val + 1 = (cfgA pf S).N), decide_eq_false (fun ⟨h2, h3⟩ => h3 (e h2))]
  simp

theorem fresh_1 : ∀ n, (wC pf).toNat ≤ n → n < 159 → (cfgA pf S).fresh 1 n = false
  | 0, h, _ => absurd S.n_pos (by omega)
  | n + 1, h, h' => by
    have hN := N_A pf S
    rw [Cfg.fresh_succ _ 1 n (by omega), flush_1 pf S ⟨n, by omega⟩ h h', Bool.false_or, idle_1]
    by_cases hn : n < (wC pf).toNat
    · rw [decide_eq_true hn]; rfl
    · rw [fresh_1 n (by omega) (by omega), Bool.and_false]

theorem Yc_tail (c : Dev nD) (t : ℕ) (h : (wC pf).toNat ≤ t) : Yc A pf S c (t + 1) = Yc A pf S c t := by
  show Yacc _ _ _ _ _ (t + 1) = _
  rw [Yacc, if_neg (by omega)]

theorem before_1 (c : Dev nD) (t : Fin (cfgA pf S).N) (h : (wC pf).toNat ≤ t.val) (d) :
    (dats A pf S 0 c).before 1 t d = (dats A pf S 0 c).after 1 t := by
  have hp := S.n_pos
  have hN := N_A pf S
  have hc : ∀ (t : Fin (cfgA pf S).N) (_ : t.val ≠ 0), (wC pf).toNat ≤ t.val →
      (dats A pf S 0 c).after 1 t = (dats A pf S 0 c).after 1 ⟨t.val - 1, by omega⟩ := fun t h0 ht => by
    rw [after_1, after_1, Yc_tail A pf S c _ ht]
    show outY (Yc A pf S c t.val) = outY (Yc A pf S c (t.val - 1 + 1))
    rw [Nat.sub_add_cancel (by omega)]
  rw [Dat.before_out_traj (dats A pf S 0 c) 1 rfl (fun _ _ => rfl) (fun t h0 hi _ => hc t h0 (by
      rw [idle_1] at hi; simpa using hi)) t.val t rfl d, fresh_1 pf S t.val h (by omega), if_neg Bool.false_ne_true]
  exact (hc t (by omega) h).symm

abbrev st0 (t : Fin (cfgA pf S).N) : Memref sig .tc .vmem S4096x128 .f32 := ((cfgA pf S).win 0).stage ((cfgA pf S).slots t 0)
abbrev st1 (t : Fin (cfgA pf S).N) : Memref sig .tc .vmem S4096x128 .f32 := ((cfgA pf S).win 1).stage ((cfgA pf S).slots t 1)
abbrev hst0 (t : Fin (cfgA pf S).N) : (st0 pf S t).IsWhole := hstage0_0 (((cfgA pf S).slots t 0).cast nbuf0_0)
abbrev hst1 (t : Fin (cfgA pf S).N) : (st1 pf S t).IsWhole := hstage0_1 (((cfgA pf S).slots t 1).cast nbuf0_1)

theorem defs₀_row (t : Fin (cfgA pf S).N) :
    defs₀ (F := F) .tc (cfgA pf S).body ((cfgA pf S).bodyArgs t ((cfgA pf S).slots t))
      = bodyAt ((cfgA pf S).grid.coords t) (st0 pf S t) (hst0 pf S t) (st1 pf S t) (hst1 pf S t) := by
  unfold defs₀
  rw [Defs.onTc_tc]
  rfl

theorem sound_item (c : Dev nD) (t : Fin (cfgA pf S).N) (h : t.val < (wC pf).toNat) :
    iprop((dats A pf S 0 c).Φ t.castSucc ∗ (dats A pf S 0 c).owesAt () t.castSucc
      ∗ (∃ d, owns (c : Thread nD τ) (st0 pf S t) fullShare ((dats A pf S 0 c).before 0 t d))
      ∗ (∃ d, owns (c : Thread nD τ) (st1 pf S t) fullShare ((dats A pf S 0 c).before 1 t d)))
    ⊢ wp frame (wpE (defs₀ (F := F)) Variants.none c none) Set.univ (bodyAt ((cfgA pf S).grid.coords t) (st0 pf S t) (hst0 pf S t) (st1 pf S t) (hst1 pf S t))
        (fun _ => iprop((dats A pf S 0 c).Φ t.succ ∗ (dats A pf S 0 c).owesAt () t.succ
          ∗ owns (c : Thread nD τ) (st0 pf S t) fullShare ((dats A pf S 0 c).after 0 t)
          ∗ owns (c : Thread nD τ) (st1 pf S t) fullShare ((dats A pf S 0 c).after 1 t))) := by
  simp only [before_0, after_0, after_1]
  rw [show (dats A pf S 0 c).Φ t.castSucc = iprop((∃ r, prngReg c r) ∗ invA A pf S c t.val) from rfl,
    show (dats A pf S 0 c).Φ t.succ = iprop((∃ r, prngReg c r) ∗ invA A pf S c (t.val + 1)) from rfl]
  unfold Dat.owesAt Pipeline.owesWithin
  rw [show (dats A pf S 0 c).owed t.castSucc = 0 from rfl, show (dats A pf S 0 c).owed t.succ = 0 from rfl]
  iintro ⟨⟨Hg, Hi⟩, ⟨%W, -, HW⟩, ⟨%d0, Hx⟩, ⟨%d1, Hy⟩⟩
  iapply (stepI c _ (st0 pf S t) (hst0 pf S t) (st1 pf S t) (hst1 pf S t) pf S (A c main_arg2) (A c main_arg3) (A c main_arg4) W t.val h (coordsA pf S t) (Xc A pf S c) _)
  isplitl [Hx]; · iexact Hx
  isplitl [Hy]; · iexists _; iexact Hy
  isplitl [Hi]; · iexact Hi
  isplitl [HW]; · iexact HW
  iintro ⟨Hx, Hy, Hi, ⟨%W', HW⟩⟩
  isplitl [Hg Hi]
  · isplitl [Hg]; · iexact Hg
    iexact Hi
  isplitl [HW]
  · iexists W'; isplitr
    · ipureintro; exact fun _ _ => Or.inl trivial
    iexact HW
  isplitl [Hx]; · iexact Hx
  iexact Hy

theorem sound_rest (c : Dev nD) (t : Fin (cfgA pf S).N) (h : (wC pf).toNat ≤ t.val) :
    iprop((dats A pf S 0 c).Φ t.castSucc ∗ (dats A pf S 0 c).owesAt () t.castSucc
      ∗ (∃ d, owns (c : Thread nD τ) (st0 pf S t) fullShare ((dats A pf S 0 c).before 0 t d))
      ∗ (∃ d, owns (c : Thread nD τ) (st1 pf S t) fullShare ((dats A pf S 0 c).before 1 t d)))
    ⊢ wp frame (wpE (defs₀ (F := F)) Variants.none c none) Set.univ (bodyAt ((cfgA pf S).grid.coords t) (st0 pf S t) (hst0 pf S t) (st1 pf S t) (hst1 pf S t))
        (fun _ => iprop((dats A pf S 0 c).Φ t.succ ∗ (dats A pf S 0 c).owesAt () t.succ
          ∗ owns (c : Thread nD τ) (st0 pf S t) fullShare ((dats A pf S 0 c).after 0 t)
          ∗ owns (c : Thread nD τ) (st1 pf S t) fullShare ((dats A pf S 0 c).after 1 t))) := by
  have hb := before_1 A pf S c t h
  simp only [before_0, after_0, hb]
  rw [show (dats A pf S 0 c).Φ t.castSucc = iprop((∃ r, prngReg c r) ∗ invA A pf S c t.val) from rfl,
    show (dats A pf S 0 c).Φ t.succ = iprop((∃ r, prngReg c r) ∗ invA A pf S c (t.val + 1)) from rfl]
  rw [show (dats A pf S 0 c).owesAt () t.succ = (dats A pf S 0 c).owesAt () t.castSucc from rfl]
  iintro ⟨⟨Hg, Hi⟩, HW, ⟨%d0, Hx⟩, ⟨%d1, Hy⟩⟩
  iapply (stepA c _ (st0 pf S t) (hst0 pf S t) (st1 pf S t) (hst1 pf S t) pf S (A c main_arg2) (A c main_arg3) (A c main_arg4) t.val (N_A pf S ▸ t.isLt) h (coordsA pf S t) (Xc A pf S c) _)
  isplitl [Hi]; · iexact Hi
  iintro Hi
  isplitl [Hg Hi]
  · isplitl [Hg]; · iexact Hg
    iexact Hi
  isplitl [HW]; · iexact HW
  isplitl [Hx]; · iexact Hx
  iexact Hy

theorem leave_any {M : Type} [URA M] (i f : Bool) (A B : sProp M) :
    (i = true → A ⊢ B) → A ⊢ (match i with | true => (match f with | false => B | true => A) | false => A) := by
  intro h
  cases i with
  | false => exact .rfl
  | true => cases f with
    | false => exact h rfl
    | true => exact .rfl

theorem sound_any (c : Dev nD) (t : Fin (cfgA pf S).N) :
    iprop((dats A pf S 0 c).Φ t.castSucc ∗ (dats A pf S 0 c).owesAt () t.castSucc
      ∗ (∃ d, owns (c : Thread nD τ) (st0 pf S t) fullShare ((dats A pf S 0 c).before 0 t d))
      ∗ (∃ d, owns (c : Thread nD τ) (st1 pf S t) fullShare ((dats A pf S 0 c).before 1 t d)))
    ⊢ wp frame (wpE (defs₀ (F := F)) Variants.none c none) Set.univ (bodyAt ((cfgA pf S).grid.coords t) (st0 pf S t) (hst0 pf S t) (st1 pf S t) (hst1 pf S t))
        (fun _ => iprop((dats A pf S 0 c).Φ t.succ ∗ (dats A pf S 0 c).owesAt () t.succ
          ∗ owns (c : Thread nD τ) (st0 pf S t) fullShare ((dats A pf S 0 c).after 0 t)
          ∗ owns (c : Thread nD τ) (st1 pf S t) fullShare ((dats A pf S 0 c).after 1 t))) := by
  by_cases h : t.val < (wC pf).toNat
  · exact sound_item A pf S c t h
  · exact sound_rest A pf S c t (Nat.le_of_not_lt h)

theorem leave_1 (c : Dev nD) (t : Fin (cfgA pf S).N) (hi : (cfgA pf S).idle 1 ((cfgA pf S).grid.coords t) = true) :
    (owns (c : Thread nD τ) (st1 pf S t) fullShare ((dats A pf S 0 c).after 1 t) : sProp 𝕄)
      ⊢ iprop(∃ d, owns (c : Thread nD τ) (st1 pf S t) fullShare ((dats A pf S 0 c).before 1 t d)) := by
  rw [idle_1] at hi
  have h : (wC pf).toNat ≤ t.val := by simpa using hi
  iintro Hy
  iexists default
  rw [before_1 A pf S c t h]
  iexact Hy

theorem body_obligation (c : Dev nD) : BodyObligation (dats A pf S 0 c) (defs₀ (F := F)) Variants.none () Set.univ := fun t => by
  rw [bigSep_W0, bigSep_W0, defs₀_row]
  refine triple_restated (sound_any A pf S c t) rfl .rfl fun _ => BIClass.sep_mono Entails.rfl (BIClass.sep_mono Entails.rfl (BIClass.sep_mono Entails.rfl ?_))
  exact leave_any ((cfgA pf S).idle 1 ((cfgA pf S).grid.coords t)) (((cfgA pf S).win 1).flush t) _ _ (leave_1 A pf S c t)

/-! ## The launch -/

/-- The two semaphores of the copies. -/
abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The weights left where they are. -/
def H0 : Finset (Ref sig .tc) := {main_arg2, main_arg3, main_arg4}
theorem H0_sub : H0 ⊆ Pipeline.restRefsP sig pre0 spec0 := by decide
theorem hbmPts0_eq (c : Dev nD) :
    (bigSep H0 (fun b => ((c : Thread nD τ).loc b) ↦{fullShare} A c b) : sProp 𝕄)
      = iprop(((c : Thread nD τ).loc main_arg2 ↦{fullShare} A c main_arg2) ∗ ((c : Thread nD τ).loc main_arg3 ↦{fullShare} A c main_arg3)
          ∗ ((c : Thread nD τ).loc main_arg4 ↦{fullShare} A c main_arg4)) := by
  rw [BI.bigSep_eq_bigSepL_of_eq [main_arg2, main_arg3, main_arg4] (by decide) (by decide)]; rfl
theorem prefs0_eq (c : Dev nD) :
    (Pipeline.prefHeld pre0 c (fun _ => fullShare.right) pf : sProp 𝕄) = tabs c pf := by
  unfold Pipeline.prefHeld
  rw [BI.bigSep_univ_eq_bigSepL [(0 : Fin 7), 1, 2, 3, 4, 5, 6] (by decide) (by decide)]; rfl

theorem pt_whole (c : Dev nD) {sp : Space} {s : Shape} {e : EltTy} (M : Memref sig .tc sp s e) (h : M.IsWhole) (f : BufOf (F := F) c M) :
    (pt c M f : sProp 𝕄) = (M.view.loc (c : Thread nD τ) ↦{fullShare} f) := by
  rw [pt, Memref.IsWhole.set_eq_univ h]

theorem hin (c : Dev nD) : iprop(Pipeline.ΦD osem0 spec0 H0 A c ∗ Pipeline.ΦT pre0 pf c) ⊢ (dats A pf S 0 c).Φ 0 := by
  rw [Pipeline.ΦD_eq, scopedRest0_eq, ownSems00_eq, hbmPts0_eq]
  unfold Pipeline.ΦT
  rw [prefs0_eq]
  rw [show (dats A pf S 0 c).Φ 0 = iprop((∃ r, prngReg c r) ∗ tabs c pf ∗ start c (A c main_arg2) (A c main_arg3) (A c main_arg4)) from rfl]
  unfold start flW
  simp only [pt_whole _ _ (Memref.isWhole_whole _)]
  iintro ⟨⟨⟨H0, H1, H2, H3, H4, H5, H6⟩, Hg, ⟨Hs0, Hs1⟩, ⟨Hw0, Hw1, Hw2⟩⟩, Ht⟩
  isplitl [Hg]; · iexact Hg
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexact Hs0
  isplitl [Hs1]; · iexact Hs1
  isplitl [Hw0]; · iexact Hw0
  isplitl [Hw1]; · iexact Hw1
  iexact Hw2

theorem hout (c : Dev nD) : (dats A pf S 0 c).Φ (Fin.last (cfgA pf S).N) ⊢ Pipeline.ΦD osem0 spec0 H0 A c := by
  have hn := S.n_le
  have hp := S.n_pos
  rw [Pipeline.ΦD_eq, scopedRest0_eq, ownSems00_eq, hbmPts0_eq]
  rw [show (dats A pf S 0 c).Φ (Fin.last (cfgA pf S).N) = iprop((∃ r, prngReg c r) ∗ invA A pf S c (Fin.last (cfgA pf S).N).val) from rfl]
  rw [show (Fin.last (cfgA pf S).N).val = 159 from N_A pf S]
  unfold invA inv
  rw [if_neg (by decide), Nat.min_eq_right hn]
  unfold live
  rw [S.last, flight_none]
  unfold flW
  iintro ⟨Hg, -, Ho0, Ho1, Ho2, Ho3, H4, H5, H6, Hs0, Hs1, Hw0, Hw1, Hw2⟩
  ihave H0 := owns_some c scG _ $$ [Ho0]; · iexact Ho0
  ihave H1 := owns_some c scU _ $$ [Ho1]; · iexact Ho1
  ihave H2 := owns_some c scD _ $$ [Ho2]; · iexact Ho2
  ihave H3 := owns_some c scY _ $$ [Ho3]; · iexact Ho3
  simp only [pt_whole _ _ (Memref.isWhole_whole _)]
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hg]; · iexact Hg
  isplitl [Hs0 Hs1]
  · isplitl [Hs0]; · iexact Hs0
    iexact Hs1
  isplitl [Hw0]; · iexact Hw0
  isplitl [Hw1]; · iexact Hw1
  iexact Hw2

/-! ## The run -/

section Run
variable (m : (ℓ : Loc nD τ sig) → Buf (Elt F) ℓ) (ρ : Dev nD → PrngReg)

set_option backward.isDefEq.respectTransparency.types false in
theorem run_main (hA : Pipeline.HMainP (Ix := Unit) (Name := ℕ) (U := Pipeline.UD sig nD τ) (Lvl := ℕ) pcfgs 0 defs₀ Variants.none m (main (F := F)) A)
    (hpf : ∀ c k, A c (pre0.ref k) = pf k) :
    θ_run defs (onTc (τ := τ) (main (F := F))) (s₀ m ρ)
      (fun r => Pipeline.FramePost (Pipeline.pin pcfgs (adm pf S)) (dats A pf S) 0 A r ∧ r.2.sem = fun _ => 0) :=
  Pipeline.θ_run_frameP_dma (Q' := _) pcfgs (adm pf S) (dats A pf S) (0 : Fin 1) launch0 osem0 defs₀ Variants.none ownSemFacts0 H0 H0_sub m ρ main
    (hbody := fun c => (body_obligation A pf S c).loose) (hshare := fun c => (dats A pf S 0 c).share_full fun _ => rfl)
    (howed := fun _ _ => rfl) (V := A) (hmain := hA) (hA := fun c w => A_eq A pf S c w)
    (hpf := hpf) (hin := fun c => hin A pf S c) (hout := fun c => hout A pf S c)

end Run

end Cert.KernelIdeal.Hand
-- ==== Proof.Entry.lean ====
/-
  The precondition, read: the counts are of all the rows; and the arguments, which the host leaves as they were.
-/
module

public import proofs.«01_k».proof.Proof.SchedOf
public import proofs.«01_k».proof.Proof.Frame
public import proofs.«01_k».proof.Proof.Gen.Pre_routed
public import Idealize.ShloMosaic.Lib.ReduceAll

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem V_arg0 (c : Dev nD) : V m c main_arg0 = m (c.tc.loc main_arg0) := (in0 m c main_arg0 (by decide)).symm
theorem V_arg1 (c : Dev nD) : V m c main_arg1 = m (c.tc.loc main_arg1) := (in0 m c main_arg1 (by decide)).symm
theorem V_arg2 (c : Dev nD) : V m c main_arg2 = m (c.tc.loc main_arg2) := (in0 m c main_arg2 (by decide)).symm
theorem V_arg3 (c : Dev nD) : V m c main_arg3 = m (c.tc.loc main_arg3) := (in0 m c main_arg3 (by decide)).symm
theorem V_arg4 (c : Dev nD) : V m c main_arg4 = m (c.tc.loc main_arg4) := (in0 m c main_arg4 (by decide)).symm

section
attribute [local irreducible] V

/-- What `routed` says of the counts. -/
theorem routed_iff {a0 : IVec S32 32} {a1 : FVec F S65536x1024 .f32} {a2 a3 : FVec F S32x1024x512 .f32} {a4 : FVec F S32x512x1024 .f32}
    (h : Cert.Pre_routed.fn (F := F) a0 a1 a2 a3 a4 = fun _ => 1#1) :
    (∀ e : Fin 32, (a0 (ix1 e)).toNat ≤ 65536) ∧ (∑ e : Fin 32, (a0 (ix1 e)).toNat) = 65536 := by
  have e := congrFun h ValueIdx.ix0
  simp only [Cert.Pre_routed.fn] at e
  obtain ⟨e1, e2⟩ := (W.andi_iff _ _).1 e
  have hle : ∀ e : Fin 32, (a0 (ix1 e)).toNat ≤ 65536 := fun i => by
    have : Subsingleton Cert.Pre_routed.S_.Idx := ⟨fun a b => funext fun k => k.elim0⟩
    have hi := Host.reduce_andi_all _ _ _ _ _ e1 (ix1 i)
    obtain ⟨p, q⟩ := (W.andi_iff _ _).1 hi
    have p' : BitVec.ofBool ((0#32 : BitVec 32).sle (a0 (ix1 i))) = 1#1 := p
    have q' : BitVec.ofBool ((a0 (ix1 i)).sle 65536#32) = 1#1 := q
    rw [StableHlo.Predicate.ofBool_eq_one_iff] at p' q'
    simp only [BitVec.sle, decide_eq_true_eq, show (0#32 : BitVec 32).toInt = 0 from rfl, show (65536#32 : BitVec 32).toInt = 65536 from rfl] at p' q'
    have hb := (a0 (ix1 i)).isLt
    rw [BitVec.toInt_eq_toNat_cond] at p' q'
    split at p' <;> simp_all <;> omega
  refine ⟨hle, ?_⟩
  have e3 := StableHlo.Predicate.cmpi_eq_iff.1 e2
  have e4 := Routing.reduce_sum (N := 32) a0 (fun i => if h : i < 32 then (a0 (ix1 ⟨i, h⟩)).toNat else 0)
    (fun i => by simp only [dif_pos i.isLt, BitVec.ofNat_toNat, BitVec.setWidth_eq]; rfl) Cert.Pre_routed.Gen.reducesTo_S32_S_d0 Cert.Pre_routed.Gen.h_S_
  have e5 := e4.symm.trans e3
  have hs : ((List.range 32).map fun i => if h : i < 32 then (a0 (ix1 ⟨i, h⟩)).toNat else 0).sum = ∑ e : Fin 32, (a0 (ix1 e)).toNat := by
    rw [list_sum, Finset.sum_range]
    exact Finset.sum_congr rfl fun i _ => dif_pos i.isLt
  rw [hs] at e5
  have hb : (∑ e : Fin 32, (a0 (ix1 e)).toNat) ≤ 32 * 65536 := by
    refine (Finset.sum_le_card_nsmul _ _ 65536 fun e _ => hle e).trans ?_
    simp
  exact (W.inj (by omega) (by omega)).1 e5

theorem good_of (c : Dev nD) {a1 : FVec F S65536x1024 .f32} {a2 a3 : FVec F S32x1024x512 .f32} {a4 : FVec F S32x512x1024 .f32}
    (h : Cert.Pre_routed.fn (F := F) (m (c.tc.loc main_arg0)) a1 a2 a3 a4 = fun _ => 1#1) : Good m c := by
  obtain ⟨h1, h2⟩ := routed_iff h
  have e : ∀ i : Fin 32, cntN m c i.val = ((show S32.Idx → BitVec 32 from m (c.tc.loc main_arg0)) (ix1 i)).toNat := fun i => by
    unfold cntN cnW
    rw [dif_pos i.isLt, V_arg0]
  constructor
  · intro i
    by_cases hi : i < 32
    · exact (e ⟨i, hi⟩).le.trans (h1 ⟨i, hi⟩)
    · unfold cntN
      rw [dif_neg hi]
      omega
  · constructor
    unfold Items.P
    rw [Finset.sum_range, ← h2]
    exact Finset.sum_congr rfl fun i _ => e i

end

theorem rest0 : main_arg0 ∈ Pipeline.restRefs sig spec0 := Pipeline.mem_restRefs_of _ (by decide) (by decide)
theorem rest1 : main_arg1 ∈ Pipeline.restRefs sig spec0 := Pipeline.mem_restRefs_of _ (by decide) (by decide)
theorem rest2 : main_arg2 ∈ Pipeline.restRefs sig spec0 := Pipeline.mem_restRefs_of _ (by decide) (by decide)
theorem rest3 : main_arg3 ∈ Pipeline.restRefs sig spec0 := Pipeline.mem_restRefs_of _ (by decide) (by decide)
theorem rest4 : main_arg4 ∈ Pipeline.restRefs sig spec0 := Pipeline.mem_restRefs_of _ (by decide) (by decide)

/-- The run, from a memory whose counts are of all the rows. -/
theorem run_of (H : Good m 0) (ρ : Dev nD → PrngReg) :
    θ_run defs (onTc (τ := τ) (main (F := F))) (s₀ m ρ)
      (fun r => Pipeline.FramePost (Pipeline.pin pcfgs (adm (pfm m) (sched_of H))) (dats (V m) (pfm m) (sched_of H)) 0 (V m) r ∧ r.2.sem = fun _ => 0) :=
  run_main (V m) (pfm m) (sched_of H) m ρ (hmain m Variants.none) fun c k => by
    obtain rfl : c = 0 := Subsingleton.elim _ _
    rfl

/-- The arguments end as they began. -/
theorem args_of (H : Good m 0) (ρ : Dev nD → PrngReg) :
    θ_run defs (onTc (τ := τ) (main (F := F))) (s₀ m ρ) (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨fun c => by
    have hr := (h.1 c).2
    refine ⟨?_, ?_, ?_, ?_, ?_⟩
    · exact (hr main_arg0 rest0).trans (V_arg0 m c)
    · exact (hr main_arg1 rest1).trans (V_arg1 m c)
    · exact (hr main_arg2 rest2).trans (V_arg2 m c)
    · exact (hr main_arg3 rest3).trans (V_arg3 m c)
    · exact (hr main_arg4 rest4).trans (V_arg4 m c), h.2⟩) (run_of m H ρ)

end Cert.KernelIdeal.Hand

end
-- ==== Proof.Same.lean ====
/-
  The call's program and its idealization have one text: no rule rewrote an operation. Their tables of functions and their
  main programs are equal, statement by statement, so that one run serves both frames.
-/
module

public import proofs.«01_k».proof.Defs
public import proofs.«01_k».proof.Proof.Gen.Kernel
public import proofs.«01_k».proof.Proof.Gen.KernelIdeal

public section

set_option maxHeartbeats 40000000

namespace Cert.Same

open Idealize.ShloMosaic Idealize.SL.Sem

universe v

theorem bind_same {E : Type → Type v} {α β : Type} {x y : Prog E α} {f g : α → Prog E β} (h : x = y) (k : ∀ a, f a = g a) :
    (x >>= f) = (y >>= g) := by
  rw [h, funext k]

theorem defs₀_same : Cert.Kernel.defs₀ (F := Bits) = Cert.KernelIdeal.defs₀ (F := Bits) := by
  funext p l a
  cases p <;> rcases l with _ | _ <;> rfl

/-- The two tables of functions are one. -/
theorem defs_same : Cert.Kernel.defs (F := Bits) = Cert.KernelIdeal.defs (F := Bits) := by
  unfold Cert.Kernel.defs Cert.KernelIdeal.defs
  exact congrArg _ defs₀_same

theorem part0_same : Cert.Kernel.main_part0 (F := Bits) = Cert.KernelIdeal.main_part0 (F := Bits) := by
  funext d
  unfold Cert.Kernel.main_part0 Cert.KernelIdeal.main_part0
  repeat (refine bind_same ?_ fun _ => ?_; rfl)
  rfl

theorem part1_same : Cert.Kernel.main_part1 (F := Bits) = Cert.KernelIdeal.main_part1 (F := Bits) := by
  funext d
  unfold Cert.Kernel.main_part1 Cert.KernelIdeal.main_part1
  repeat (refine bind_same ?_ fun _ => ?_; rfl)
  rfl

theorem part2_same : Cert.Kernel.main_part2 (F := Bits) = Cert.KernelIdeal.main_part2 (F := Bits) := by
  funext d
  unfold Cert.Kernel.main_part2 Cert.KernelIdeal.main_part2
  repeat (refine bind_same ?_ fun _ => ?_; rfl)
  rfl

/-- The two main programs are one. -/
theorem main_same : Cert.Kernel.main (F := Bits) = Cert.KernelIdeal.main (F := Bits) := by
  funext d
  unfold Cert.Kernel.main Cert.KernelIdeal.main
  rw [part0_same, part1_same, part2_same]
  rfl

end Cert.Same

end
-- ==== Proof.Rows.lean ====
/-
  What the accumulated tile holds after a grid point, row by row: a row of the point's tile that an item up to it covers
  holds that item's feed-forward.
-/
module

public import proofs.«01_k».proof.Proof.Entry

@[expose] public section

set_option maxRecDepth 16384

noncomputable section

namespace Cert.Items

variable {cnt : ℕ → ℕ}

/-- An item is its expert's item of its tile. -/
theorem item_unique {i j : ℕ} (hi : i < Q cnt 32) (hj : j < Q cnt 32) (he : ex cnt i = ex cnt j) (ht : tl cnt i = tl cnt j) : i = j := by
  obtain ⟨_, a, _⟩ := ex_spec hi
  obtain ⟨_, b, _⟩ := ex_spec hj
  unfold tl at ht
  rw [he] at a ht
  omega

end Cert.Items

namespace Cert.KernelIdeal.Hand

open Cert.KernelIdeal Cert.KernelIdeal.Gen
open Idealize.ShloMosaic Idealize.ShloMosaic.TcCoe

variable {F : FTy → Type} [FloatOps F]

attribute [local irreducible] V

theorem mask_iff {a b : ℕ} (ha : a ≤ 512) (hb : b ≤ 512) (j : S512x1024.Idx) :
    k0_pay11 (F := F) (BitVec.ofNat 32 a) (BitVec.ofNat 32 b) j = 1#1 ↔ a ≤ (j 0).val ∧ (j 0).val < b := by
  have hj : (j 0).val < 512 := (j 0).isLt
  have e : k0_pay11 (F := F) (BitVec.ofNat 32 a) (BitVec.ofNat 32 b) j
      = IntOp.andi (IntOp.cmpi .sle (BitVec.ofNat 32 a) (BitVec.ofNat 32 (j 0).val)) (IntOp.cmpi .slt (BitVec.ofNat 32 (j 0).val) (BitVec.ofNat 32 b)) := by
    unfold k0_pay11
    pointwise
    rfl
  rw [e, W.andi_iff, W.sle_iff (by omega) (by omega), W.slt_iff (by omega) (by omega)]

section
variable {m : (ℓ : Loc nD τ sig) → Buf (Elt F) ℓ}
variable (H : Good m 0)
include H

theorem wT_nat {t : ℕ} (ht : t < 159) : wT (pfm m) t = BitVec.ofNat 32 (Items.tl (cntN m 0) (jj m 0 t)) := by
  rw [wT_pfm, tl_nat H, pnt_val ht]

theorem wT_toNat {t : ℕ} (ht : t < 159) : (wT (pfm m) t).toNat = Items.tl (cntN m 0) (jj m 0 t) := by
  have := tl_bound H t
  rw [wT_nat H ht, W.toNat_ofNat (by omega)]

theorem wE_toNat {t : ℕ} (ht : t < 159) : (wE (pfm m) t).toNat = xN m 0 t := by
  have := xN_lt H t
  rw [wE_pfm, ex_nat H, pnt_val ht, W.toNat_ofNat (by omega)]

/-- A grid point's change of a row. -/
theorem Yc_step (c : Dev nD) {t : ℕ} (ht : t < (wC (pfm m)).toNat) (j : S512x1024.Idx) :
    Yc (V m) (pfm m) (sched_of H) c (t + 1) j
      = if Items.P (cntN m 0) (xN m 0 t) ≤ Items.tl (cntN m 0) t * 512 + (j 0).val
          ∧ Items.tl (cntN m 0) t * 512 + (j 0).val < Items.P (cntN m 0) (xN m 0 t + 1)
        then ffn (Xc (V m) (pfm m) (sched_of H) c t) (castG (V m c main_arg2) (wE (pfm m) t)) (castU (V m c main_arg3) (wE (pfm m) t))
          (castD (V m c main_arg4) (wE (pfm m) t)) j
        else Yc (V m) (pfm m) (sched_of H) c t j := by
  have hn := Items.n_le H.counts
  have hq := n_eq H
  have ht' : t < 159 := by omega
  have hj : (j 0).val < 512 := (j 0).isLt
  have hjj : jj m 0 t = t := jj_of (by omega)
  show Yacc _ _ _ _ _ (t + 1) j = _
  rw [Yacc, if_pos ht]
  unfold stepY
  have hl : wL (pfm m) t = BitVec.ofNat 32 (min 512 (Items.P (cntN m 0) (xN m 0 t) - Items.tl (cntN m 0) t * 512)) := by
    rw [wL_pfm, lo_nat H, pnt_val ht', hjj]
  have hh : wH (pfm m) t = BitVec.ofNat 32 (min 512 (Items.P (cntN m 0) (xN m 0 t + 1) - Items.tl (cntN m 0) t * 512)) := by
    rw [wH_pfm, hi_nat H, pnt_val ht', hjj]
  rw [hl, hh]
  refine if_congr ((mask_iff (by omega) (by omega) j).trans ?_) rfl rfl
  omega

/-- A row an item covers keeps the item's feed-forward while the tile stays. -/
theorem Yc_row (c : Dev nD) {i : ℕ} (hi : i < (wC (pfm m)).toNat) (j : S512x1024.Idx)
    (h1 : Items.P (cntN m 0) (xN m 0 i) ≤ Items.tl (cntN m 0) i * 512 + (j 0).val)
    (h2 : Items.tl (cntN m 0) i * 512 + (j 0).val < Items.P (cntN m 0) (xN m 0 i + 1)) :
    ∀ t, i ≤ t → Items.tl (cntN m 0) (jj m 0 t) = Items.tl (cntN m 0) i →
      Yc (V m) (pfm m) (sched_of H) c (t + 1) j
        = ffn (Xc (V m) (pfm m) (sched_of H) c i) (castG (V m c main_arg2) (wE (pfm m) i)) (castU (V m c main_arg3) (wE (pfm m) i))
          (castD (V m c main_arg4) (wE (pfm m) i)) j := by
  have hq := n_eq H
  have hxi : xN m 0 i = Items.ex (cntN m 0) i := by unfold xN; rw [jj_of (by omega)]
  refine Nat.le_induction ?_ ?_
  · intro _
    rw [Yc_step H c hi, if_pos ⟨h1, h2⟩]
  · intro t hit ih ht
    have hlt := jj_lt H (t + 1)
    have hm1 : jj m 0 t ≤ jj m 0 (t + 1) := by unfold jj; omega
    have hm2 : i ≤ jj m 0 t := by unfold jj; omega
    have ht' : Items.tl (cntN m 0) (jj m 0 t) = Items.tl (cntN m 0) i :=
      le_antisymm ((Items.tl_mono hm1 hlt).trans_eq ht) (Items.tl_mono hm2 (jj_lt H t))
    by_cases hn : t + 1 < (wC (pfm m)).toNat
    · rw [Yc_step H c hn, if_neg, ih ht']
      rintro ⟨g1, g2⟩
      have hjj : jj m 0 (t + 1) = t + 1 := jj_of (by omega)
      have hx : xN m 0 (t + 1) = Items.ex (cntN m 0) (t + 1) := by unfold xN; rw [hjj]
      rw [hjj] at ht
      rw [ht] at g1 g2
      have he := Items.row_unique g1 g2 h1 h2
      rw [hx, hxi] at he
      have := Items.item_unique (by omega) (by omega) he ht
      omega
    · rw [Yc_tail (V m) (pfm m) (sched_of H) c (t + 1) (by omega), ih ht']

/-- The row's expert. -/
theorem row_item {r : ℕ} (hr : r < 65536) : ∃ i, i < (wC (pfm m)).toNat ∧ Items.tl (cntN m 0) i = r / 512
    ∧ Items.P (cntN m 0) (xN m 0 i) ≤ r ∧ r < Items.P (cntN m 0) (xN m 0 i + 1) := by
  obtain ⟨e, he, h1, h2⟩ := Items.row_exists H.counts hr
  obtain ⟨i, hi, hx, ht⟩ := Items.item_of he h1 h2
  have hxi : xN m 0 i = e := by unfold xN; rw [jj_of hi, hx]
  exact ⟨i, by rw [n_eq H]; exact hi, ht, by rw [hxi]; exact h1, by rw [hxi]; exact h2⟩

end

end Cert.KernelIdeal.Hand

end
-- ==== Proof.Final.lean ====
/-
  The output array after the run: every row is the feed-forward of its own item, read off the last point of its tile.
-/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]

attribute [local irreducible] V

section
variable (A : (c : Dev nD) → (b : Ref sig .tc) → Buf (Elt F) ((c : Thread nD τ).loc b)) (pf : Tabs F) (S : Sched pf)

theorem flush_same (t : Fin (cfgA pf S).N) (h' : t.val + 1 < 159) (e : (wT pf (t.val + 1)).toNat = (wT pf t.val).toNat) :
    ((cfgA pf S).win 1).flush t = false := by
  have hN := N_A pf S
  have e : ∀ h : t.val + 1 < (cfgA pf S).N, ((cfgA pf S).win 1).index ⟨t.val + 1, h⟩ = ((cfgA pf S).win 1).index t := fun h2 => by
    rw [index_1, index_1, e]
  unfold Window.flush
  rw [decide_eq_false (by omega : ¬ t.val + 1 = (cfgA pf S).N), decide_eq_false (fun ⟨h2, h3⟩ => h3 (e h2))]
  simp

theorem flush_last (t : Fin (cfgA pf S).N) (h : t.val = 158 ∨ (wT pf (t.val + 1)).toNat ≠ (wT pf t.val).toNat) :
    ((cfgA pf S).win 1).flush t = true := by
  have hN := N_A pf S
  unfold Window.flush
  by_cases hl : t.val + 1 = (cfgA pf S).N
  · rw [decide_eq_true hl]
    rfl
  · have hlt := t.isLt
    have h2 : t.val + 1 < (cfgA pf S).N := by omega
    have h3 : ((cfgA pf S).win 1).index ⟨t.val + 1, h2⟩ ≠ ((cfgA pf S).win 1).index t := fun e => by
      rw [index_1, index_1] at e
      have e0 := congrFun e 0
      rcases h with h | h
      · omega
      · exact h e0
    rw [decide_eq_true (⟨h2, h3⟩ : ∃ h, _)]
    simp only [Bool.or_true, Bool.and_true]
    rfl

/-- Where a block's element lies in its array. -/
def embI (w : Fin 2) (t : Fin (cfgA pf S).N) (y : S4096x128.Idx) : S524288x128.Idx :=
  match w with
  | 0 => (((cfgA pf S).win 0).rect t).emb y
  | 1 => (((cfgA pf S).win 1).rect t).emb y

theorem index_0 (t : Fin (cfgA pf S).N) : ((cfgA pf S).win 0).index t = ![(wT pf t.val).toNat, 0] :=
  tr_eq pf _ t.val (N_A pf S ▸ t.isLt) (coordsA pf S t)

theorem emb_0 (t : Fin (cfgA pf S).N) (y : S4096x128.Idx) :
    (embI pf S 0 t y 0).val = (wT pf t.val).toNat * 4096 + (y 0).val ∧ (embI pf S 0 t y 1).val = (y 1).val := by
  have h0 := ((cfgA pf S).win 0).rect_emb_val t y (0 : Fin 2) rfl
  have h1 := ((cfgA pf S).win 0).rect_emb_val t y (1 : Fin 2) rfl
  rw [index_0] at h0 h1
  refine ⟨h0, h1.trans ?_⟩
  show 0 * _ + _ = _
  rw [Nat.zero_mul, Nat.zero_add]

theorem emb_1 (t : Fin (cfgA pf S).N) (y : S4096x128.Idx) :
    (embI pf S 1 t y 0).val = (wT pf t.val).toNat * 4096 + (y 0).val ∧ (embI pf S 1 t y 1).val = (y 1).val := by
  have h0 := ((cfgA pf S).win 1).rect_emb_val t y (0 : Fin 2) rfl
  have h1 := ((cfgA pf S).win 1).rect_emb_val t y (1 : Fin 2) rfl
  rw [index_1] at h0 h1
  refine ⟨h0, h1.trans ?_⟩
  show 0 * _ + _ = _
  rw [Nat.zero_mul, Nat.zero_add]

/-- A row and a lane of the rows a grid point reads. -/
theorem Xc_at (c : Dev nD) (t : Fin (cfgA pf S).N) (j : S4096x128.Idx) :
    Xc A pf S c t.val j = (show S524288x128.Idx → F .f32 from A c main_v105) (embI pf S 0 t j) := by
  unfold Xc
  rw [ptA_val]
  rfl

theorem flushed_at (c : Dev nD) (t : Fin (cfgA pf S).N) (y : S4096x128.Idx) :
    (dats A pf S 0 c).flushed 1 t y = outY (Yc A pf S c (t.val + 1)) y := by
  show ((cfgA pf S).win 1).cut ((cfgA pf S).grid.coords t) ((dats A pf S 0 c).after 1 t) y = _
  rw [after_1]
  rfl

theorem read_1 (c : Dev nD) (t : Fin (cfgA pf S).N) (G : Buf (Elt F) ((c : Thread nD τ).loc main_v106)) (y : S4096x128.Idx) :
    View.read (Elt F) (((cfgA pf S).win 1).blk t).view G y = (show S524288x128.Idx → F .f32 from G) (embI pf S 1 t y) := rfl

theorem mem_1 (t : Fin (cfgA pf S).N) (i : S524288x128.Idx) (h0 : (wT pf t.val).toNat * 4096 ≤ (i 0).val)
    (h1 : (i 0).val < (wT pf t.val).toNat * 4096 + 4096) : i ∈ (((cfgA pf S).win 1).blk t).view.set := by
  have e : i = embI pf S 1 t (ix2 ⟨(i 0).val - (wT pf t.val).toNat * 4096, by omega⟩ (i 1)) := by
    funext a
    obtain ⟨a0, a1⟩ := emb_1 pf S t (ix2 ⟨(i 0).val - (wT pf t.val).toNat * 4096, by omega⟩ (i 1))
    refine Fin.ext ?_
    match a with
    | 0 => rw [a0]; show _ = _ + ((i 0).val - _); omega
    | 1 => rw [a1]; rfl
  rw [e]
  exact (((cfgA pf S).win 1).blk t).view.emb_mem_set _

end

section
variable {m : (ℓ : Loc nD τ sig) → Buf (Elt F) ℓ}
variable (H : Good m 0)

open Classical in
/-- The item of a row. -/
def itemOf (H : Good m 0) (r : ℕ) : ℕ := if h : r < 65536 then (row_item H h).choose else 0

/-- The feed-forward a point's item makes of the rows it reads. -/
def ffnAt (H : Good m 0) (c : Dev nD) (i : ℕ) : Vec F S512x1024 .f32 :=
  ffn (Xc (V m) (pfm m) (sched_of H) c i) (castG (V m c main_arg2) (wE (pfm m) i)) (castU (V m c main_arg3) (wE (pfm m) i))
    (castD (V m c main_arg4) (wE (pfm m) i))

theorem itemOf_spec (H : Good m 0) {r : ℕ} (hr : r < 65536) : itemOf H r < (wC (pfm m)).toNat ∧ Items.tl (cntN m 0) (itemOf H r) = r / 512
    ∧ Items.P (cntN m 0) (xN m 0 (itemOf H r)) ≤ r ∧ r < Items.P (cntN m 0) (xN m 0 (itemOf H r) + 1) := by
  unfold itemOf
  rw [dif_pos hr]
  exact (row_item H hr).choose_spec

/-- The output: every row the feed-forward of its item. -/
def outG (H : Good m 0) (c : Dev nD) : Vec F S524288x128 .f32 := fun i =>
  ffnAt H c (itemOf H ((i 0).val / 8)) (ix2 ⟨(i 0).val / 8 % 512, Nat.mod_lt _ (by decide)⟩
    ⟨((i 0).val % 8) * 128 + (i 1).val, by have : (i 1).val < 128 := (i 1).isLt; omega⟩)

theorem flushed_eq (c : Dev nD) (t : Fin (cfgA (pfm m) (sched_of H)).N) (hf : ((cfgA (pfm m) (sched_of H)).win 1).flush t = true) :
    (dats (V m) (pfm m) (sched_of H) 0 c).flushed 1 t
      = (((cfgA (pfm m) (sched_of H)).win 1).blk t).view.read (Elt F) (outG H c : Buf (Elt F) ((c : Thread nD τ).loc main_v106)) := by
  have hN := N_A (pfm m) (sched_of H)
  have hlt := t.isLt
  have hn := Items.n_le H.counts
  have hq := n_eq H
  funext y
  revert y
  show ∀ y : S4096x128.Idx, _
  intro y
  refine (flushed_at (V m) (pfm m) (sched_of H) c t y).trans (Eq.trans ?_ (read_1 (pfm m) (sched_of H) c t _ y).symm)
  obtain ⟨e0, e1⟩ := emb_1 (pfm m) (sched_of H) t y
  have hT := wT_toNat H (t := t.val) (by omega)
  have hT8 := tl_bound H t.val
  have y0 : (y 0).val < 4096 := (y 0).isLt
  have y1 : (y 1).val < 128 := (y 1).isLt
  generalize embI (pfm m) (sched_of H) 1 t y = i at e0 e1
  show Yc (V m) (pfm m) (sched_of H) c (t.val + 1) _ = outG H c i
  unfold outG
  have hr : (i 0).val / 8 < 65536 := by omega
  obtain ⟨g0, g1, g2, g3⟩ := itemOf_spec H hr
  have hT' : Items.tl (cntN m 0) (itemOf H ((i 0).val / 8)) = Items.tl (cntN m 0) (jj m 0 t.val) := by
    rw [g1]; omega
  generalize itemOf H ((i 0).val / 8) = k at g0 g1 g2 g3 hT'
  have hk : k ≤ t.val := by
    by_contra hk
    have hj : jj m 0 t.val = t.val := jj_of (by omega)
    have hj1 : jj m 0 (t.val + 1) = t.val + 1 := jj_of (by omega)
    have m1 := Items.tl_mono (cnt := cntN m 0) (i := t.val) (j := t.val + 1) (by omega) (by omega)
    have m2 := Items.tl_mono (cnt := cntN m 0) (i := t.val + 1) (j := k) (by omega) (by omega)
    have hs := flush_same (pfm m) (sched_of H) t (by omega) (by
      rw [wT_toNat H (by omega), wT_toNat H (by omega), hj1, hj]
      rw [hj] at hT'
      omega)
    rw [hs] at hf
    exact Bool.false_ne_true hf
  have ej : (ix2 (n0 := 512) (n1 := 1024) ⟨(y 0).val / 8, by omega⟩ ⟨((y 0).val % 8) * 128 + (y 1).val, by omega⟩ : S512x1024.Idx)
      = ix2 ⟨(i 0).val / 8 % 512, Nat.mod_lt _ (by decide)⟩ ⟨((i 0).val % 8) * 128 + (i 1).val, by have : (i 1).val < 128 := (i 1).isLt; omega⟩ := by
    congr 1
    · refine Fin.ext ?_
      show (y 0).val / 8 = (i 0).val / 8 % 512
      omega
    · refine Fin.ext ?_
      show (y 0).val % 8 * 128 + (y 1).val = (i 0).val % 8 * 128 + (i 1).val
      omega
  have key := Yc_row H c g0 (ix2 (n0 := 512) (n1 := 1024) ⟨(i 0).val / 8 % 512, Nat.mod_lt _ (by decide)⟩ ⟨((i 0).val % 8) * 128 + (i 1).val, by have : (i 1).val < 128 := (i 1).isLt; omega⟩)
    (by show _ ≤ _ * 512 + (i 0).val / 8 % 512; rw [g1]; omega) (by show _ * 512 + (i 0).val / 8 % 512 < _; rw [g1]; omega) t.val hk hT'.symm
  exact (congrArg (Yc (V m) (pfm m) (sched_of H) c (t.val + 1)) ej).trans key

theorem cover (i : S524288x128.Idx) :
    ∃ t : Fin (cfgA (pfm m) (sched_of H)).N, ((cfgA (pfm m) (sched_of H)).win 1).flush t = true
      ∧ i ∈ (((cfgA (pfm m) (sched_of H)).win 1).blk t).view.set := by
  classical
  have hN := N_A (pfm m) (sched_of H)
  have hn := Items.n_le H.counts
  have hq := n_eq H
  have i0 : (i 0).val < 524288 := (i 0).isLt
  have hr : (i 0).val / 8 < 65536 := by omega
  obtain ⟨g0, g1, -, -⟩ := itemOf_spec H hr
  generalize itemOf H ((i 0).val / 8) = k at g0 g1
  let Q : ℕ → Prop := fun t => Items.tl (cntN m 0) (jj m 0 t) = (i 0).val / 8 / 512
  have hk : Q k := by show Items.tl _ (jj m 0 k) = _; rw [jj_of (by omega), g1]
  have hs : Q (Nat.findGreatest Q 158) := Nat.findGreatest_spec (m := k) (by omega) hk
  have hle : Nat.findGreatest Q 158 ≤ 158 := Nat.findGreatest_le _
  have hg : ∀ k, Nat.findGreatest Q 158 < k → k ≤ 158 → ¬ Q k := fun k h1 h2 => Nat.findGreatest_is_greatest h1 h2
  generalize Nat.findGreatest Q 158 = t at hs hle hg
  have hT := wT_toNat H (t := t) (by omega)
  refine ⟨⟨t, by omega⟩, flush_last (pfm m) (sched_of H) _ ?_, mem_1 (pfm m) (sched_of H) _ i ?_ ?_⟩
  · by_cases h : t = 158
    · exact Or.inl h
    · refine Or.inr fun e => hg (t + 1) (by omega) (by omega) ?_
      have e' : (wT (pfm m) (t + 1)).toNat = (wT (pfm m) t).toNat := e
      rw [wT_toNat H (by omega), hT] at e'
      exact e'.trans hs
  · show (wT (pfm m) t).toNat * 4096 ≤ _
    rw [hT, show Items.tl (cntN m 0) (jj m 0 t) = _ from hs]
    omega
  · show _ < (wT (pfm m) t).toNat * 4096 + 4096
    rw [hT, show Items.tl (cntN m 0) (jj m 0 t) = _ from hs]
    omega

/-- The output array after the run. -/
theorem final (c : Dev nD) : (dats (V m) (pfm m) (sched_of H) 0 c).arrAt 1 (cfgA (pfm m) (sched_of H)).N
    = (outG H c : Buf (Elt F) ((c : Thread nD τ).loc main_v106)) :=
  (dats (V m) (pfm m) (sched_of H) 0 c).arrAt_eq_of_cover 1 _ (fun t hf => flushed_eq H c t hf) (cover H)

/-- The run, read at the result and the arguments. -/
theorem out_of (ρ : Dev nD → PrngReg) :
    θ_run defs (onTc (τ := τ) (main (F := F))) (s₀ m ρ) (fun r => ∀ c : Dev nD,
      r.2.mem (c.tc.loc main_v106) = outG H c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) :=
  (θ_run defs _ _).mono (fun r h c => by
    have hr := (h.1 c).2
    refine ⟨((h.1 c).1 1).trans (final H c), ?_, ?_, ?_, ?_, ?_⟩
    · exact (hr main_arg0 rest0).trans (V_arg0 m c)
    · exact (hr main_arg1 rest1).trans (V_arg1 m c)
    · exact (hr main_arg2 rest2).trans (V_arg2 m c)
    · exact (hr main_arg3 rest3).trans (V_arg3 m c)
    · exact (hr main_arg4 rest4).trans (V_arg4 m c)) (run_of m H ρ)

end

end Cert.KernelIdeal.Hand

end
-- ==== Proof.Ffn.lean ====
/-
  The feed-forward of a tile over the extended reals: two products, the gate's logistic, a third product; and the
  call's output, each row the feed-forward of its own expert.
-/
module

public import proofs.«01_k».proof.Proof.Final

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- One entry of the feed-forward of a row `x`: the two products with `g` and `u`, the first through its logistic, and the
    product with `d` of what they make. -/
def rowFf (x : Fin 1024 → EReal) (g u : Fin 1024 → Fin 512 → EReal) (d : Fin 512 → EReal) : EReal :=
  ∑ f, ((∑ k, x k * g k f) * Ideal.logistic (∑ k, x k * g k f) * ∑ k, x k * u k f) * d f

theorem at_of (X : Vec Ideal S4096x128 .f32) {a a' : Fin 4096} {b b' : Fin 128} (h : a.val = a'.val) (h' : b.val = b'.val) :
    X (ix2 a b) = X (ix2 a' b') := by rw [Fin.ext h, Fin.ext h']

/-- The eight strided reads side by side are the rows as they were before they were cut in eight. -/
theorem pay8_at (X : Vec Ideal S4096x128 .f32) (r : Fin 512) (k : Fin 1024) :
    k0_pay8 (ld0 X) (ld1 X) (ld2 X) (ld3 X) (ld4 X) (ld5 X) (ld6 X) (ld7 X) (ix2 r k)
      = X (ix2 ⟨8 * r.val + k.val / 128, by omega⟩ ⟨k.val % 128, by omega⟩) := by
  have hk := k.isLt
  unfold k0_pay8 ld0 ld1 ld2 ld3 ld4 ld5 ld6 ld7
  pointwise
  split_ifs <;> (apply at_of <;> (simp only; omega))

theorem castG_at (W : Vec Ideal S32x1024x512 .f32) (e : BitVec 32) (k : Fin 1024) (f : Fin 512) :
    castG W e (ix2 k f) = W (ix3 ⟨e.toNat % 32, Nat.mod_lt _ (by decide)⟩ k f) := by
  unfold castG k0_pay4
  pointwise

theorem castU_at (W : Vec Ideal S32x1024x512 .f32) (e : BitVec 32) (k : Fin 1024) (f : Fin 512) :
    castU W e (ix2 k f) = W (ix3 ⟨e.toNat % 32, Nat.mod_lt _ (by decide)⟩ k f) := by
  unfold castU k0_pay6 k0_pay5
  pointwise

theorem castD_at (W : Vec Ideal S32x512x1024 .f32) (e : BitVec 32) (f : Fin 512) (d : Fin 1024) :
    castD W e (ix2 f d) = W (ix3 ⟨e.toNat % 32, Nat.mod_lt _ (by decide)⟩ f d) := by
  unfold castD k0_pay7
  pointwise

theorem ffn_at (X : Vec Ideal S4096x128 .f32) (G U : Vec Ideal S1024x512 .bf16) (D : Vec Ideal S512x1024 .bf16) (r : Fin 512) (d : Fin 1024) :
    ffn X G U D (ix2 r d) = rowFf
      (fun k => k0_pay8 (ld0 X) (ld1 X) (ld2 X) (ld3 X) (ld4 X) (ld5 X) (ld6 X) (ld7 X) (ix2 r k))
      (fun k f => G (ix2 k f)) (fun k f => U (ix2 k f)) (fun f => D (ix2 f d)) := by
  unfold ffn k0_pay10 k0_pay9 rowFf
  pointwise

theorem v105_at (m : (ℓ : Loc nD τ sig) → Buf (Elt Ideal) ℓ) (c : Dev nD) (r : Fin 65536) (k : Fin 1024) (a : Fin 524288) (b : Fin 128)
    (ha : a.val = 8 * r.val + k.val / 128) (hb : b.val = k.val % 128) :
    (show S524288x128.Idx → EReal from V m c main_v105) (ix2 a b)
      = (show S65536x1024.Idx → EReal from m (c.tc.loc main_arg1)) (ix2 r k) := by
  rw [← V_arg1 m c, at20 m c main_v105 (by decide)]
  have h0 := in20 m c main_arg1 (by decide)
  generalize Vp m c 20 = X at *
  rw [← h0]
  after_reads_at
  exact congrArg _ (congrArg₂ ix2 (Fin.ext (show a.val / 8 = r.val by omega))
    (Fin.ext (show a.val % 8 * 128 + b.val = k.val by omega)))

attribute [local irreducible] V

variable {m : (ℓ : Loc nD τ sig) → Buf (Elt Ideal) ℓ}
variable (H : Good m 0)

/-- The row a place of the output is of, and its column. -/
def rowOf (i : S524288x128.Idx) : Fin 65536 := ⟨(i 0).val / 8, by have : (i 0).val < 524288 := (i 0).isLt; omega⟩
def colOf (i : S524288x128.Idx) : Fin 1024 :=
  ⟨((i 0).val % 8) * 128 + (i 1).val, by have : (i 1).val < 128 := (i 1).isLt; omega⟩

/-- The call's output over the extended reals, at the expert whose rows hold the row. -/
theorem outG_at (c : Dev nD) (i : S524288x128.Idx) :
    ∃ e : Fin 32, Items.P (cntN m 0) e.val ≤ (rowOf i).val ∧ (rowOf i).val < Items.P (cntN m 0) (e.val + 1)
      ∧ outG H c i = rowFf (fun k => (show S65536x1024.Idx → EReal from m (c.tc.loc main_arg1)) (ix2 (rowOf i) k))
          (fun k f => (show S32x1024x512.Idx → EReal from m (c.tc.loc main_arg2)) (ix3 e k f))
          (fun k f => (show S32x1024x512.Idx → EReal from m (c.tc.loc main_arg3)) (ix3 e k f))
          (fun f => (show S32x512x1024.Idx → EReal from m (c.tc.loc main_arg4)) (ix3 e f (colOf i))) := by
  have i0 : (i 0).val < 524288 := (i 0).isLt
  have hr : (i 0).val / 8 < 65536 := by omega
  obtain ⟨g0, g1, g2, g3⟩ := itemOf_spec H hr
  have hn := Items.n_le H.counts
  have hq := n_eq H
  have hN := N_A (pfm m) (sched_of H)
  have hlt : itemOf H ((i 0).val / 8) < 159 := by omega
  have hx := xN_lt H (itemOf H ((i 0).val / 8))
  have hT := wT_toNat H hlt
  rw [jj_of (by omega), g1] at hT
  have hE := wE_toNat H hlt
  refine ⟨⟨xN m 0 (itemOf H ((i 0).val / 8)), hx⟩, g2, g3, ?_⟩
  unfold outG ffnAt
  rw [ffn_at]
  generalize itemOf H ((i 0).val / 8) = t at *
  have he : (⟨(wE (pfm m) t).toNat % 32, Nat.mod_lt _ (by decide)⟩ : Fin 32) = ⟨xN m 0 t, hx⟩ := by
    apply Fin.ext
    show (wE (pfm m) t).toNat % 32 = xN m 0 t
    omega
  congr 1
  · funext k
    have hk := k.isLt
    rw [pay8_at]
    refine (Xc_at (V m) (pfm m) (sched_of H) c ⟨t, by omega⟩ _).trans ?_
    obtain ⟨a0, a1⟩ := emb_0 (pfm m) (sched_of H) ⟨t, by omega⟩
      (ix2 ⟨8 * ((i 0).val / 8 % 512) + k.val / 128, by omega⟩ ⟨k.val % 128, by omega⟩)
    generalize embI (pfm m) (sched_of H) 0 ⟨t, _⟩ _ = j at a0 a1
    have := v105_at m c (rowOf i) k (j 0) (j 1) (by rw [a0, hT]; show _ + (8 * ((i 0).val / 8 % 512) + k.val / 128) = 8 * ((i 0).val / 8) + k.val / 128; omega) a1
    refine Eq.trans ?_ this
    exact congrArg _ (eq_ix2 j)
  · funext k f
    rw [castG_at, he, V_arg2]
  · funext k f
    rw [castU_at, he, V_arg3]
  · funext f
    rw [castD_at, he, V_arg4]
    rfl

end Cert.KernelIdeal.Hand

end
-- ==== Proof.Ref.lean ====
/-
  The reference's value: at a row, the feed-forward of each expert weighted by one where the row is of the expert's rows
  and by zero elsewhere.
-/
module

public import proofs.«01_k».proof.Proof.Ffn
public import proofs.«01_k».proof.Proof.Gen.ReferenceIdeal
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.KernelIdeal.Hand (rowFf)

/-- The counts summed up to each expert. -/
def cum (a0 : IVec S32 32) : IVec S32 32 :=
  Host.reduceWindow IntOp.addi ![32] ![1] ![31] ![0] a0 (broadcastInDim S_ ![] bcast_S_S_ (constantI S_ 32 0#32)) reduceWindows_S32_S32_w32s1p31_0 h_S_

/-- Each expert's product of the rows. -/
def prod (a1 : FVec Ideal S65536x1024 .f32) (w : FVec Ideal S32x1024x512 .f32) : FVec Ideal S32x65536x512 .f32 :=
  transpose S32x65536x512 [0, 2, 1] (Host.dotGeneral dot_S32x1024x512_S65536x1024_S32x512x65536_1_1_02_0_n_n none w a1) transposes_S32x512x65536_S32x65536x512_0_2_1

/-- One where a row is of an expert's rows. -/
def comb (a0 : IVec S32 32) : FVec Ideal S65536x32 .f32 :=
  uitofp .f32 (andi (cmpi .sge (broadcastInDim S65536x32 ![0, 1] bcast_S65536x1_S65536x32_0_1 (broadcastInDim S65536x1 ![0] bcast_S65536_S65536x1_0 (iotaInDim S65536 32 0))) (broadcastInDim S65536x32 ![0, 1] bcast_S1x32_S65536x32_0_1 (broadcastInDim S1x32 ![1] bcast_S32_S1x32_1 (subi (cum a0) a0)))) (cmpi .slt (broadcastInDim S65536x32 ![0, 1] bcast_S65536x1_S65536x32_0_1 (broadcastInDim S65536x1 ![0] bcast_S65536_S65536x1_0 (iotaInDim S65536 32 0))) (broadcastInDim S65536x32 ![0, 1] bcast_S1x32_S65536x32_0_1 (broadcastInDim S1x32 ![1] bcast_S32_S1x32_1 (cum a0)))))

/-- Each expert's feed-forward of the rows. -/
def ffs (a1 : FVec Ideal S65536x1024 .f32) (a2 a3 : FVec Ideal S32x1024x512 .f32) (a4 : FVec Ideal S32x512x1024 .f32) : FVec Ideal S32x65536x1024 .f32 :=
  Host.dotGeneral dot_S32x65536x512_S32x512x1024_S32x65536x1024_2_1_1_2_0_0 none (mulf (mulf (prod a1 a2) (Host.divf (broadcastInDim S32x65536x512 ![] bcast_S_S32x65536x512 (constant S_ .f32 0x3F800000#32)) (addf (broadcastInDim S32x65536x512 ![] bcast_S_S32x65536x512 (constant S_ .f32 0x3F800000#32)) (Host.exp (Host.negf (prod a1 a2)))))) (prod a1 a3)) a4

/-- The reference's result. -/
def out (a0 : IVec S32 32) (a1 : FVec Ideal S65536x1024 .f32) (a2 a3 : FVec Ideal S32x1024x512 .f32) (a4 : FVec Ideal S32x512x1024 .f32) : FVec Ideal S524288x128 .f32 :=
  shapeCast S524288x128 (Host.reduceAdd (mulf (broadcastInDim S32x65536x1024 ![0, 1, 2] bcast_S32x65536x1_S32x65536x1024_0_1_2 (broadcastInDim S32x65536x1 ![0, 1] bcast_S32x65536_S32x65536x1_0_1 (transpose S32x65536 [1, 0] (comb a0) transposes_S65536x32_S32x65536_1_0))) (ffs a1 a2 a3 a4)) (constant S_ .f32 0x00000000#32) reducesTo_S32x65536x1024_S65536x1024_d0 h_S_) shapeCasts_S65536x1024_S524288x128

theorem cum_at (a0 : IVec S32 32) (cnt : ℕ → ℕ) (h : ∀ i : Fin 32, a0 (ix1 i) = BitVec.ofNat 32 (cnt i.val)) (e : Fin 32) :
    cum a0 (ix1 e) = BitVec.ofNat 32 (Items.P cnt (e.val + 1)) :=
  Routing.cumsum1 (N := 32) (Nm1 := 31) rfl _ cnt h _ rfl _ _ e

theorem prod_at (a1 : FVec Ideal S65536x1024 .f32) (w : FVec Ideal S32x1024x512 .f32) (e : Fin 32) (r : Fin 65536) (f : Fin 512) :
    prod a1 w (ix3 e r f) = ∑ k, a1 (ix2 r k) * w (ix3 e k f) := by
  unfold prod
  pointwise
  exact Finset.sum_congr rfl fun k _ => mul_comm _ _

/-- The weight of an expert at a row: one on its rows, zero on the others. -/
theorem comb_at (a0 : IVec S32 32) (cnt : ℕ → ℕ) (h : ∀ i : Fin 32, a0 (ix1 i) = BitVec.ofNat 32 (cnt i.val))
    (hP : ∀ e, e ≤ 32 → Items.P cnt e ≤ 65536) (r : Fin 65536) (e : Fin 32) :
    comb a0 (ix2 r e) = if Items.P cnt e.val ≤ r.val ∧ r.val < Items.P cnt (e.val + 1) then 1 else 0 := by
  have hr := r.isLt
  have h0 := hP e.val (by omega)
  have h1 := hP (e.val + 1) (by omega)
  have h2 := Items.P_succ (cnt := cnt) e.val
  unfold comb
  pointwise
  rw [cum_at a0 cnt h, h, Cert.KernelIdeal.Hand.W.subi (by omega) (by omega), h2, Nat.add_sub_cancel, ← h2]
  have hb : IntOp.andi (IntOp.cmpi CmpIPredicate.sge (BitVec.ofNat 32 r.val) (BitVec.ofNat 32 (Items.P cnt e.val)))
      (IntOp.cmpi CmpIPredicate.slt (BitVec.ofNat 32 r.val) (BitVec.ofNat 32 (Items.P cnt (e.val + 1)))) = 1#1
      ↔ Items.P cnt e.val ≤ r.val ∧ r.val < Items.P cnt (e.val + 1) := by
    rw [Cert.KernelIdeal.Hand.W.andi_iff, Cert.KernelIdeal.Hand.W.slt_iff (by omega) (by omega)]
    exact and_congr (Cert.KernelIdeal.Hand.W.sle_iff (a := Items.P cnt e.val) (b := r.val) (by omega) (by omega)) Iff.rfl
  split_ifs with hc
  · rw [hb.2 hc]
    show ((((1#1 : BitVec 1).toNat : ℕ) : ℝ) : EReal) = 1
    norm_num
  · have h01 : ∀ b : BitVec 1, ¬ b = 1#1 → b = 0#1 := by decide
    rw [h01 _ (fun h' => hc (hb.1 h'))]
    show ((((0#1 : BitVec 1).toNat : ℕ) : ℝ) : EReal) = 0
    norm_num

theorem ffs_at (a1 : FVec Ideal S65536x1024 .f32) (a2 a3 : FVec Ideal S32x1024x512 .f32) (a4 : FVec Ideal S32x512x1024 .f32) (e : Fin 32) (r : Fin 65536) (d : Fin 1024) :
    ffs a1 a2 a3 a4 (ix3 e r d) = rowFf (fun k => a1 (ix2 r k)) (fun k f => a2 (ix3 e k f)) (fun k f => a3 (ix3 e k f)) (fun f => a4 (ix3 e f d)) := by
  unfold ffs rowFf Ideal.logistic
  pointwise
  simp only [prod_at]

theorem out_at (a0 : IVec S32 32) (a1 : FVec Ideal S65536x1024 .f32) (a2 a3 : FVec Ideal S32x1024x512 .f32) (a4 : FVec Ideal S32x512x1024 .f32) (a : Fin 524288) (b : Fin 128) :
    out a0 a1 a2 a3 a4 (ix2 a b) = ∑ e : Fin 32, comb a0 (ix2 ⟨a.val / 8, by omega⟩ e) * ffs a1 a2 a3 a4 (ix3 e ⟨a.val / 8, by omega⟩ ⟨a.val % 8 * 128 + b.val, by omega⟩) := by
  unfold out
  pointwise

/-- The reference's result at a place whose row is of expert `e`'s rows. -/
theorem out_row (a0 : IVec S32 32) (cnt : ℕ → ℕ) (h : ∀ i : Fin 32, a0 (ix1 i) = BitVec.ofNat 32 (cnt i.val))
    (hP : ∀ e, e ≤ 32 → Items.P cnt e ≤ 65536) (a1 : FVec Ideal S65536x1024 .f32) (a2 a3 : FVec Ideal S32x1024x512 .f32) (a4 : FVec Ideal S32x512x1024 .f32)
    (a : Fin 524288) (b : Fin 128) (e : Fin 32) (h1 : Items.P cnt e.val ≤ a.val / 8) (h2 : a.val / 8 < Items.P cnt (e.val + 1)) :
    out a0 a1 a2 a3 a4 (ix2 a b) = rowFf (fun k => a1 (ix2 ⟨a.val / 8, by omega⟩ k)) (fun k f => a2 (ix3 e k f)) (fun k f => a3 (ix3 e k f))
      (fun f => a4 (ix3 e f ⟨a.val % 8 * 128 + b.val, by omega⟩)) := by
  rw [out_at, Finset.sum_eq_single e]
  · rw [comb_at a0 cnt h hP, if_pos ⟨h1, h2⟩, one_mul, ffs_at]
  · intro e' _ hne
    rw [comb_at a0 cnt h hP, if_neg, zero_mul]
    rintro ⟨g1, g2⟩
    exact hne (Fin.ext (Items.row_unique g1 g2 h1 h2))
  · exact fun h => absurd (Finset.mem_univ e) h

/-- The reference's run, its result named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Hand

namespace Cert.KernelIdeal.Hand

open Cert.KernelIdeal Cert.KernelIdeal.Gen
open Idealize.ShloMosaic Idealize.ShloMosaic.TcCoe

/-- The call's output and the reference's are one function of one set of arguments. -/
theorem outG_eq {m : (ℓ : Loc nD τ sig) → Buf (Elt Ideal) ℓ} (H : Good m 0) (c : Dev nD) :
    (show FVec Ideal S524288x128 .f32 from outG H c)
      = Cert.ReferenceIdeal.Hand.out (m (c.tc.loc main_arg0)) (m (c.tc.loc main_arg1)) (m (c.tc.loc main_arg2))
          (m (c.tc.loc main_arg3)) (m (c.tc.loc main_arg4)) := by
  have hc : c = 0 := Subsingleton.elim _ _
  funext i
  obtain ⟨e, h1, h2, h3⟩ := outG_at H c i
  refine h3.trans ?_
  rw [ValueIdx.eq_ix2 i]
  exact (Cert.ReferenceIdeal.Hand.out_row _ (cntN m 0) (fun j => by
      have h := cn_nat m 0 j
      unfold cnW at h
      rw [V_arg0] at h
      rw [hc]; exact h) (fun e he => P_le H he) _ _ _ _ (i 0) (i 1) e h1 h2).symm

end Cert.KernelIdeal.Hand

end
-- ==== Proof.Tiles2.lean ====
/-
  The input projection, one grid point: what the body leaves in each output block is a row of the normalized rows times
  a column of the weights plus the column's bias, the dilated outputs at the row the dilation gives.
-/
module

public import proofs.«01_k».proof.Proof.Gen.Kernel2Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Hand

open Cert.Kernel2Ideal Cert.Kernel2Ideal.Gen
open Idealize.ShloMosaic Idealize.ShloMosaic.TcCoe
open Idealize.SL.Sem

/-- A row's product with a column, plus the column's bias. -/
def pj (Y : Vec Ideal S512x1024 .bf16) (W : Vec Ideal S1024x5888 .bf16) (B : Vec Ideal S1x5888 .f32) (r : Fin 512) (c : Fin 5888) : EReal :=
  ∑ k : Fin 1024, Y (ix2 r k) * W (ix2 k c) + B (ix2 0 c)

theorem pj_eq (Y : Vec Ideal S512x1024 .bf16) (W : Vec Ideal S1024x5888 .bf16) (B : Vec Ideal S1x5888 .f32) (r : Fin 512) (c' c : Fin 5888) (h : c'.val = c.val) :
    (∑ k : Fin 1024, Y (ix2 r k) * W (ix2 k c') + B (ix2 0 c') : EReal) = pj Y W B r c := by
  obtain rfl := Fin.ext h
  rfl

/-- The rows of a slab a strided load takes: from the first, one in every `d`. -/
def slabRd (p : S1x512x128.Idx → EReal) (n d j : ℕ) : (⟨3, ![1, n, 128]⟩ : Shape).Idx → EReal :=
  fun y => p (ix3 0 ⟨(j + d * (y 1).val) % 512, Nat.mod_lt _ (by decide)⟩ (y 2))

/-- A strided load of the slab stored last is that slab's rows. -/
theorem slab {a j n d : ℕ} (h : ∀ x, (![a, 0, 0] : Fin 3 → ℕ) x + (![1, 512, 128] : Fin 3 → ℕ) x ≤ S4x512x128.size x)
    (p : (Rect.unit (s := S4x512x128) ![a, 0, 0] ![1, 512, 128] h).shape.Idx → Elt Ideal .f32) (L : List (View.Piece (Elt Ideal) S4x512x128 .f32)) (h') :
    (View.whole cc0_scratch0).readCov ((⟨Rect.unit ![a, 0, 0] ![1, 512, 128] h, p⟩ : View.Piece (Elt Ideal) S4x512x128 .f32) :: L)
      ({ off := ![a, j, 0], size := ![1, n, 128], stride := ![1, d, 1], inb := h' } : LoadRect S4x512x128) = slabRd p n d j := by
  rw [View.readCov_eq_canon']
  funext y
  have hlt : j + d * (y 1).val < 512 :=
    (({ off := ![a, j, 0], size := ![1, n, 128], stride := ![1, d, 1], inb := h' } : LoadRect S4x512x128).idx y 1).isLt
  have hy : (y 0).val < 1 := (y 0).isLt
  have : ({ off := ![a, j, 0], size := ![1, n, 128], stride := ![1, d, 1], inb := h' } : LoadRect S4x512x128).idx y
      = (Rect.unit (s := S4x512x128) ![a, 0, 0] ![1, 512, 128] h).emb (ix3 0 ⟨(j + d * (y 1).val) % 512, Nat.mod_lt _ (by decide)⟩ (y 2)) := by
    funext x
    apply Fin.ext
    rw [Rect.emb_apply]
    fin_cases x
    · show a + 1 * (y 0).val = a + 1 * 0
      omega
    · show j + d * (y 1).val = 0 + 1 * ((j + d * (y 1).val) % 512)
      rw [Nat.mod_eq_of_lt hlt]
      omega
    · rfl
  rw [this]
  exact View.canon_cons_emb (Rect.unit (s := S4x512x128) ![a, 0, 0] ![1, 512, 128] h) p L _

theorem ix4_of {n : ℕ} (x : (⟨4, ![1, 1, n, 256]⟩ : Shape).Idx) (r : Fin n) (k : Fin 256) (h2 : r.val = (x 2).val) (h3 : k.val = (x 3).val) : x = ix4 0 0 r k := by
  have h0 : (x 0).val < 1 := (x 0).isLt
  have h1 : (x 1).val < 1 := (x 1).isLt
  funext a
  apply Fin.ext
  fin_cases a
  · show (x 0).val = 0
    omega
  · show (x 1).val = 0
    omega
  · exact h2.symm
  · exact h3.symm

theorem ix2_of (x : S512x512.Idx) (r k : Fin 512) (h0 : r.val = (x 0).val) (h1 : k.val = (x 1).val) : x = ix2 r k := by
  funext a
  apply Fin.ext
  fin_cases a
  · exact h0.symm
  · exact h1.symm

theorem cat128 (u v : Vec Ideal S1x128x128 .f32) (r : Fin 128) (k : Fin 256) (h1 h2 h3 h4 h5) :
    shapeCast S1x1x128x256 (truncf .bf16 (concatenate S128x256 1 [⟨S128x128, shapeCast S128x128 u h1⟩, ⟨S128x128, shapeCast S128x128 v h2⟩] h3 : FVec Ideal S128x256 .f32) h4) h5 (ix4 0 0 r k)
      = if h : k.val < 128 then u (ix3 0 r ⟨k.val, h⟩) else v (ix3 0 r ⟨k.val - 128, by omega⟩) := by
  pointwise

theorem cat32 (u v : Vec Ideal S1x32x128 .f32) (r : Fin 32) (k : Fin 256) (h1 h2 h3 h4 h5) :
    shapeCast S1x1x32x256 (truncf .bf16 (concatenate S32x256 1 [⟨S32x128, shapeCast S32x128 u h1⟩, ⟨S32x128, shapeCast S32x128 v h2⟩] h3 : FVec Ideal S32x256 .f32) h4) h5 (ix4 0 0 r k)
      = if h : k.val < 128 then u (ix3 0 r ⟨k.val, h⟩) else v (ix3 0 r ⟨k.val - 128, by omega⟩) := by
  pointwise

/-- The two halves of a dilated block, side by side, are the projections at the columns. -/
theorem tile {p q : S1x512x128.Idx → EReal} {Y : Vec Ideal S512x1024 .bf16} {W : Vec Ideal S1024x5888 .bf16} {B : Vec Ideal S1x5888 .f32}
    {base n d j : ℕ} {r : Fin n} {k : Fin 256} {R : Fin 512} {c : Fin 5888}
    (hp : ∀ (R : Fin 512) (k : Fin 128) (c : Fin 5888), c.val = base + k.val → p (ix3 0 R k) = pj Y W B R c)
    (hq : ∀ (R : Fin 512) (k : Fin 128) (c : Fin 5888), c.val = base + 128 + k.val → q (ix3 0 R k) = pj Y W B R c)
    (hR : R.val = j + d * r.val) (hc : c.val = base + k.val) :
    (if h : k.val < 128 then slabRd p n d j (ix3 0 r ⟨k.val, h⟩) else slabRd q n d j (ix3 0 r ⟨k.val - 128, by omega⟩)) = pj Y W B R c := by
  have hr : (⟨(j + d * r.val) % 512, Nat.mod_lt _ (by decide)⟩ : Fin 512) = R := by
    apply Fin.ext
    show (j + d * r.val) % 512 = R.val
    rw [← hR, Nat.mod_eq_of_lt R.isLt]
  split
  · rename_i h
    show p (ix3 0 ⟨(j + d * r.val) % 512, _⟩ ⟨k.val, h⟩) = _
    rw [hr]
    exact hp R _ c hc
  · show q (ix3 0 ⟨(j + d * r.val) % 512, _⟩ ⟨k.val - 128, _⟩) = _
    rw [hr]
    exact hq R _ c (by show c.val = base + 128 + (k.val - 128); omega)

theorem pay6_at (Y : Vec Ideal S512x1024 .bf16) (W : Vec Ideal S1024x5888 .bf16) (B : Vec Ideal S1x5888 .f32) (R : Fin 512) (k : Fin 128) (c : Fin 5888) (hc : c.val = 256 + k.val) :
    k0_pay6 (F := Ideal) Y (View.ld W (Rect.unit ![0, 256] ![1024, 256] inb_S1024x5888_S1024x256_0_256)) (View.ld B (Rect.unit ![0, 256] ![1, 256] inb_S1x5888_S1x256_0_256)) (ix3 0 R k) = pj Y W B R c := by
  open_payloads
  pointwise
  refine pj_eq Y _ _ _ _ _ ?_
  simp only []
  omega

theorem pay7_at (Y : Vec Ideal S512x1024 .bf16) (W : Vec Ideal S1024x5888 .bf16) (B : Vec Ideal S1x5888 .f32) (R : Fin 512) (k : Fin 128) (c : Fin 5888) (hc : c.val = 256 + 128 + k.val) :
    k0_pay7 (F := Ideal) Y (View.ld W (Rect.unit ![0, 256] ![1024, 256] inb_S1024x5888_S1024x256_0_256)) (View.ld B (Rect.unit ![0, 256] ![1, 256] inb_S1x5888_S1x256_0_256)) (ix3 0 R k) = pj Y W B R c := by
  open_payloads
  pointwise
  refine pj_eq Y _ _ _ _ _ ?_
  simp only []
  omega

theorem pay13_at (Y : Vec Ideal S512x1024 .bf16) (W : Vec Ideal S1024x5888 .bf16) (B : Vec Ideal S1x5888 .f32) (R : Fin 512) (k : Fin 128) (c : Fin 5888) (hc : c.val = 512 + k.val) :
    k0_pay13 (F := Ideal) Y (View.ld W (Rect.unit ![0, 512] ![1024, 256] inb_S1024x5888_S1024x256_0_512)) (View.ld B (Rect.unit ![0, 512] ![1, 256] inb_S1x5888_S1x256_0_512)) (ix3 0 R k) = pj Y W B R c := by
  open_payloads
  pointwise
  refine pj_eq Y _ _ _ _ _ ?_
  simp only []
  omega

theorem pay14_at (Y : Vec Ideal S512x1024 .bf16) (W : Vec Ideal S1024x5888 .bf16) (B : Vec Ideal S1x5888 .f32) (R : Fin 512) (k : Fin 128) (c : Fin 5888) (hc : c.val = 512 + 128 + k.val) :
    k0_pay14 (F := Ideal) Y (View.ld W (Rect.unit ![0, 512] ![1024, 256] inb_S1024x5888_S1024x256_0_512)) (View.ld B (Rect.unit ![0, 512] ![1, 256] inb_S1x5888_S1x256_0_512)) (ix3 0 R k) = pj Y W B R c := by
  open_payloads
  pointwise
  refine pj_eq Y _ _ _ _ _ ?_
  simp only []
  omega

theorem pay39_at (Y : Vec Ideal S512x1024 .bf16) (W : Vec Ideal S1024x5888 .bf16) (B : Vec Ideal S1x5888 .f32) (R : Fin 512) (k : Fin 128) (c : Fin 5888) (hc : c.val = 1024 + k.val) :
    k0_pay39 (F := Ideal) Y (View.ld W (Rect.unit ![0, 1024] ![1024, 256] inb_S1024x5888_S1024x256_0_1024)) (View.ld B (Rect.unit ![0, 1024] ![1, 256] inb_S1x5888_S1x256_0_1024)) (ix3 0 R k) = pj Y W B R c := by
  open_payloads
  pointwise
  refine pj_eq Y _ _ _ _ _ ?_
  simp only []
  omega

theorem pay40_at (Y : Vec Ideal S512x1024 .bf16) (W : Vec Ideal S1024x5888 .bf16) (B : Vec Ideal S1x5888 .f32) (R : Fin 512) (k : Fin 128) (c : Fin 5888) (hc : c.val = 1024 + 128 + k.val) :
    k0_pay40 (F := Ideal) Y (View.ld W (Rect.unit ![0, 1024] ![1024, 256] inb_S1024x5888_S1024x256_0_1024)) (View.ld B (Rect.unit ![0, 1024] ![1, 256] inb_S1x5888_S1x256_0_1024)) (ix3 0 R k) = pj Y W B R c := by
  open_payloads
  pointwise
  refine pj_eq Y _ _ _ _ _ ?_
  simp only []
  omega

theorem pay48_at (Y : Vec Ideal S512x1024 .bf16) (W : Vec Ideal S1024x5888 .bf16) (B : Vec Ideal S1x5888 .f32) (R : Fin 512) (k : Fin 128) (c : Fin 5888) (hc : c.val = 1280 + k.val) :
    k0_pay48 (F := Ideal) (k0_pay46 Y (View.ld W (Rect.unit ![0, 1280] ![1024, 256] inb_S1024x5888_S1024x256_0_1280))) (View.ld B (Rect.unit ![0, 1280] ![1, 256] inb_S1x5888_S1x256_0_1280)) (ix3 0 R k) = pj Y W B R c := by
  open_payloads
  pointwise
  refine pj_eq Y _ _ _ _ _ ?_
  simp only []
  omega

theorem pay49_at (Y : Vec Ideal S512x1024 .bf16) (W : Vec Ideal S1024x5888 .bf16) (B : Vec Ideal S1x5888 .f32) (R : Fin 512) (k : Fin 128) (c : Fin 5888) (hc : c.val = 1280 + 128 + k.val) :
    k0_pay49 (F := Ideal) (k0_pay46 Y (View.ld W (Rect.unit ![0, 1280] ![1024, 256] inb_S1024x5888_S1024x256_0_1280))) (View.ld B (Rect.unit ![0, 1280] ![1, 256] inb_S1x5888_S1x256_0_1280)) (ix3 0 R k) = pj Y W B R c := by
  open_payloads
  pointwise
  refine pj_eq Y _ _ _ _ _ ?_
  simp only []
  omega

theorem pay74_at (Y : Vec Ideal S512x1024 .bf16) (W : Vec Ideal S1024x5888 .bf16) (B : Vec Ideal S1x5888 .f32) (R : Fin 512) (k : Fin 128) (c : Fin 5888) (hc : c.val = 1792 + k.val) :
    k0_pay74 (F := Ideal) Y (View.ld W (Rect.unit ![0, 1792] ![1024, 256] inb_S1024x5888_S1024x256_0_1792)) (View.ld B (Rect.unit ![0, 1792] ![1, 256] inb_S1x5888_S1x256_0_1792)) (ix3 0 R k) = pj Y W B R c := by
  open_payloads
  pointwise
  refine pj_eq Y _ _ _ _ _ ?_
  simp only []
  omega

theorem pay75_at (Y : Vec Ideal S512x1024 .bf16) (W : Vec Ideal S1024x5888 .bf16) (B : Vec Ideal S1x5888 .f32) (R : Fin 512) (k : Fin 128) (c : Fin 5888) (hc : c.val = 1792 + 128 + k.val) :
    k0_pay75 (F := Ideal) Y (View.ld W (Rect.unit ![0, 1792] ![1024, 256] inb_S1024x5888_S1024x256_0_1792)) (View.ld B (Rect.unit ![0, 1792] ![1, 256] inb_S1x5888_S1x256_0_1792)) (ix3 0 R k) = pj Y W B R c := by
  open_payloads
  pointwise
  refine pj_eq Y _ _ _ _ _ ?_
  simp only []
  omega

theorem pay83_at (Y : Vec Ideal S512x1024 .bf16) (W : Vec Ideal S1024x5888 .bf16) (B : Vec Ideal S1x5888 .f32) (R : Fin 512) (k : Fin 128) (c : Fin 5888) (hc : c.val = 2048 + k.val) :
    k0_pay83 (F := Ideal) (k0_pay81 Y (View.ld W (Rect.unit ![0, 2048] ![1024, 256] inb_S1024x5888_S1024x256_0_2048))) (View.ld B (Rect.unit ![0, 2048] ![1, 256] inb_S1x5888_S1x256_0_2048)) (ix3 0 R k) = pj Y W B R c := by
  open_payloads
  pointwise
  refine pj_eq Y _ _ _ _ _ ?_
  simp only []
  omega

theorem pay84_at (Y : Vec Ideal S512x1024 .bf16) (W : Vec Ideal S1024x5888 .bf16) (B : Vec Ideal S1x5888 .f32) (R : Fin 512) (k : Fin 128) (c : Fin 5888) (hc : c.val = 2048 + 128 + k.val) :
    k0_pay84 (F := Ideal) (k0_pay81 Y (View.ld W (Rect.unit ![0, 2048] ![1024, 256] inb_S1024x5888_S1024x256_0_2048))) (View.ld B (Rect.unit ![0, 2048] ![1, 256] inb_S1x5888_S1x256_0_2048)) (ix3 0 R k) = pj Y W B R c := by
  open_payloads
  pointwise
  refine pj_eq Y _ _ _ _ _ ?_
  simp only []
  omega

variable (m : (ℓ : Loc nD τ sig) → Buf (Elt Ideal) ℓ)

/-- The normalized rows of a grid point. -/
def yy (c : Dev nD) (t : Fin cfg0.N) : Vec Ideal S512x1024 .bf16 :=
  k0_pay2 (grid0.coords t) (iblk m c 0 t) (iblk m c 1 t) (iblk m c 2 t) (iblk m c 3 t)

/-- The projection at a grid point. -/
def bj (c : Dev nD) (t : Fin cfg0.N) (r : Fin 512) (k : Fin 5888) : EReal := pj (yy m c t) (iblk m c 4 t) (iblk m c 5 t) r k

set_option maxHeartbeats 4000000 in
theorem o7 (c : Dev nD) (t : Fin cfg0.N) (j : Fin 4) (r : Fin 128) (k : Fin 256) : (outsAt0 m c t).2.1 (ix4 0 j r k) =
    bj m c t ⟨j.val + 4 * r.val, by omega⟩ ⟨256 + k.val, by omega⟩ := by
  unfold bj yy
  simp only [outsAt0]
  frame_out
  simp (disch := decide) only [↓ View.readCov_skip]
  generalize k0_pay2 (F := Ideal) _ _ _ _ _ = Y
  have hp := pay6_at Y (iblk m c 4 t) (iblk m c 5 t)
  have hq := pay7_at Y (iblk m c 4 t) (iblk m c 5 t)
  generalize k0_pay6 (F := Ideal) _ _ _ = p at *
  generalize k0_pay7 (F := Ideal) _ _ _ = q at *
  canon_tiles x h
  all_goals
    have h1' : j.val = _ := h1
    obtain rfl := ix4_of x r k h2 h3
    open_payloads
    refine (cat128 _ _ r k _ _ _ _ _).trans ?_
    rw [slab, slab]
    refine tile (R := ⟨j.val + 4 * r.val, by omega⟩) hp hq ?_ rfl
    show j.val + 4 * r.val = _
    omega

set_option maxHeartbeats 4000000 in
theorem o8 (c : Dev nD) (t : Fin cfg0.N) (j : Fin 16) (r : Fin 32) (k : Fin 256) : (outsAt0 m c t).2.2.1 (ix4 0 j r k) =
    bj m c t ⟨j.val + 16 * r.val, by omega⟩ ⟨512 + k.val, by omega⟩ := by
  unfold bj yy
  simp only [outsAt0]
  frame_out
  simp (disch := decide) only [↓ View.readCov_skip]
  generalize k0_pay2 (F := Ideal) _ _ _ _ _ = Y
  have hp := pay13_at Y (iblk m c 4 t) (iblk m c 5 t)
  have hq := pay14_at Y (iblk m c 4 t) (iblk m c 5 t)
  generalize k0_pay13 (F := Ideal) _ _ _ = p at *
  generalize k0_pay14 (F := Ideal) _ _ _ = q at *
  canon_tiles x h
  all_goals
    have h1' : j.val = _ := h1
    obtain rfl := ix4_of x r k h2 h3
    open_payloads
    refine (cat32 _ _ r k _ _ _ _ _).trans ?_
    rw [slab, slab]
    refine tile (R := ⟨j.val + 16 * r.val, by omega⟩) hp hq ?_ rfl
    show j.val + 16 * r.val = _
    omega

set_option maxHeartbeats 4000000 in
theorem o10 (c : Dev nD) (t : Fin cfg0.N) (j : Fin 4) (r : Fin 128) (k : Fin 256) : (outsAt0 m c t).2.2.2.2.1 (ix4 0 j r k) =
    bj m c t ⟨j.val + 4 * r.val, by omega⟩ ⟨1024 + k.val, by omega⟩ := by
  unfold bj yy
  simp only [outsAt0]
  frame_out
  simp (disch := decide) only [↓ View.readCov_skip]
  generalize k0_pay2 (F := Ideal) _ _ _ _ _ = Y
  have hp := pay39_at Y (iblk m c 4 t) (iblk m c 5 t)
  have hq := pay40_at Y (iblk m c 4 t) (iblk m c 5 t)
  generalize k0_pay39 (F := Ideal) _ _ _ = p at *
  generalize k0_pay40 (F := Ideal) _ _ _ = q at *
  canon_tiles x h
  all_goals
    have h1' : j.val = _ := h1
    obtain rfl := ix4_of x r k h2 h3
    open_payloads
    refine (cat128 _ _ r k _ _ _ _ _).trans ?_
    rw [slab, slab]
    refine tile (R := ⟨j.val + 4 * r.val, by omega⟩) hp hq ?_ rfl
    show j.val + 4 * r.val = _
    omega

set_option maxHeartbeats 4000000 in
theorem o11 (c : Dev nD) (t : Fin cfg0.N) (j : Fin 16) (r : Fin 32) (k : Fin 256) : (outsAt0 m c t).2.2.2.2.2.1 (ix4 0 j r k) =
    bj m c t ⟨j.val + 16 * r.val, by omega⟩ ⟨1280 + k.val, by omega⟩ := by
  unfold bj yy
  simp only [outsAt0]
  frame_out
  simp (disch := decide) only [↓ View.readCov_skip]
  generalize k0_pay2 (F := Ideal) _ _ _ _ _ = Y
  have hp := pay48_at Y (iblk m c 4 t) (iblk m c 5 t)
  have hq := pay49_at Y (iblk m c 4 t) (iblk m c 5 t)
  generalize k0_pay48 (F := Ideal) _ _ = p at *
  generalize k0_pay49 (F := Ideal) _ _ = q at *
  canon_tiles x h
  all_goals
    have h1' : j.val = _ := h1
    obtain rfl := ix4_of x r k h2 h3
    open_payloads
    refine (cat32 _ _ r k _ _ _ _ _).trans ?_
    rw [slab, slab]
    refine tile (R := ⟨j.val + 16 * r.val, by omega⟩) hp hq ?_ rfl
    show j.val + 16 * r.val = _
    omega

set_option maxHeartbeats 4000000 in
theorem o13 (c : Dev nD) (t : Fin cfg0.N) (j : Fin 4) (r : Fin 128) (k : Fin 256) : (outsAt0 m c t).2.2.2.2.2.2.2.1 (ix4 0 j r k) =
    bj m c t ⟨j.val + 4 * r.val, by omega⟩ ⟨1792 + k.val, by omega⟩ := by
  unfold bj yy
  simp only [outsAt0]
  frame_out
  simp (disch := decide) only [↓ View.readCov_skip]
  generalize k0_pay2 (F := Ideal) _ _ _ _ _ = Y
  have hp := pay74_at Y (iblk m c 4 t) (iblk m c 5 t)
  have hq := pay75_at Y (iblk m c 4 t) (iblk m c 5 t)
  generalize k0_pay74 (F := Ideal) _ _ _ = p at *
  generalize k0_pay75 (F := Ideal) _ _ _ = q at *
  canon_tiles x h
  all_goals
    have h1' : j.val = _ := h1
    obtain rfl := ix4_of x r k h2 h3
    open_payloads
    refine (cat128 _ _ r k _ _ _ _ _).trans ?_
    rw [slab, slab]
    refine tile (R := ⟨j.val + 4 * r.val, by omega⟩) hp hq ?_ rfl
    show j.val + 4 * r.val = _
    omega

set_option maxHeartbeats 4000000 in
theorem o14 (c : Dev nD) (t : Fin cfg0.N) (j : Fin 16) (r : Fin 32) (k : Fin 256) : (outsAt0 m c t).2.2.2.2.2.2.2.2.1 (ix4 0 j r k) =
    bj m c t ⟨j.val + 16 * r.val, by omega⟩ ⟨2048 + k.val, by omega⟩ := by
  unfold bj yy
  simp only [outsAt0]
  frame_out
  simp (disch := decide) only [↓ View.readCov_skip]
  generalize k0_pay2 (F := Ideal) _ _ _ _ _ = Y
  have hp := pay83_at Y (iblk m c 4 t) (iblk m c 5 t)
  have hq := pay84_at Y (iblk m c 4 t) (iblk m c 5 t)
  generalize k0_pay83 (F := Ideal) _ _ = p at *
  generalize k0_pay84 (F := Ideal) _ _ = q at *
  canon_tiles x h
  all_goals
    have h1' : j.val = _ := h1
    obtain rfl := ix4_of x r k h2 h3
    open_payloads
    refine (cat32 _ _ r k _ _ _ _ _).trans ?_
    rw [slab, slab]
    refine tile (R := ⟨j.val + 16 * r.val, by omega⟩) hp hq ?_ rfl
    show j.val + 16 * r.val = _
    omega

theorem o6 (c : Dev nD) (t : Fin cfg0.N) (r : Fin 512) (k : Fin 256) : (outsAt0 m c t).1 (ix4 0 0 r k) = bj m c t r ⟨0 + k.val, by omega⟩ := by
  simp only [outsAt0]
  frame_out
  unfold bj
  unfold yy
  unfold k0_pay3
  generalize k0_pay2 (F := Ideal) _ _ _ _ _ = Y
  open_payloads
  pointwise
  exact pj_eq Y _ _ _ _ _ (by simp)

theorem o9 (c : Dev nD) (t : Fin cfg0.N) (r : Fin 512) (k : Fin 256) : (outsAt0 m c t).2.2.2.1 (ix4 0 0 r k) = bj m c t r ⟨768 + k.val, by omega⟩ := by
  simp only [outsAt0]
  frame_out
  unfold bj
  unfold yy
  skip
  generalize k0_pay2 (F := Ideal) _ _ _ _ _ = Y
  open_payloads
  pointwise
  exact pj_eq Y _ _ _ _ _ (by simp)

theorem o12 (c : Dev nD) (t : Fin cfg0.N) (r : Fin 512) (k : Fin 256) : (outsAt0 m c t).2.2.2.2.2.2.1 (ix4 0 0 r k) = bj m c t r ⟨1536 + k.val, by omega⟩ := by
  simp only [outsAt0]
  frame_out
  unfold bj
  unfold yy
  skip
  generalize k0_pay2 (F := Ideal) _ _ _ _ _ = Y
  open_payloads
  pointwise
  exact pj_eq Y _ _ _ _ _ (by simp)

theorem o15 (c : Dev nD) (t : Fin cfg0.N) (r k : Fin 512) : (outsAt0 m c t).2.2.2.2.2.2.2.2.2.1 (ix2 r k) = bj m c t r ⟨2304 + k.val, by omega⟩ := by
  simp only [outsAt0]
  frame_out
  unfold bj yy
  generalize k0_pay2 (F := Ideal) _ _ _ _ _ = Y
  open_payloads
  pointwise
  exact pj_eq Y _ _ _ _ _ (by simp)

theorem o16 (c : Dev nD) (t : Fin cfg0.N) (r k : Fin 512) : (outsAt0 m c t).2.2.2.2.2.2.2.2.2.2.1 (ix2 r k) = bj m c t r ⟨2816 + k.val, by omega⟩ := by
  simp only [outsAt0]
  frame_out
  unfold bj yy
  generalize k0_pay2 (F := Ideal) _ _ _ _ _ = Y
  open_payloads
  pointwise
  exact pj_eq Y _ _ _ _ _ (by simp)

theorem o17 (c : Dev nD) (t : Fin cfg0.N) (r k : Fin 512) : (outsAt0 m c t).2.2.2.2.2.2.2.2.2.2.2.1 (ix2 r k) = bj m c t r ⟨3328 + k.val, by omega⟩ := by
  simp only [outsAt0]
  frame_out
  unfold bj yy
  generalize k0_pay2 (F := Ideal) _ _ _ _ _ = Y
  open_payloads
  pointwise
  exact pj_eq Y _ _ _ _ _ (by simp)

set_option maxHeartbeats 4000000 in
theorem o18 (c : Dev nD) (t : Fin cfg0.N) (r : Fin 512) (k : Fin 1024) : (outsAt0 m c t).2.2.2.2.2.2.2.2.2.2.2.2.1 (ix2 r k) = bj m c t r ⟨3840 + k.val, by omega⟩ := by
  simp only [outsAt0]
  frame_out
  unfold bj yy
  generalize k0_pay2 (F := Ideal) _ _ _ _ _ = Y
  canon_tiles x h
  all_goals
    have h1' : k.val = _ := h1
    obtain ⟨k', hk'⟩ : ∃ k' : Fin 512, k'.val = (x 1).val := ⟨⟨_, x1_lt⟩, rfl⟩
    obtain rfl := ix2_of x r k' h0 hk'
    open_payloads
    pointwise
    exact pj_eq Y _ _ _ _ _ (by first | (simp only []; omega) | omega)

set_option maxHeartbeats 4000000 in
theorem o19 (c : Dev nD) (t : Fin cfg0.N) (r : Fin 512) (k : Fin 1024) : (outsAt0 m c t).2.2.2.2.2.2.2.2.2.2.2.2.2.1 (ix2 r k) = bj m c t r ⟨4864 + k.val, by omega⟩ := by
  simp only [outsAt0]
  frame_out
  unfold bj yy
  generalize k0_pay2 (F := Ideal) _ _ _ _ _ = Y
  canon_tiles x h
  all_goals
    have h1' : k.val = _ := h1
    obtain ⟨k', hk'⟩ : ∃ k' : Fin 512, k'.val = (x 1).val := ⟨⟨_, x1_lt⟩, rfl⟩
    obtain rfl := ix2_of x r k' h0 hk'
    open_payloads
    pointwise
    exact pj_eq Y _ _ _ _ _ (by first | (simp only []; omega) | omega)

theorem o20 (c : Dev nD) (t : Fin cfg0.N) (r : Fin 512) (k : Fin 1024) : (outsAt0 m c t).2.2.2.2.2.2.2.2.2.2.2.2.2.2 (ix2 r k) = yy m c t (ix2 r k) := by
  simp only [outsAt0]
  frame_out
  unfold yy k0_pay2
  pointwise

end Cert.Kernel2Ideal.Hand
-- ==== Proof.Inproj.lean ====
/-
  The input projection's call: each of its arrays after the run, as the projections of the normalized rows.
-/
module

public import proofs.«01_k».proof.Proof.Tiles2
public import proofs.«01_k».proof.Proof.Gen.Kernel2Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel2Ideal.Hand

open Cert.Kernel2Ideal Cert.Kernel2Ideal.Gen
open Idealize.ShloMosaic Idealize.ShloMosaic.TcCoe
open Idealize.SL.Sem

/-- A row of the two token arrays, one after the other. -/
def xrow (a0 a1 : S16384x1024.Idx → EReal) (r : Fin 32768) (k : Fin 1024) : EReal :=
  if h : r.val < 16384 then a0 (ix2 ⟨r.val, h⟩ k) else a1 (ix2 ⟨r.val - 16384, by omega⟩ k)

/-- A row's mean. -/
def mean (x : Fin 1024 → EReal) : EReal := Ideal.div (∑ k, x k) (Ideal.ofBits .f32 0x44800000#32)

/-- A row normalized, scaled and shifted. -/
def nrm (x g b : Fin 1024 → EReal) (k : Fin 1024) : EReal :=
  (x k - mean x) * Ideal.rsqrt (mean (fun k => (x k - mean x) * (x k - mean x)) + Ideal.ofBits .f32 0x3727C5AC#32) * g k + b k

/-- The columns whose projections carry the scores' scale. -/
def scaled (c : ℕ) : Prop := c < 768 ∨ (2304 ≤ c ∧ c < 2816)

instance (c : ℕ) : Decidable (scaled c) := by unfold scaled; infer_instance

/-- A column's scale. -/
def sc (c : ℕ) : EReal := Ideal.ofBits .f32 (if scaled c then 0x3E000000#32 else 0x3F800000#32)

section
variable (a0 a1 : S16384x1024.Idx → EReal) (a2 a3 : S1024.Idx → EReal) (a4 : S1024x5888.Idx → EReal) (a5 : S5888.Idx → EReal)

/-- The normalized tokens. -/
def yn (r : Fin 32768) (k : Fin 1024) : EReal := nrm (xrow a0 a1 r) (fun k => a2 (ix1 k)) (fun k => a3 (ix1 k)) k

/-- A projection of a normalized token, its column scaled beforehand. -/
def pn (r : Fin 32768) (c : Fin 5888) : EReal := ∑ k, yn a0 a1 a2 a3 r k * (a4 (ix2 k c) * sc c.val) + a5 (ix1 c) * sc c.val

theorem pn_congr {r r' : Fin 32768} {c c' : Fin 5888} (hr : r.val = r'.val) (hc : c.val = c'.val) :
    pn a0 a1 a2 a3 a4 a5 r c = pn a0 a1 a2 a3 a4 a5 r' c' := by
  obtain rfl := Fin.ext hr
  obtain rfl := Fin.ext hc
  rfl

theorem yn_congr {r r' : Fin 32768} {c c' : Fin 1024} (hr : r.val = r'.val) (hc : c.val = c'.val) :
    yn a0 a1 a2 a3 r c = yn a0 a1 a2 a3 r' c' := by
  obtain rfl := Fin.ext hr
  obtain rfl := Fin.ext hc
  rfl
end

theorem lit_all : ∀ (a : Fin 46) (b : Fin 128), lit0 ⟨128 * a.val + b.val, by have := a.isLt; have := b.isLt; show _ < 5888; omega⟩ =
    (if scaled (128 * a.val + b.val) then 0x3E000000#32 else 0x3F800000#32) := by
  decide +kernel

theorem lit_at (c : Fin 5888) : Ideal.ofBits .f32 (lit0 c) = sc c.val := by
  have h := lit_all ⟨c.val / 128, by omega⟩ ⟨c.val % 128, by omega⟩
  have e : 128 * (c.val / 128) + c.val % 128 = c.val := by omega
  unfold sc
  refine congrArg _ ?_
  simp only [e] at h
  exact h

variable (m : (ℓ : Loc nD τ sig) → Buf (Elt Ideal) ℓ)

def A0 (c : Dev nD) : S16384x1024.Idx → EReal := m (c.tc.loc main_arg0)
def A1 (c : Dev nD) : S16384x1024.Idx → EReal := m (c.tc.loc main_arg1)
def A2 (c : Dev nD) : S1024.Idx → EReal := m (c.tc.loc main_arg2)
def A3 (c : Dev nD) : S1024.Idx → EReal := m (c.tc.loc main_arg3)
def A4 (c : Dev nD) : S1024x5888.Idx → EReal := m (c.tc.loc main_arg4)
def A5 (c : Dev nD) : S5888.Idx → EReal := m (c.tc.loc main_arg5)

theorem flat_at (j : Fin 5888) : S5888.rowMajor (ix1 j) = j :=
   Fin.ext (by rw [Shape.rowMajor_val_one]; rfl)

theorem v3_at (c : Dev nD) (k : Fin 1024) (j : Fin 5888) :
    (V m c main_v3 : S1024x5888.Idx → EReal) (ix2 k j) = A4 m c (ix2 k j) * sc j.val := by
  rw [← lit_at]
  unfold A4
  after_reads_at
  exact congrArg _ (congrArg (fun n => Ideal.ofBits .f32 (lit0 n)) (flat_at j))

theorem v5_at (c : Dev nD) (j : Fin 5888) :
    (V m c main_v5 : S1x5888.Idx → EReal) (ix2 0 j) = A5 m c (ix1 j) * sc j.val := by
  rw [← lit_at]
  unfold A5
  after_reads_at
  exact congrArg _ (congrArg (fun n => Ideal.ofBits .f32 (lit0 n)) (flat_at j))

theorem v6_at (c : Dev nD) (j : Fin 1024) : (V m c main_v6 : S1x1024.Idx → EReal) (ix2 0 j) = A2 m c (ix1 j) := by
  unfold A2
  after_reads_at
  try rfl

theorem v7_at (c : Dev nD) (j : Fin 1024) : (V m c main_v7 : S1x1024.Idx → EReal) (ix2 0 j) = A3 m c (ix1 j) := by
  unfold A3
  after_reads_at
  try rfl

theorem index0 : ∀ t : Fin cfg0.N, win0_0.index t = ![min t.val 31, 0] :=
  (by decide +kernel : ∀ t : Fin grid0.N, win0_0.index t = ![min t.val 31, 0])
theorem index1 : ∀ t : Fin cfg0.N, win0_1.index t = ![t.val - 32, 0] :=
  (by decide +kernel : ∀ t : Fin grid0.N, win0_1.index t = ![t.val - 32, 0])
theorem first : ∀ t : Fin cfg0.N, Scalar.cmpi .slt (BitVec.ofNat 32 (grid0.coords t 0).val) 32#32 = if t.val < 32 then 1#1 else 0#1 :=
  (by decide +kernel : ∀ t : Fin grid0.N, Scalar.cmpi .slt (BitVec.ofNat 32 (grid0.coords t 0).val) 32#32 = if t.val < 32 then 1#1 else 0#1)

theorem iblk0_at (c : Dev nD) (t : Fin cfg0.N) (r : Fin 512) (k : Fin 1024) (R : Fin 16384) (h : R.val = 512 * min t.val 31 + r.val) :
    (iblk m c 0 t : Vec Ideal S512x1024 .f32) (ix2 r k) = A0 m c (ix2 R k) := by
  refine Eq.trans ?_ (congrFun (V_main_arg0 m c) (ix2 R k))
  show (V m c main_arg0 : S16384x1024.Idx → EReal) ((win0_0.rect t).emb (ix2 r k)) = (V m c main_arg0 : S16384x1024.Idx → EReal) (ix2 R k)
  congr 1
  funext a
  apply Fin.ext
  rw [Pipeline.Window.rect_emb_val win0_0 t _ _ rfl, index0]
  fin_cases a
  · show min t.val 31 * 512 + r.val = R.val
    omega
  · show 0 * 1024 + k.val = k.val
    omega

theorem iblk1_at (c : Dev nD) (t : Fin cfg0.N) (r : Fin 512) (k : Fin 1024) (R : Fin 16384) (h : R.val = 512 * (t.val - 32) + r.val) :
    (iblk m c 1 t : Vec Ideal S512x1024 .f32) (ix2 r k) = A1 m c (ix2 R k) := by
  refine Eq.trans ?_ (congrFun (V_main_arg1 m c) (ix2 R k))
  show (V m c main_arg1 : S16384x1024.Idx → EReal) ((win0_1.rect t).emb (ix2 r k)) = (V m c main_arg1 : S16384x1024.Idx → EReal) (ix2 R k)
  congr 1
  funext a
  apply Fin.ext
  rw [Pipeline.Window.rect_emb_val win0_1 t _ _ rfl, index1]
  fin_cases a
  · show (t.val - 32) * 512 + r.val = R.val
    omega
  · show 0 * 1024 + k.val = k.val
    omega

theorem iblk2_at (c : Dev nD) (t : Fin cfg0.N) (k : Fin 1) (j : Fin 1024) :
    (iblk m c 2 t : Vec Ideal S1x1024 .f32) (ix2 k j) = (V m c main_v6 : S1x1024.Idx → EReal) (ix2 k j) := by
  show (V m c main_v6 : S1x1024.Idx → EReal) ((win0_2.rect t).emb (ix2 k j)) = _
  congr 1
  funext a
  apply Fin.ext
  rw [Pipeline.Window.rect_emb_val win0_2 t _ _ rfl]
  fin_cases a
  · show 0 * 1 + k.val = k.val
    omega
  · show 0 * 1024 + j.val = j.val
    omega

theorem iblk3_at (c : Dev nD) (t : Fin cfg0.N) (k : Fin 1) (j : Fin 1024) :
    (iblk m c 3 t : Vec Ideal S1x1024 .f32) (ix2 k j) = (V m c main_v7 : S1x1024.Idx → EReal) (ix2 k j) := by
  show (V m c main_v7 : S1x1024.Idx → EReal) ((win0_3.rect t).emb (ix2 k j)) = _
  congr 1
  funext a
  apply Fin.ext
  rw [Pipeline.Window.rect_emb_val win0_3 t _ _ rfl]
  fin_cases a
  · show 0 * 1 + k.val = k.val
    omega
  · show 0 * 1024 + j.val = j.val
    omega

theorem iblk4_at (c : Dev nD) (t : Fin cfg0.N) (k : Fin 1024) (j : Fin 5888) :
    (iblk m c 4 t : Vec Ideal S1024x5888 .bf16) (ix2 k j) = (V m c main_v3 : S1024x5888.Idx → EReal) (ix2 k j) := by
  show (V m c main_v3 : S1024x5888.Idx → EReal) ((win0_4.rect t).emb (ix2 k j)) = _
  congr 1
  funext a
  apply Fin.ext
  rw [Pipeline.Window.rect_emb_val win0_4 t _ _ rfl]
  fin_cases a
  · show 0 * 1024 + k.val = k.val
    omega
  · show 0 * 5888 + j.val = j.val
    omega

theorem iblk5_at (c : Dev nD) (t : Fin cfg0.N) (k : Fin 1) (j : Fin 5888) :
    (iblk m c 5 t : Vec Ideal S1x5888 .f32) (ix2 k j) = (V m c main_v5 : S1x5888.Idx → EReal) (ix2 k j) := by
  show (V m c main_v5 : S1x5888.Idx → EReal) ((win0_5.rect t).emb (ix2 k j)) = _
  congr 1
  funext a
  apply Fin.ext
  rw [Pipeline.Window.rect_emb_val win0_5 t _ _ rfl]
  fin_cases a
  · show 0 * 1 + k.val = k.val
    omega
  · show 0 * 5888 + j.val = j.val
    omega

/-- The rows a grid point reads: of the first array up to its end, then of the second. -/
theorem row_at (c : Dev nD) (t : Fin cfg0.N) (r : Fin 512) (k : Fin 1024) (R : Fin 32768) (hR : R.val = 512 * t.val + r.val) :
    Scalar.select (Scalar.cmpi .slt (BitVec.ofNat 32 (grid0.coords t 0).val) 32#32)
      ((iblk m c 0 t : Vec Ideal S512x1024 .f32) (ix2 r k)) ((iblk m c 1 t : Vec Ideal S512x1024 .f32) (ix2 r k)) = xrow (A0 m c) (A1 m c) R k := by
  have ht : t.val < 64 := t.isLt
  rw [first]
  unfold xrow
  by_cases h : t.val < 32
  · rw [if_pos h, dif_pos (show R.val < 16384 by omega)]
    show (iblk m c 0 t : Vec Ideal S512x1024 .f32) (ix2 r k) = _
    exact iblk0_at m c t r k _ (by show R.val = _; omega)
  · rw [if_neg h, dif_neg (show ¬ R.val < 16384 by omega)]
    show (iblk m c 1 t : Vec Ideal S512x1024 .f32) (ix2 r k) = _
    exact iblk1_at m c t r k _ (by show R.val - 16384 = _; omega)

theorem pay1_at (i : grid0.Coords) (v1 v2 : Vec Ideal S512x1024 .f32) (v4 v6 : Vec Ideal S1x1024 .f32) (r : Fin 512) (k : Fin 1024) :
    k0_pay1 i v1 v2 v4 v6 (ix2 r k)
      = nrm (fun k => Scalar.select (Scalar.cmpi .slt (BitVec.ofNat 32 (i 0).val) 32#32) (v1 (ix2 r k)) (v2 (ix2 r k)))
          (fun k => v4 (ix2 0 k)) (fun k => v6 (ix2 0 k)) k := by
  unfold k0_pay1 nrm mean
  pointwise

theorem yy_at (c : Dev nD) (t : Fin cfg0.N) (r : Fin 512) (k : Fin 1024) (R : Fin 32768) (hR : R.val = 512 * t.val + r.val) :
    yy m c t (ix2 r k) = yn (A0 m c) (A1 m c) (A2 m c) (A3 m c) R k := by
  refine (pay1_at (grid0.coords t) (iblk m c 0 t) (iblk m c 1 t) (iblk m c 2 t) (iblk m c 3 t) r k).trans ?_
  unfold yn
  congr 1
  · funext k
    exact row_at m c t r k R hR
  · funext k
    exact (iblk2_at m c t 0 k).trans (v6_at m c k)
  · funext k
    exact (iblk3_at m c t 0 k).trans (v7_at m c k)

theorem bj_at (c : Dev nD) (t : Fin cfg0.N) (r : Fin 512) (j : Fin 5888) (R : Fin 32768) (hR : R.val = 512 * t.val + r.val) :
    bj m c t r j = pn (A0 m c) (A1 m c) (A2 m c) (A3 m c) (A4 m c) (A5 m c) R j := by
  unfold bj pj pn
  refine congrArg₂ (fun a b : EReal => a + b) (Finset.sum_congr rfl fun k _ => ?_) ?_
  · exact congrArg₂ (fun a b : EReal => a * b) (yy_at m c t r k R hR) ((iblk4_at m c t k j).trans (v3_at m c k j))
  · exact (iblk5_at m c t 0 j).trans (v5_at m c j)

/-! ## The arrays -/

section
variable (a0 a1 : S16384x1024.Idx → EReal) (a2 a3 : S1024.Idx → EReal) (a4 : S1024x5888.Idx → EReal) (a5 : S5888.Idx → EReal)
/-- The projections of 256 columns as an array. -/
def g1 (b : ℕ) (hb : b + 256 ≤ 5888) (i : S64x1x512x256.Idx) : EReal :=
  pn a0 a1 a2 a3 a4 a5 ⟨512 * (i 0).val + (i 2).val, by have : (i 0).val < 64 := (i 0).isLt; have : (i 2).val < 512 := (i 2).isLt; omega⟩ ⟨b + (i 3).val, by have : (i 3).val < 256 := (i 3).isLt; omega⟩
/-- The same, a block's rows by their remainder on four. -/
def g4 (b : ℕ) (hb : b + 256 ≤ 5888) (i : S64x4x128x256.Idx) : EReal :=
  pn a0 a1 a2 a3 a4 a5 ⟨512 * (i 0).val + ((i 1).val + 4 * (i 2).val), by have : (i 0).val < 64 := (i 0).isLt; have : (i 1).val < 4 := (i 1).isLt; have : (i 2).val < 128 := (i 2).isLt; omega⟩ ⟨b + (i 3).val, by have : (i 3).val < 256 := (i 3).isLt; omega⟩
/-- The same, a block's rows by their remainder on sixteen. -/
def g16 (b : ℕ) (hb : b + 256 ≤ 5888) (i : S64x16x32x256.Idx) : EReal :=
  pn a0 a1 a2 a3 a4 a5 ⟨512 * (i 0).val + ((i 1).val + 16 * (i 2).val), by have : (i 0).val < 64 := (i 0).isLt; have : (i 1).val < 16 := (i 1).isLt; have : (i 2).val < 32 := (i 2).isLt; omega⟩ ⟨b + (i 3).val, by have : (i 3).val < 256 := (i 3).isLt; omega⟩
/-- The projections of 512 columns. -/
def r512 (b : ℕ) (hb : b + 512 ≤ 5888) (i : S32768x512.Idx) : EReal :=
  pn a0 a1 a2 a3 a4 a5 (i 0) ⟨b + (i 1).val, by have : (i 1).val < 512 := (i 1).isLt; omega⟩
/-- The projections of 1024 columns. -/
def r1024 (b : ℕ) (hb : b + 1024 ≤ 5888) (i : S32768x1024.Idx) : EReal :=
  pn a0 a1 a2 a3 a4 a5 (i 0) ⟨b + (i 1).val, by have : (i 1).val < 1024 := (i 1).isLt; omega⟩
/-- The normalized tokens as an array. -/
def r0 (i : S32768x1024.Idx) : EReal := yn a0 a1 a2 a3 (i 0) (i 1)
end

theorem index6 : ∀ t : Fin cfg0.N, win0_6.index t = ![t.val, 0, 0, 0] :=
  (by decide +kernel : ∀ t : Fin grid0.N, win0_6.index t = ![t.val, 0, 0, 0])

theorem arr6 (c : Dev nD) : (dats m 0 c).arrAt 6 cfg0.N = (g1 (A0 m c) (A1 m c) (A2 m c) (A3 m c) (A4 m c) (A5 m c) 0 (by decide) : S64x1x512x256.Idx → EReal) := by
  refine (dats m 0 c).arrAt_eq_of_covers 6 _ (by decide +kernel) fun t hf y => ?_
  blk_simp
  rw [after0_6]
  have ht : t.val < 64 := t.isLt
  obtain ⟨r, k, rfl⟩ : ∃ (r : Fin 512) (k : Fin 256), y = (ix4 0 0 r k : S1x1x512x256.Idx) := ⟨y 2, y 3, ix4_of y _ _ rfl rfl⟩
  have e0 : ((win0_6.rect t).emb (ix4 0 0 r k) 0).val = t.val := by
    rw [Pipeline.Window.rect_emb_val win0_6 t _ _ rfl, index6]
    show t.val * 1 + 0 = _
    omega
  have e1 : ((win0_6.rect t).emb (ix4 0 0 r k) 1).val = 0 := by
    rw [Pipeline.Window.rect_emb_val win0_6 t _ _ rfl, index6]
    show 0 * 1 + 0 = _
    omega
  have e2 : ((win0_6.rect t).emb (ix4 0 0 r k) 2).val = r.val := by
    rw [Pipeline.Window.rect_emb_val win0_6 t _ _ rfl, index6]
    show 0 * 512 + r.val = _
    omega
  have e3 : ((win0_6.rect t).emb (ix4 0 0 r k) 3).val = k.val := by
    rw [Pipeline.Window.rect_emb_val win0_6 t _ _ rfl, index6]
    show 0 * 256 + k.val = _
    omega
  refine (o6 m c t r k).trans ((bj_at m c t _ _ ⟨512 * t.val + r.val, by omega⟩ rfl).trans ?_)
  refine pn_congr _ _ _ _ _ _ ?_ ?_
  · show 512 * t.val + r.val = 512 * ((win0_6.rect t).emb (ix4 0 0 r k) 0).val + ((win0_6.rect t).emb (ix4 0 0 r k) 2).val
    omega
  · show 0 + k.val = 0 + ((win0_6.rect t).emb (ix4 0 0 r k) 3).val
    omega

theorem index7 : ∀ t : Fin cfg0.N, win0_7.index t = ![t.val, 0, 0, 0] :=
  (by decide +kernel : ∀ t : Fin grid0.N, win0_7.index t = ![t.val, 0, 0, 0])

theorem arr7 (c : Dev nD) : (dats m 0 c).arrAt 7 cfg0.N = (g4 (A0 m c) (A1 m c) (A2 m c) (A3 m c) (A4 m c) (A5 m c) 256 (by decide) : S64x4x128x256.Idx → EReal) := by
  refine (dats m 0 c).arrAt_eq_of_covers 7 _ (by decide +kernel) fun t hf y => ?_
  blk_simp
  rw [after0_7]
  have ht : t.val < 64 := t.isLt
  obtain ⟨j, r, k, rfl⟩ : ∃ (j : Fin 4) (r : Fin 128) (k : Fin 256), y = (ix4 0 j r k : S1x4x128x256.Idx) := ⟨y 1, y 2, y 3, by
    have h0 : (y 0).val < 1 := (y 0).isLt
    funext a
    apply Fin.ext
    fin_cases a
    · show (y 0).val = 0
      omega
    all_goals rfl⟩
  have e0 : ((win0_7.rect t).emb (ix4 0 j r k) 0).val = t.val := by
    rw [Pipeline.Window.rect_emb_val win0_7 t _ _ rfl, index7]
    show t.val * 1 + 0 = _
    omega
  have e1 : ((win0_7.rect t).emb (ix4 0 j r k) 1).val = j.val := by
    rw [Pipeline.Window.rect_emb_val win0_7 t _ _ rfl, index7]
    show 0 * 4 + j.val = _
    omega
  have e2 : ((win0_7.rect t).emb (ix4 0 j r k) 2).val = r.val := by
    rw [Pipeline.Window.rect_emb_val win0_7 t _ _ rfl, index7]
    show 0 * 128 + r.val = _
    omega
  have e3 : ((win0_7.rect t).emb (ix4 0 j r k) 3).val = k.val := by
    rw [Pipeline.Window.rect_emb_val win0_7 t _ _ rfl, index7]
    show 0 * 256 + k.val = _
    omega
  refine (o7 m c t j r k).trans ((bj_at m c t _ _ ⟨512 * t.val + (j.val + 4 * r.val), by omega⟩ rfl).trans ?_)
  refine pn_congr _ _ _ _ _ _ ?_ ?_
  · show 512 * t.val + (j.val + 4 * r.val) = 512 * ((win0_7.rect t).emb (ix4 0 j r k) 0).val + (((win0_7.rect t).emb (ix4 0 j r k) 1).val + 4 * ((win0_7.rect t).emb (ix4 0 j r k) 2).val)
    omega
  · show 256 + k.val = 256 + ((win0_7.rect t).emb (ix4 0 j r k) 3).val
    omega

theorem index8 : ∀ t : Fin cfg0.N, win0_8.index t = ![t.val, 0, 0, 0] :=
  (by decide +kernel : ∀ t : Fin grid0.N, win0_8.index t = ![t.val, 0, 0, 0])

theorem arr8 (c : Dev nD) : (dats m 0 c).arrAt 8 cfg0.N = (g16 (A0 m c) (A1 m c) (A2 m c) (A3 m c) (A4 m c) (A5 m c) 512 (by decide) : S64x16x32x256.Idx → EReal) := by
  refine (dats m 0 c).arrAt_eq_of_covers 8 _ (by decide +kernel) fun t hf y => ?_
  blk_simp
  rw [after0_8]
  have ht : t.val < 64 := t.isLt
  obtain ⟨j, r, k, rfl⟩ : ∃ (j : Fin 16) (r : Fin 32) (k : Fin 256), y = (ix4 0 j r k : S1x16x32x256.Idx) := ⟨y 1, y 2, y 3, by
    have h0 : (y 0).val < 1 := (y 0).isLt
    funext a
    apply Fin.ext
    fin_cases a
    · show (y 0).val = 0
      omega
    all_goals rfl⟩
  have e0 : ((win0_8.rect t).emb (ix4 0 j r k) 0).val = t.val := by
    rw [Pipeline.Window.rect_emb_val win0_8 t _ _ rfl, index8]
    show t.val * 1 + 0 = _
    omega
  have e1 : ((win0_8.rect t).emb (ix4 0 j r k) 1).val = j.val := by
    rw [Pipeline.Window.rect_emb_val win0_8 t _ _ rfl, index8]
    show 0 * 16 + j.val = _
    omega
  have e2 : ((win0_8.rect t).emb (ix4 0 j r k) 2).val = r.val := by
    rw [Pipeline.Window.rect_emb_val win0_8 t _ _ rfl, index8]
    show 0 * 32 + r.val = _
    omega
  have e3 : ((win0_8.rect t).emb (ix4 0 j r k) 3).val = k.val := by
    rw [Pipeline.Window.rect_emb_val win0_8 t _ _ rfl, index8]
    show 0 * 256 + k.val = _
    omega
  refine (o8 m c t j r k).trans ((bj_at m c t _ _ ⟨512 * t.val + (j.val + 16 * r.val), by omega⟩ rfl).trans ?_)
  refine pn_congr _ _ _ _ _ _ ?_ ?_
  · show 512 * t.val + (j.val + 16 * r.val) = 512 * ((win0_8.rect t).emb (ix4 0 j r k) 0).val + (((win0_8.rect t).emb (ix4 0 j r k) 1).val + 16 * ((win0_8.rect t).emb (ix4 0 j r k) 2).val)
    omega
  · show 512 + k.val = 512 + ((win0_8.rect t).emb (ix4 0 j r k) 3).val
    omega

theorem index9 : ∀ t : Fin cfg0.N, win0_9.index t = ![t.val, 0, 0, 0] :=
  (by decide +kernel : ∀ t : Fin grid0.N, win0_9.index t = ![t.val, 0, 0, 0])

theorem arr9 (c : Dev nD) : (dats m 0 c).arrAt 9 cfg0.N = (g1 (A0 m c) (A1 m c) (A2 m c) (A3 m c) (A4 m c) (A5 m c) 768 (by decide) : S64x1x512x256.Idx → EReal) := by
  refine (dats m 0 c).arrAt_eq_of_covers 9 _ (by decide +kernel) fun t hf y => ?_
  blk_simp
  rw [after0_9]
  have ht : t.val < 64 := t.isLt
  obtain ⟨r, k, rfl⟩ : ∃ (r : Fin 512) (k : Fin 256), y = (ix4 0 0 r k : S1x1x512x256.Idx) := ⟨y 2, y 3, ix4_of y _ _ rfl rfl⟩
  have e0 : ((win0_9.rect t).emb (ix4 0 0 r k) 0).val = t.val := by
    rw [Pipeline.Window.rect_emb_val win0_9 t _ _ rfl, index9]
    show t.val * 1 + 0 = _
    omega
  have e1 : ((win0_9.rect t).emb (ix4 0 0 r k) 1).val = 0 := by
    rw [Pipeline.Window.rect_emb_val win0_9 t _ _ rfl, index9]
    show 0 * 1 + 0 = _
    omega
  have e2 : ((win0_9.rect t).emb (ix4 0 0 r k) 2).val = r.val := by
    rw [Pipeline.Window.rect_emb_val win0_9 t _ _ rfl, index9]
    show 0 * 512 + r.val = _
    omega
  have e3 : ((win0_9.rect t).emb (ix4 0 0 r k) 3).val = k.val := by
    rw [Pipeline.Window.rect_emb_val win0_9 t _ _ rfl, index9]
    show 0 * 256 + k.val = _
    omega
  refine (o9 m c t r k).trans ((bj_at m c t _ _ ⟨512 * t.val + r.val, by omega⟩ rfl).trans ?_)
  refine pn_congr _ _ _ _ _ _ ?_ ?_
  · show 512 * t.val + r.val = 512 * ((win0_9.rect t).emb (ix4 0 0 r k) 0).val + ((win0_9.rect t).emb (ix4 0 0 r k) 2).val
    omega
  · show 768 + k.val = 768 + ((win0_9.rect t).emb (ix4 0 0 r k) 3).val
    omega

theorem index10 : ∀ t : Fin cfg0.N, win0_10.index t = ![t.val, 0, 0, 0] :=
  (by decide +kernel : ∀ t : Fin grid0.N, win0_10.index t = ![t.val, 0, 0, 0])

theorem arr10 (c : Dev nD) : (dats m 0 c).arrAt 10 cfg0.N = (g4 (A0 m c) (A1 m c) (A2 m c) (A3 m c) (A4 m c) (A5 m c) 1024 (by decide) : S64x4x128x256.Idx → EReal) := by
  refine (dats m 0 c).arrAt_eq_of_covers 10 _ (by decide +kernel) fun t hf y => ?_
  blk_simp
  rw [after0_10]
  have ht : t.val < 64 := t.isLt
  obtain ⟨j, r, k, rfl⟩ : ∃ (j : Fin 4) (r : Fin 128) (k : Fin 256), y = (ix4 0 j r k : S1x4x128x256.Idx) := ⟨y 1, y 2, y 3, by
    have h0 : (y 0).val < 1 := (y 0).isLt
    funext a
    apply Fin.ext
    fin_cases a
    · show (y 0).val = 0
      omega
    all_goals rfl⟩
  have e0 : ((win0_10.rect t).emb (ix4 0 j r k) 0).val = t.val := by
    rw [Pipeline.Window.rect_emb_val win0_10 t _ _ rfl, index10]
    show t.val * 1 + 0 = _
    omega
  have e1 : ((win0_10.rect t).emb (ix4 0 j r k) 1).val = j.val := by
    rw [Pipeline.Window.rect_emb_val win0_10 t _ _ rfl, index10]
    show 0 * 4 + j.val = _
    omega
  have e2 : ((win0_10.rect t).emb (ix4 0 j r k) 2).val = r.val := by
    rw [Pipeline.Window.rect_emb_val win0_10 t _ _ rfl, index10]
    show 0 * 128 + r.val = _
    omega
  have e3 : ((win0_10.rect t).emb (ix4 0 j r k) 3).val = k.val := by
    rw [Pipeline.Window.rect_emb_val win0_10 t _ _ rfl, index10]
    show 0 * 256 + k.val = _
    omega
  refine (o10 m c t j r k).trans ((bj_at m c t _ _ ⟨512 * t.val + (j.val + 4 * r.val), by omega⟩ rfl).trans ?_)
  refine pn_congr _ _ _ _ _ _ ?_ ?_
  · show 512 * t.val + (j.val + 4 * r.val) = 512 * ((win0_10.rect t).emb (ix4 0 j r k) 0).val + (((win0_10.rect t).emb (ix4 0 j r k) 1).val + 4 * ((win0_10.rect t).emb (ix4 0 j r k) 2).val)
    omega
  · show 1024 + k.val = 1024 + ((win0_10.rect t).emb (ix4 0 j r k) 3).val
    omega

theorem index11 : ∀ t : Fin cfg0.N, win0_11.index t = ![t.val, 0, 0, 0] :=
  (by decide +kernel : ∀ t : Fin grid0.N, win0_11.index t = ![t.val, 0, 0, 0])

theorem arr11 (c : Dev nD) : (dats m 0 c).arrAt 11 cfg0.N = (g16 (A0 m c) (A1 m c) (A2 m c) (A3 m c) (A4 m c) (A5 m c) 1280 (by decide) : S64x16x32x256.Idx → EReal) := by
  refine (dats m 0 c).arrAt_eq_of_covers 11 _ (by decide +kernel) fun t hf y => ?_
  blk_simp
  rw [after0_11]
  have ht : t.val < 64 := t.isLt
  obtain ⟨j, r, k, rfl⟩ : ∃ (j : Fin 16) (r : Fin 32) (k : Fin 256), y = (ix4 0 j r k : S1x16x32x256.Idx) := ⟨y 1, y 2, y 3, by
    have h0 : (y 0).val < 1 := (y 0).isLt
    funext a
    apply Fin.ext
    fin_cases a
    · show (y 0).val = 0
      omega
    all_goals rfl⟩
  have e0 : ((win0_11.rect t).emb (ix4 0 j r k) 0).val = t.val := by
    rw [Pipeline.Window.rect_emb_val win0_11 t _ _ rfl, index11]
    show t.val * 1 + 0 = _
    omega
  have e1 : ((win0_11.rect t).emb (ix4 0 j r k) 1).val = j.val := by
    rw [Pipeline.Window.rect_emb_val win0_11 t _ _ rfl, index11]
    show 0 * 16 + j.val = _
    omega
  have e2 : ((win0_11.rect t).emb (ix4 0 j r k) 2).val = r.val := by
    rw [Pipeline.Window.rect_emb_val win0_11 t _ _ rfl, index11]
    show 0 * 32 + r.val = _
    omega
  have e3 : ((win0_11.rect t).emb (ix4 0 j r k) 3).val = k.val := by
    rw [Pipeline.Window.rect_emb_val win0_11 t _ _ rfl, index11]
    show 0 * 256 + k.val = _
    omega
  refine (o11 m c t j r k).trans ((bj_at m c t _ _ ⟨512 * t.val + (j.val + 16 * r.val), by omega⟩ rfl).trans ?_)
  refine pn_congr _ _ _ _ _ _ ?_ ?_
  · show 512 * t.val + (j.val + 16 * r.val) = 512 * ((win0_11.rect t).emb (ix4 0 j r k) 0).val + (((win0_11.rect t).emb (ix4 0 j r k) 1).val + 16 * ((win0_11.rect t).emb (ix4 0 j r k) 2).val)
    omega
  · show 1280 + k.val = 1280 + ((win0_11.rect t).emb (ix4 0 j r k) 3).val
    omega

theorem index12 : ∀ t : Fin cfg0.N, win0_12.index t = ![t.val, 0, 0, 0] :=
  (by decide +kernel : ∀ t : Fin grid0.N, win0_12.index t = ![t.val, 0, 0, 0])

theorem arr12 (c : Dev nD) : (dats m 0 c).arrAt 12 cfg0.N = (g1 (A0 m c) (A1 m c) (A2 m c) (A3 m c) (A4 m c) (A5 m c) 1536 (by decide) : S64x1x512x256.Idx → EReal) := by
  refine (dats m 0 c).arrAt_eq_of_covers 12 _ (by decide +kernel) fun t hf y => ?_
  blk_simp
  rw [after0_12]
  have ht : t.val < 64 := t.isLt
  obtain ⟨r, k, rfl⟩ : ∃ (r : Fin 512) (k : Fin 256), y = (ix4 0 0 r k : S1x1x512x256.Idx) := ⟨y 2, y 3, ix4_of y _ _ rfl rfl⟩
  have e0 : ((win0_12.rect t).emb (ix4 0 0 r k) 0).val = t.val := by
    rw [Pipeline.Window.rect_emb_val win0_12 t _ _ rfl, index12]
    show t.val * 1 + 0 = _
    omega
  have e1 : ((win0_12.rect t).emb (ix4 0 0 r k) 1).val = 0 := by
    rw [Pipeline.Window.rect_emb_val win0_12 t _ _ rfl, index12]
    show 0 * 1 + 0 = _
    omega
  have e2 : ((win0_12.rect t).emb (ix4 0 0 r k) 2).val = r.val := by
    rw [Pipeline.Window.rect_emb_val win0_12 t _ _ rfl, index12]
    show 0 * 512 + r.val = _
    omega
  have e3 : ((win0_12.rect t).emb (ix4 0 0 r k) 3).val = k.val := by
    rw [Pipeline.Window.rect_emb_val win0_12 t _ _ rfl, index12]
    show 0 * 256 + k.val = _
    omega
  refine (o12 m c t r k).trans ((bj_at m c t _ _ ⟨512 * t.val + r.val, by omega⟩ rfl).trans ?_)
  refine pn_congr _ _ _ _ _ _ ?_ ?_
  · show 512 * t.val + r.val = 512 * ((win0_12.rect t).emb (ix4 0 0 r k) 0).val + ((win0_12.rect t).emb (ix4 0 0 r k) 2).val
    omega
  · show 1536 + k.val = 1536 + ((win0_12.rect t).emb (ix4 0 0 r k) 3).val
    omega

theorem index13 : ∀ t : Fin cfg0.N, win0_13.index t = ![t.val, 0, 0, 0] :=
  (by decide +kernel : ∀ t : Fin grid0.N, win0_13.index t = ![t.val, 0, 0, 0])

theorem arr13 (c : Dev nD) : (dats m 0 c).arrAt 13 cfg0.N = (g4 (A0 m c) (A1 m c) (A2 m c) (A3 m c) (A4 m c) (A5 m c) 1792 (by decide) : S64x4x128x256.Idx → EReal) := by
  refine (dats m 0 c).arrAt_eq_of_covers 13 _ (by decide +kernel) fun t hf y => ?_
  blk_simp
  rw [after0_13]
  have ht : t.val < 64 := t.isLt
  obtain ⟨j, r, k, rfl⟩ : ∃ (j : Fin 4) (r : Fin 128) (k : Fin 256), y = (ix4 0 j r k : S1x4x128x256.Idx) := ⟨y 1, y 2, y 3, by
    have h0 : (y 0).val < 1 := (y 0).isLt
    funext a
    apply Fin.ext
    fin_cases a
    · show (y 0).val = 0
      omega
    all_goals rfl⟩
  have e0 : ((win0_13.rect t).emb (ix4 0 j r k) 0).val = t.val := by
    rw [Pipeline.Window.rect_emb_val win0_13 t _ _ rfl, index13]
    show t.val * 1 + 0 = _
    omega
  have e1 : ((win0_13.rect t).emb (ix4 0 j r k) 1).val = j.val := by
    rw [Pipeline.Window.rect_emb_val win0_13 t _ _ rfl, index13]
    show 0 * 4 + j.val = _
    omega
  have e2 : ((win0_13.rect t).emb (ix4 0 j r k) 2).val = r.val := by
    rw [Pipeline.Window.rect_emb_val win0_13 t _ _ rfl, index13]
    show 0 * 128 + r.val = _
    omega
  have e3 : ((win0_13.rect t).emb (ix4 0 j r k) 3).val = k.val := by
    rw [Pipeline.Window.rect_emb_val win0_13 t _ _ rfl, index13]
    show 0 * 256 + k.val = _
    omega
  refine (o13 m c t j r k).trans ((bj_at m c t _ _ ⟨512 * t.val + (j.val + 4 * r.val), by omega⟩ rfl).trans ?_)
  refine pn_congr _ _ _ _ _ _ ?_ ?_
  · show 512 * t.val + (j.val + 4 * r.val) = 512 * ((win0_13.rect t).emb (ix4 0 j r k) 0).val + (((win0_13.rect t).emb (ix4 0 j r k) 1).val + 4 * ((win0_13.rect t).emb (ix4 0 j r k) 2).val)
    omega
  · show 1792 + k.val = 1792 + ((win0_13.rect t).emb (ix4 0 j r k) 3).val
    omega

theorem index14 : ∀ t : Fin cfg0.N, win0_14.index t = ![t.val, 0, 0, 0] :=
  (by decide +kernel : ∀ t : Fin grid0.N, win0_14.index t = ![t.val, 0, 0, 0])

theorem arr14 (c : Dev nD) : (dats m 0 c).arrAt 14 cfg0.N = (g16 (A0 m c) (A1 m c) (A2 m c) (A3 m c) (A4 m c) (A5 m c) 2048 (by decide) : S64x16x32x256.Idx → EReal) := by
  refine (dats m 0 c).arrAt_eq_of_covers 14 _ (by decide +kernel) fun t hf y => ?_
  blk_simp
  rw [after0_14]
  have ht : t.val < 64 := t.isLt
  obtain ⟨j, r, k, rfl⟩ : ∃ (j : Fin 16) (r : Fin 32) (k : Fin 256), y = (ix4 0 j r k : S1x16x32x256.Idx) := ⟨y 1, y 2, y 3, by
    have h0 : (y 0).val < 1 := (y 0).isLt
    funext a
    apply Fin.ext
    fin_cases a
    · show (y 0).val = 0
      omega
    all_goals rfl⟩
  have e0 : ((win0_14.rect t).emb (ix4 0 j r k) 0).val = t.val := by
    rw [Pipeline.Window.rect_emb_val win0_14 t _ _ rfl, index14]
    show t.val * 1 + 0 = _
    omega
  have e1 : ((win0_14.rect t).emb (ix4 0 j r k) 1).val = j.val := by
    rw [Pipeline.Window.rect_emb_val win0_14 t _ _ rfl, index14]
    show 0 * 16 + j.val = _
    omega
  have e2 : ((win0_14.rect t).emb (ix4 0 j r k) 2).val = r.val := by
    rw [Pipeline.Window.rect_emb_val win0_14 t _ _ rfl, index14]
    show 0 * 32 + r.val = _
    omega
  have e3 : ((win0_14.rect t).emb (ix4 0 j r k) 3).val = k.val := by
    rw [Pipeline.Window.rect_emb_val win0_14 t _ _ rfl, index14]
    show 0 * 256 + k.val = _
    omega
  refine (o14 m c t j r k).trans ((bj_at m c t _ _ ⟨512 * t.val + (j.val + 16 * r.val), by omega⟩ rfl).trans ?_)
  refine pn_congr _ _ _ _ _ _ ?_ ?_
  · show 512 * t.val + (j.val + 16 * r.val) = 512 * ((win0_14.rect t).emb (ix4 0 j r k) 0).val + (((win0_14.rect t).emb (ix4 0 j r k) 1).val + 16 * ((win0_14.rect t).emb (ix4 0 j r k) 2).val)
    omega
  · show 2048 + k.val = 2048 + ((win0_14.rect t).emb (ix4 0 j r k) 3).val
    omega

theorem index15 : ∀ t : Fin cfg0.N, win0_15.index t = ![t.val, 0] :=
  (by decide +kernel : ∀ t : Fin grid0.N, win0_15.index t = ![t.val, 0])

theorem arr15 (c : Dev nD) : (dats m 0 c).arrAt 15 cfg0.N = (r512 (A0 m c) (A1 m c) (A2 m c) (A3 m c) (A4 m c) (A5 m c) 2304 (by decide) : S32768x512.Idx → EReal) := by
  refine (dats m 0 c).arrAt_eq_of_covers 15 _ (by decide +kernel) fun t hf y => ?_
  blk_simp
  rw [after0_15]
  have ht : t.val < 64 := t.isLt
  obtain ⟨r, k, rfl⟩ : ∃ (r : Fin 512) (k : Fin 512), y = (ix2 r k : S512x512.Idx) := ⟨y 0, y 1, by
    funext a
    apply Fin.ext
    fin_cases a <;> rfl⟩
  have e0 : ((win0_15.rect t).emb (ix2 r k) 0).val = 512 * t.val + r.val := by
    rw [Pipeline.Window.rect_emb_val win0_15 t _ _ rfl, index15]
    show t.val * 512 + r.val = _
    omega
  have e1 : ((win0_15.rect t).emb (ix2 r k) 1).val = k.val := by
    rw [Pipeline.Window.rect_emb_val win0_15 t _ _ rfl, index15]
    show 0 * 512 + k.val = _
    omega
  refine (o15 m c t r k).trans ((bj_at m c t _ _ ⟨512 * t.val + r.val, by omega⟩ rfl).trans ?_)
  refine pn_congr _ _ _ _ _ _ ?_ ?_
  · show 512 * t.val + r.val = ((win0_15.rect t).emb (ix2 r k) 0).val
    omega
  · show 2304 + k.val = 2304 + ((win0_15.rect t).emb (ix2 r k) 1).val
    omega

theorem index16 : ∀ t : Fin cfg0.N, win0_16.index t = ![t.val, 0] :=
  (by decide +kernel : ∀ t : Fin grid0.N, win0_16.index t = ![t.val, 0])

theorem arr16 (c : Dev nD) : (dats m 0 c).arrAt 16 cfg0.N = (r512 (A0 m c) (A1 m c) (A2 m c) (A3 m c) (A4 m c) (A5 m c) 2816 (by decide) : S32768x512.Idx → EReal) := by
  refine (dats m 0 c).arrAt_eq_of_covers 16 _ (by decide +kernel) fun t hf y => ?_
  blk_simp
  rw [after0_16]
  have ht : t.val < 64 := t.isLt
  obtain ⟨r, k, rfl⟩ : ∃ (r : Fin 512) (k : Fin 512), y = (ix2 r k : S512x512.Idx) := ⟨y 0, y 1, by
    funext a
    apply Fin.ext
    fin_cases a <;> rfl⟩
  have e0 : ((win0_16.rect t).emb (ix2 r k) 0).val = 512 * t.val + r.val := by
    rw [Pipeline.Window.rect_emb_val win0_16 t _ _ rfl, index16]
    show t.val * 512 + r.val = _
    omega
  have e1 : ((win0_16.rect t).emb (ix2 r k) 1).val = k.val := by
    rw [Pipeline.Window.rect_emb_val win0_16 t _ _ rfl, index16]
    show 0 * 512 + k.val = _
    omega
  refine (o16 m c t r k).trans ((bj_at m c t _ _ ⟨512 * t.val + r.val, by omega⟩ rfl).trans ?_)
  refine pn_congr _ _ _ _ _ _ ?_ ?_
  · show 512 * t.val + r.val = ((win0_16.rect t).emb (ix2 r k) 0).val
    omega
  · show 2816 + k.val = 2816 + ((win0_16.rect t).emb (ix2 r k) 1).val
    omega

theorem index17 : ∀ t : Fin cfg0.N, win0_17.index t = ![t.val, 0] :=
  (by decide +kernel : ∀ t : Fin grid0.N, win0_17.index t = ![t.val, 0])

theorem arr17 (c : Dev nD) : (dats m 0 c).arrAt 17 cfg0.N = (r512 (A0 m c) (A1 m c) (A2 m c) (A3 m c) (A4 m c) (A5 m c) 3328 (by decide) : S32768x512.Idx → EReal) := by
  refine (dats m 0 c).arrAt_eq_of_covers 17 _ (by decide +kernel) fun t hf y => ?_
  blk_simp
  rw [after0_17]
  have ht : t.val < 64 := t.isLt
  obtain ⟨r, k, rfl⟩ : ∃ (r : Fin 512) (k : Fin 512), y = (ix2 r k : S512x512.Idx) := ⟨y 0, y 1, by
    funext a
    apply Fin.ext
    fin_cases a <;> rfl⟩
  have e0 : ((win0_17.rect t).emb (ix2 r k) 0).val = 512 * t.val + r.val := by
    rw [Pipeline.Window.rect_emb_val win0_17 t _ _ rfl, index17]
    show t.val * 512 + r.val = _
    omega
  have e1 : ((win0_17.rect t).emb (ix2 r k) 1).val = k.val := by
    rw [Pipeline.Window.rect_emb_val win0_17 t _ _ rfl, index17]
    show 0 * 512 + k.val = _
    omega
  refine (o17 m c t r k).trans ((bj_at m c t _ _ ⟨512 * t.val + r.val, by omega⟩ rfl).trans ?_)
  refine pn_congr _ _ _ _ _ _ ?_ ?_
  · show 512 * t.val + r.val = ((win0_17.rect t).emb (ix2 r k) 0).val
    omega
  · show 3328 + k.val = 3328 + ((win0_17.rect t).emb (ix2 r k) 1).val
    omega

theorem index18 : ∀ t : Fin cfg0.N, win0_18.index t = ![t.val, 0] :=
  (by decide +kernel : ∀ t : Fin grid0.N, win0_18.index t = ![t.val, 0])

theorem arr18 (c : Dev nD) : (dats m 0 c).arrAt 18 cfg0.N = (r1024 (A0 m c) (A1 m c) (A2 m c) (A3 m c) (A4 m c) (A5 m c) 3840 (by decide) : S32768x1024.Idx → EReal) := by
  refine (dats m 0 c).arrAt_eq_of_covers 18 _ (by decide +kernel) fun t hf y => ?_
  blk_simp
  rw [after0_18]
  have ht : t.val < 64 := t.isLt
  obtain ⟨r, k, rfl⟩ : ∃ (r : Fin 512) (k : Fin 1024), y = (ix2 r k : S512x1024.Idx) := ⟨y 0, y 1, by
    funext a
    apply Fin.ext
    fin_cases a <;> rfl⟩
  have e0 : ((win0_18.rect t).emb (ix2 r k) 0).val = 512 * t.val + r.val := by
    rw [Pipeline.Window.rect_emb_val win0_18 t _ _ rfl, index18]
    show t.val * 512 + r.val = _
    omega
  have e1 : ((win0_18.rect t).emb (ix2 r k) 1).val = k.val := by
    rw [Pipeline.Window.rect_emb_val win0_18 t _ _ rfl, index18]
    show 0 * 1024 + k.val = _
    omega
  refine (o18 m c t r k).trans ((bj_at m c t _ _ ⟨512 * t.val + r.val, by omega⟩ rfl).trans ?_)
  refine pn_congr _ _ _ _ _ _ ?_ ?_
  · show 512 * t.val + r.val = ((win0_18.rect t).emb (ix2 r k) 0).val
    omega
  · show 3840 + k.val = 3840 + ((win0_18.rect t).emb (ix2 r k) 1).val
    omega

theorem index19 : ∀ t : Fin cfg0.N, win0_19.index t = ![t.val, 0] :=
  (by decide +kernel : ∀ t : Fin grid0.N, win0_19.index t = ![t.val, 0])

theorem arr19 (c : Dev nD) : (dats m 0 c).arrAt 19 cfg0.N = (r1024 (A0 m c) (A1 m c) (A2 m c) (A3 m c) (A4 m c) (A5 m c) 4864 (by decide) : S32768x1024.Idx → EReal) := by
  refine (dats m 0 c).arrAt_eq_of_covers 19 _ (by decide +kernel) fun t hf y => ?_
  blk_simp
  rw [after0_19]
  have ht : t.val < 64 := t.isLt
  obtain ⟨r, k, rfl⟩ : ∃ (r : Fin 512) (k : Fin 1024), y = (ix2 r k : S512x1024.Idx) := ⟨y 0, y 1, by
    funext a
    apply Fin.ext
    fin_cases a <;> rfl⟩
  have e0 : ((win0_19.rect t).emb (ix2 r k) 0).val = 512 * t.val + r.val := by
    rw [Pipeline.Window.rect_emb_val win0_19 t _ _ rfl, index19]
    show t.val * 512 + r.val = _
    omega
  have e1 : ((win0_19.rect t).emb (ix2 r k) 1).val = k.val := by
    rw [Pipeline.Window.rect_emb_val win0_19 t _ _ rfl, index19]
    show 0 * 1024 + k.val = _
    omega
  refine (o19 m c t r k).trans ((bj_at m c t _ _ ⟨512 * t.val + r.val, by omega⟩ rfl).trans ?_)
  refine pn_congr _ _ _ _ _ _ ?_ ?_
  · show 512 * t.val + r.val = ((win0_19.rect t).emb (ix2 r k) 0).val
    omega
  · show 4864 + k.val = 4864 + ((win0_19.rect t).emb (ix2 r k) 1).val
    omega

theorem index20 : ∀ t : Fin cfg0.N, win0_20.index t = ![t.val, 0] :=
  (by decide +kernel : ∀ t : Fin grid0.N, win0_20.index t = ![t.val, 0])

theorem arr20 (c : Dev nD) : (dats m 0 c).arrAt 20 cfg0.N = (r0 (A0 m c) (A1 m c) (A2 m c) (A3 m c) : S32768x1024.Idx → EReal) := by
  refine (dats m 0 c).arrAt_eq_of_covers 20 _ (by decide +kernel) fun t hf y => ?_
  blk_simp
  rw [after0_20]
  have ht : t.val < 64 := t.isLt
  obtain ⟨r, k, rfl⟩ : ∃ (r : Fin 512) (k : Fin 1024), y = (ix2 r k : S512x1024.Idx) := ⟨y 0, y 1, by
    funext a
    apply Fin.ext
    fin_cases a <;> rfl⟩
  have e0 : ((win0_20.rect t).emb (ix2 r k) 0).val = 512 * t.val + r.val := by
    rw [Pipeline.Window.rect_emb_val win0_20 t _ _ rfl, index20]
    show t.val * 512 + r.val = _
    omega
  have e1 : ((win0_20.rect t).emb (ix2 r k) 1).val = k.val := by
    rw [Pipeline.Window.rect_emb_val win0_20 t _ _ rfl, index20]
    show 0 * 1024 + k.val = _
    omega
  refine (o20 m c t r k).trans ((yy_at m c t r k ⟨512 * t.val + r.val, by omega⟩ rfl).trans ?_)
  refine yn_congr _ _ _ _ ?_ ?_
  · show 512 * t.val + r.val = ((win0_20.rect t).emb (ix2 r k) 0).val
    omega
  · show k.val = ((win0_20.rect t).emb (ix2 r k) 1).val
    omega

/-- The call's run with its arrays named. -/
theorem run_out (ρ : Dev nD → PrngReg) :
    θ_run defs (onTc (τ := τ) (main (F := Ideal))) ⟨m, fun _ => 0, ρ⟩ fun r => ∀ c : Dev nD,
      r.2.mem ((c.tc : Thread nD τ).loc main_v8_0) = g1 (A0 m c) (A1 m c) (A2 m c) (A3 m c) (A4 m c) (A5 m c) 0 (by decide)
      ∧ r.2.mem ((c.tc : Thread nD τ).loc main_v8_1) = g4 (A0 m c) (A1 m c) (A2 m c) (A3 m c) (A4 m c) (A5 m c) 256 (by decide)
      ∧ r.2.mem ((c.tc : Thread nD τ).loc main_v8_2) = g16 (A0 m c) (A1 m c) (A2 m c) (A3 m c) (A4 m c) (A5 m c) 512 (by decide)
      ∧ r.2.mem ((c.tc : Thread nD τ).loc main_v8_3) = g1 (A0 m c) (A1 m c) (A2 m c) (A3 m c) (A4 m c) (A5 m c) 768 (by decide)
      ∧ r.2.mem ((c.tc : Thread nD τ).loc main_v8_4) = g4 (A0 m c) (A1 m c) (A2 m c) (A3 m c) (A4 m c) (A5 m c) 1024 (by decide)
      ∧ r.2.mem ((c.tc : Thread nD τ).loc main_v8_5) = g16 (A0 m c) (A1 m c) (A2 m c) (A3 m c) (A4 m c) (A5 m c) 1280 (by decide)
      ∧ r.2.mem ((c.tc : Thread nD τ).loc main_v8_6) = g1 (A0 m c) (A1 m c) (A2 m c) (A3 m c) (A4 m c) (A5 m c) 1536 (by decide)
      ∧ r.2.mem ((c.tc : Thread nD τ).loc main_v8_7) = g4 (A0 m c) (A1 m c) (A2 m c) (A3 m c) (A4 m c) (A5 m c) 1792 (by decide)
      ∧ r.2.mem ((c.tc : Thread nD τ).loc main_v8_8) = g16 (A0 m c) (A1 m c) (A2 m c) (A3 m c) (A4 m c) (A5 m c) 2048 (by decide)
      ∧ r.2.mem ((c.tc : Thread nD τ).loc main_v8_9) = r512 (A0 m c) (A1 m c) (A2 m c) (A3 m c) (A4 m c) (A5 m c) 2304 (by decide)
      ∧ r.2.mem ((c.tc : Thread nD τ).loc main_v8_10) = r512 (A0 m c) (A1 m c) (A2 m c) (A3 m c) (A4 m c) (A5 m c) 2816 (by decide)
      ∧ r.2.mem ((c.tc : Thread nD τ).loc main_v8_11) = r512 (A0 m c) (A1 m c) (A2 m c) (A3 m c) (A4 m c) (A5 m c) 3328 (by decide)
      ∧ r.2.mem ((c.tc : Thread nD τ).loc main_v8_12) = r1024 (A0 m c) (A1 m c) (A2 m c) (A3 m c) (A4 m c) (A5 m c) 3840 (by decide)
      ∧ r.2.mem ((c.tc : Thread nD τ).loc main_v8_13) = r1024 (A0 m c) (A1 m c) (A2 m c) (A3 m c) (A4 m c) (A5 m c) 4864 (by decide)
      ∧ r.2.mem ((c.tc : Thread nD τ).loc main_v8_14) = r0 (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h6, h7, h8, h9, h10, h11, h12, h13, h14, h15, h16, h17, h18, h19, h20, hk⟩ := h c
    exact ⟨h6.trans (arr6 m c), h7.trans (arr7 m c), h8.trans (arr8 m c), h9.trans (arr9 m c), h10.trans (arr10 m c), h11.trans (arr11 m c), h12.trans (arr12 m c), h13.trans (arr13 m c), h14.trans (arr14 m c), h15.trans (arr15 m c), h16.trans (arr16 m c), h17.trans (arr17 m c), h18.trans (arr18 m c), h19.trans (arr19 m c), h20.trans (arr20 m c), hk⟩)
    (Cert.Kernel2Ideal.Value.run_blocks (F := Ideal) m ρ)

end Cert.Kernel2Ideal.Hand
-- ==== Proof.Ref2.lean ====
/-
  The input projection's reference: its results as the projections of the normalized rows.
-/
module

public import proofs.«01_k».proof.Proof.Inproj
public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen
open Cert.Kernel2Ideal.Hand (xrow mean nrm scaled sc yn pn pn_congr g1 g4 g16 r512 r1024 r0)
open Idealize.ShloMosaic Idealize.ShloMosaic.TcCoe
open Idealize.SL.Sem

/-! ## The scale -/

theorem sum_scale {n : ℕ} (f : Fin n → EReal) (s : EReal) (h0 : 0 ≤ s) (h1 : s ≠ ⊤) : (∑ k, f k) * s = ∑ k, f k * s := by
  have key : ∀ S : Finset (Fin n), (∑ k ∈ S, f k) * s = ∑ k ∈ S, f k * s := by
    intro S
    induction S using Finset.induction_on with
    | empty => simp
    | insert a S ha ih => rw [Finset.sum_insert ha, Finset.sum_insert ha, EReal.right_distrib_of_nonneg_of_ne_top h0 h1, ih]
  exact key _

theorem eighth : Ideal.ofBits .f32 0x3E000000#32 = ((1 / 8 : ℝ) : EReal) := by
  simp [Ideal.ofBits, Ideal.ieee, -EReal.coe_mul]
  norm_num

theorem unit : Ideal.ofBits .f32 0x3F800000#32 = 1 := by
  simp [Ideal.ofBits, Ideal.ieee, -EReal.coe_mul]
  try norm_num

section
variable (a0 a1 : Cert.Kernel2Ideal.S16384x1024.Idx → EReal) (a2 a3 : Cert.Kernel2Ideal.S1024.Idx → EReal)
  (a4 : Cert.Kernel2Ideal.S1024x5888.Idx → EReal) (a5 : Cert.Kernel2Ideal.S5888.Idx → EReal)

/-- The projection, its column not scaled. -/
def pp (r : Fin 32768) (c : Fin 5888) : EReal := ∑ k, yn a0 a1 a2 a3 r k * a4 (ix2 k c) + a5 (ix1 c)

theorem pp_scaled (r : Fin 32768) (c : Fin 5888) (h : scaled c.val) :
    pp a0 a1 a2 a3 a4 a5 r c * Ideal.ofBits .f32 0x3E000000#32 = pn a0 a1 a2 a3 a4 a5 r c := by
  have h0 : (0 : EReal) ≤ Ideal.ofBits .f32 0x3E000000#32 := by
    rw [eighth]
    exact_mod_cast (by norm_num : (0 : ℝ) ≤ 1 / 8)
  have h1 : Ideal.ofBits .f32 0x3E000000#32 ≠ ⊤ := by
    rw [eighth]
    exact EReal.coe_ne_top _
  unfold pp pn sc
  rw [if_pos h, EReal.right_distrib_of_nonneg_of_ne_top h0 h1, sum_scale _ _ h0 h1]
  simp only [mul_assoc]

theorem pp_plain (r : Fin 32768) (c : Fin 5888) (h : ¬ scaled c.val) : pp a0 a1 a2 a3 a4 a5 r c = pn a0 a1 a2 a3 a4 a5 r c := by
  unfold pp pn sc
  rw [if_neg h, unit]
  simp only [mul_one]
end

/-! ## The operations -/

def rcat (b0 b1 : FVec Ideal S16384x1024 .f32) : FVec Ideal S32768x1024 .f32 :=
  concatenate S32768x1024 0 [⟨S16384x1024, b0⟩, ⟨S16384x1024, b1⟩] concatenates_S16384x1024_S16384x1024_S32768x1024_d0

def rmean (x : FVec Ideal S32768x1024 .f32) : FVec Ideal S32768x1 .f32 :=
  Host.divf (broadcastInDim S32768x1 ![0] bcast_S32768_S32768x1_0 (Host.reduceAdd x (constant S_ .f32 0x00000000#32) reducesTo_S32768x1024_S32768_d1 h_S_)) (broadcastInDim S32768x1 ![] bcast_S_S32768x1 (constant S_ .f32 0x44800000#32))

def rcen (x : FVec Ideal S32768x1024 .f32) : FVec Ideal S32768x1024 .f32 :=
  subf x (broadcastInDim S32768x1024 ![0, 1] bcast_S32768x1_S32768x1024_0_1 (rmean x))

def rnorm (x : FVec Ideal S32768x1024 .f32) (b2 b3 : FVec Ideal S1024 .f32) : FVec Ideal S32768x1024 .f32 :=
  addf (mulf (mulf (rcen x) (broadcastInDim S32768x1024 ![0, 1] bcast_S32768x1_S32768x1024_0_1 (Host.rsqrt (addf (rmean (mulf (rcen x) (rcen x))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 b2))) (broadcastInDim S32768x1024 ![0, 1] bcast_S1x1024_S32768x1024_0_1 (broadcastInDim S1x1024 ![1] bcast_S1024_S1x1024_1 b3))

def rproj (y : FVec Ideal S32768x1024 .f32) (b4 : FVec Ideal S1024x5888 .f32) (b5 : FVec Ideal S5888 .f32) : FVec Ideal S32768x5888 .f32 :=
  addf (Host.dotGeneral dot_S32768x1024_S1024x5888_S32768x5888_1_0_0_1_n_n none y b4) (broadcastInDim S32768x5888 ![0, 1] bcast_S1x5888_S32768x5888_0_1 (broadcastInDim S1x5888 ![1] bcast_S5888_S1x5888_1 b5))

theorem rcat_at (b0 b1 : FVec Ideal S16384x1024 .f32) (r : Fin 32768) (k : Fin 1024) :
    rcat b0 b1 (ix2 r k) = xrow b0 b1 r k := by
  unfold rcat xrow
  pointwise

theorem rmean_at (x : FVec Ideal S32768x1024 .f32) (r : Fin 32768) : rmean x (ix2 r 0) = mean (fun k => x (ix2 r k)) := by
  unfold rmean mean
  pointwise

theorem rcen_at (x : FVec Ideal S32768x1024 .f32) (r : Fin 32768) (k : Fin 1024) :
    rcen x (ix2 r k) = x (ix2 r k) - mean (fun k => x (ix2 r k)) := by
  rw [← rmean_at]
  unfold rcen
  generalize rmean x = M
  pointwise

theorem rnorm_at (x : FVec Ideal S32768x1024 .f32) (b2 b3 : FVec Ideal S1024 .f32) (r : Fin 32768) (k : Fin 1024) :
    rnorm x b2 b3 (ix2 r k) = nrm (fun k => x (ix2 r k)) (fun k => b2 (ix1 k)) (fun k => b3 (ix1 k)) k := by
  have hv : rmean (mulf (rcen x) (rcen x)) (ix2 r 0)
      = mean (fun k => (x (ix2 r k) - mean (fun k => x (ix2 r k))) * (x (ix2 r k) - mean (fun k => x (ix2 r k)))) := by
    rw [rmean_at]
    refine congrArg mean (funext fun k => ?_)
    show rcen x (ix2 r k) * rcen x (ix2 r k) = _
    rw [rcen_at]
  unfold nrm
  rw [← hv, ← rcen_at]
  unfold rnorm
  generalize rmean (mulf (rcen x) (rcen x)) = M
  generalize rcen x = C
  pointwise

theorem rproj_at (y : FVec Ideal S32768x1024 .f32) (b4 : FVec Ideal S1024x5888 .f32) (b5 : FVec Ideal S5888 .f32) (r : Fin 32768) (c : Fin 5888) :
    rproj y b4 b5 (ix2 r c) = ∑ k, y (ix2 r k) * b4 (ix2 k c) + b5 (ix1 c) := by
  unfold rproj
  pointwise

section
variable (b0 b1 : FVec Ideal S16384x1024 .f32) (b2 b3 : FVec Ideal S1024 .f32) (b4 : FVec Ideal S1024x5888 .f32) (b5 : FVec Ideal S5888 .f32)

/-- The normalized rows. -/
def ry : FVec Ideal S32768x1024 .f32 := rnorm (rcat b0 b1) b2 b3
/-- Their projections. -/
def rx : FVec Ideal S32768x5888 .f32 := rproj (ry b0 b1 b2 b3) b4 b5

theorem ry_at (r : Fin 32768) (k : Fin 1024) : ry b0 b1 b2 b3 (ix2 r k) = yn b0 b1 b2 b3 r k := by
  unfold ry yn
  rw [rnorm_at]
  simp only [rcat_at]

theorem rx_at (r : Fin 32768) (c : Fin 5888) : rx b0 b1 b2 b3 b4 b5 (ix2 r c) = pp b0 b1 b2 b3 b4 b5 r c := by
  unfold rx pp
  rw [rproj_at]
  simp only [ry_at]
end

/-! ## The rows by their remainder -/

theorem rows1 (x : FVec Ideal S32768x256 .f32) (t : Fin 64) (j : Fin 1) (r : Fin 512) (k : Fin 256) :
    transpose S64x1x512x256 [0, 2, 1, 3] (shapeCast S64x512x1x256 x shapeCasts_S32768x256_S64x512x1x256) transposes_S64x512x1x256_S64x1x512x256_0_2_1_3 (ix4 t j r k)
      = x (ix2 ⟨512 * t.val + (j.val + 1 * r.val), by omega⟩ k) := by
  refine Eq.trans (b := shapeCast S64x512x1x256 x shapeCasts_S32768x256_S64x512x1x256 (ix4 t r j k)) (by pointwise) ?_
  refine shapeCast_apply x _ _ _ ?_
  rw [Shape.rowMajor_val_two, Shape.rowMajor_val_four]
  show (512 * t.val + (j.val + 1 * r.val)) * 256 + k.val = ((t.val * 512 + r.val) * 1 + j.val) * 256 + k.val
  omega

theorem rows4 (x : FVec Ideal S32768x256 .f32) (t : Fin 64) (j : Fin 4) (r : Fin 128) (k : Fin 256) :
    transpose S64x4x128x256 [0, 2, 1, 3] (shapeCast S64x128x4x256 x shapeCasts_S32768x256_S64x128x4x256) transposes_S64x128x4x256_S64x4x128x256_0_2_1_3 (ix4 t j r k)
      = x (ix2 ⟨512 * t.val + (j.val + 4 * r.val), by omega⟩ k) := by
  refine Eq.trans (b := shapeCast S64x128x4x256 x shapeCasts_S32768x256_S64x128x4x256 (ix4 t r j k)) (by pointwise) ?_
  refine shapeCast_apply x _ _ _ ?_
  rw [Shape.rowMajor_val_two, Shape.rowMajor_val_four]
  show (512 * t.val + (j.val + 4 * r.val)) * 256 + k.val = ((t.val * 128 + r.val) * 4 + j.val) * 256 + k.val
  omega

theorem rows16 (x : FVec Ideal S32768x256 .f32) (t : Fin 64) (j : Fin 16) (r : Fin 32) (k : Fin 256) :
    transpose S64x16x32x256 [0, 2, 1, 3] (shapeCast S64x32x16x256 x shapeCasts_S32768x256_S64x32x16x256) transposes_S64x32x16x256_S64x16x32x256_0_2_1_3 (ix4 t j r k)
      = x (ix2 ⟨512 * t.val + (j.val + 16 * r.val), by omega⟩ k) := by
  refine Eq.trans (b := shapeCast S64x32x16x256 x shapeCasts_S32768x256_S64x32x16x256 (ix4 t r j k)) (by pointwise) ?_
  refine shapeCast_apply x _ _ _ ?_
  rw [Shape.rowMajor_val_two, Shape.rowMajor_val_four]
  show (512 * t.val + (j.val + 16 * r.val)) * 256 + k.val = ((t.val * 32 + r.val) * 16 + j.val) * 256 + k.val
  omega

theorem out0 (b0 b1 : FVec Ideal S16384x1024 .f32) (b2 b3 : FVec Ideal S1024 .f32) (b4 : FVec Ideal S1024x5888 .f32) (b5 : FVec Ideal S5888 .f32) :
    truncf .bf16 (transpose S64x1x512x256 [0, 2, 1, 3] (shapeCast S64x512x1x256 (extractStridedSlice S32768x256 ![0, 0] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_0) shapeCasts_S32768x256_S64x512x1x256) transposes_S64x512x1x256_S64x1x512x256_0_2_1_3) bitsLt_bf16_f32 = g1 b0 b1 b2 b3 b4 b5 0 (by decide) := by
  funext i
  obtain ⟨t, j, r, k, rfl⟩ : ∃ (t : Fin 64) (j : Fin 1) (r : Fin 512) (k : Fin 256), i = ix4 t j r k := ⟨i 0, i 1, i 2, i 3, by
    funext a
    fin_cases a <;> rfl⟩
  show (transpose S64x1x512x256 [0, 2, 1, 3] (shapeCast S64x512x1x256 (extractStridedSlice S32768x256 ![0, 0] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_0) shapeCasts_S32768x256_S64x512x1x256) transposes_S64x512x1x256_S64x1x512x256_0_2_1_3) (ix4 t j r k) = _
  refine (rows1 _ t j r k).trans ?_
  refine Eq.trans (b := rx b0 b1 b2 b3 b4 b5 (ix2 ⟨512 * t.val + (j.val + 1 * r.val), by omega⟩ ⟨0 + k.val, by omega⟩) * Ideal.ofBits .f32 0x3E000000#32) ?_ ?_
  · generalize rx b0 b1 b2 b3 b4 b5 = X
    pointwise
  · rw [rx_at, pp_scaled _ _ _ _ _ _ _ _ (by unfold scaled; show (0 + k.val < 768 ∨ (2304 ≤ 0 + k.val ∧ 0 + k.val < 2816)); omega)]
    exact pn_congr _ _ _ _ _ _ (by show 512 * t.val + (j.val + 1 * r.val) = 512 * t.val + r.val; omega) rfl

theorem out1 (b0 b1 : FVec Ideal S16384x1024 .f32) (b2 b3 : FVec Ideal S1024 .f32) (b4 : FVec Ideal S1024x5888 .f32) (b5 : FVec Ideal S5888 .f32) :
    truncf .bf16 (transpose S64x4x128x256 [0, 2, 1, 3] (shapeCast S64x128x4x256 (extractStridedSlice S32768x256 ![0, 256] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_256) shapeCasts_S32768x256_S64x128x4x256) transposes_S64x128x4x256_S64x4x128x256_0_2_1_3) bitsLt_bf16_f32 = g4 b0 b1 b2 b3 b4 b5 256 (by decide) := by
  funext i
  obtain ⟨t, j, r, k, rfl⟩ : ∃ (t : Fin 64) (j : Fin 4) (r : Fin 128) (k : Fin 256), i = ix4 t j r k := ⟨i 0, i 1, i 2, i 3, by
    funext a
    fin_cases a <;> rfl⟩
  show (transpose S64x4x128x256 [0, 2, 1, 3] (shapeCast S64x128x4x256 (extractStridedSlice S32768x256 ![0, 256] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_256) shapeCasts_S32768x256_S64x128x4x256) transposes_S64x128x4x256_S64x4x128x256_0_2_1_3) (ix4 t j r k) = _
  refine (rows4 _ t j r k).trans ?_
  refine Eq.trans (b := rx b0 b1 b2 b3 b4 b5 (ix2 ⟨512 * t.val + (j.val + 4 * r.val), by omega⟩ ⟨256 + k.val, by omega⟩) * Ideal.ofBits .f32 0x3E000000#32) ?_ ?_
  · generalize rx b0 b1 b2 b3 b4 b5 = X
    pointwise
  · rw [rx_at, pp_scaled _ _ _ _ _ _ _ _ (by unfold scaled; show (256 + k.val < 768 ∨ (2304 ≤ 256 + k.val ∧ 256 + k.val < 2816)); omega)]
    exact pn_congr _ _ _ _ _ _ rfl rfl

theorem out2 (b0 b1 : FVec Ideal S16384x1024 .f32) (b2 b3 : FVec Ideal S1024 .f32) (b4 : FVec Ideal S1024x5888 .f32) (b5 : FVec Ideal S5888 .f32) :
    truncf .bf16 (transpose S64x16x32x256 [0, 2, 1, 3] (shapeCast S64x32x16x256 (extractStridedSlice S32768x256 ![0, 512] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_512) shapeCasts_S32768x256_S64x32x16x256) transposes_S64x32x16x256_S64x16x32x256_0_2_1_3) bitsLt_bf16_f32 = g16 b0 b1 b2 b3 b4 b5 512 (by decide) := by
  funext i
  obtain ⟨t, j, r, k, rfl⟩ : ∃ (t : Fin 64) (j : Fin 16) (r : Fin 32) (k : Fin 256), i = ix4 t j r k := ⟨i 0, i 1, i 2, i 3, by
    funext a
    fin_cases a <;> rfl⟩
  show (transpose S64x16x32x256 [0, 2, 1, 3] (shapeCast S64x32x16x256 (extractStridedSlice S32768x256 ![0, 512] (mulf (extractStridedSlice S32768x768 ![0, 0] (rx b0 b1 b2 b3 b4 b5) slices_S32768x5888_S32768x768_0_0) (broadcastInDim S32768x768 ![] bcast_S_S32768x768 (constant S_ .f32 0x3E000000#32))) slices_S32768x768_S32768x256_0_512) shapeCasts_S32768x256_S64x32x16x256) transposes_S64x32x16x256_S64x16x32x256_0_2_1_3) (ix4 t j r k) = _
  refine (rows16 _ t j r k).trans ?_
  refine Eq.trans (b := rx b0 b1 b2 b3 b4 b5 (ix2 ⟨512 * t.val + (j.val + 16 * r.val), by omega⟩ ⟨512 + k.val, by omega⟩) * Ideal.ofBits .f32 0x3E000000#32) ?_ ?_
  · generalize rx b0 b1 b2 b3 b4 b5 = X
    pointwise
  · rw [rx_at, pp_scaled _ _ _ _ _ _ _ _ (by unfold scaled; show (512 + k.val < 768 ∨ (2304 ≤ 512 + k.val ∧ 512 + k.val < 2816)); omega)]
    exact pn_congr _ _ _ _ _ _ rfl rfl

theorem out3 (b0 b1 : FVec Ideal S16384x1024 .f32) (b2 b3 : FVec Ideal S1024 .f32) (b4 : FVec Ideal S1024x5888 .f32) (b5 : FVec Ideal S5888 .f32) :
    truncf .bf16 (transpose S64x1x512x256 [0, 2, 1, 3] (shapeCast S64x512x1x256 (extractStridedSlice S32768x256 ![0, 0] (extractStridedSlice S32768x768 ![0, 768] (rx b0 b1 b2 b3 b4 b5) slices_S32768x5888_S32768x768_0_768) slices_S32768x768_S32768x256_0_0) shapeCasts_S32768x256_S64x512x1x256) transposes_S64x512x1x256_S64x1x512x256_0_2_1_3) bitsLt_bf16_f32 = g1 b0 b1 b2 b3 b4 b5 768 (by decide) := by
  funext i
  obtain ⟨t, j, r, k, rfl⟩ : ∃ (t : Fin 64) (j : Fin 1) (r : Fin 512) (k : Fin 256), i = ix4 t j r k := ⟨i 0, i 1, i 2, i 3, by
    funext a
    fin_cases a <;> rfl⟩
  show (transpose S64x1x512x256 [0, 2, 1, 3] (shapeCast S64x512x1x256 (extractStridedSlice S32768x256 ![0, 0] (extractStridedSlice S32768x768 ![0, 768] (rx b0 b1 b2 b3 b4 b5) slices_S32768x5888_S32768x768_0_768) slices_S32768x768_S32768x256_0_0) shapeCasts_S32768x256_S64x512x1x256) transposes_S64x512x1x256_S64x1x512x256_0_2_1_3) (ix4 t j r k) = _
  refine (rows1 _ t j r k).trans ?_
  refine Eq.trans (b := rx b0 b1 b2 b3 b4 b5 (ix2 ⟨512 * t.val + (j.val + 1 * r.val), by omega⟩ ⟨768 + k.val, by omega⟩)) ?_ ?_
  · generalize rx b0 b1 b2 b3 b4 b5 = X
    pointwise
  · rw [rx_at, pp_plain _ _ _ _ _ _ _ _ (by unfold scaled; show ¬ (768 + k.val < 768 ∨ (2304 ≤ 768 + k.val ∧ 768 + k.val < 2816)); omega)]
    exact pn_congr _ _ _ _ _ _ (by show 512 * t.val + (j.val + 1 * r.val) = 512 * t.val + r.val; omega) rfl

theorem out4 (b0 b1 : FVec Ideal S16384x1024 .f32) (b2 b3 : FVec Ideal S1024 .f32) (b4 : FVec Ideal S1024x5888 .f32) (b5 : FVec Ideal S5888 .f32) :
    truncf .bf16 (transpose S64x4x128x256 [0, 2, 1, 3] (shapeCast S64x128x4x256 (extractStridedSlice S32768x256 ![0, 256] (extractStridedSlice S32768x768 ![0, 768] (rx b0 b1 b2 b3 b4 b5) slices_S32768x5888_S32768x768_0_768) slices_S32768x768_S32768x256_0_256) shapeCasts_S32768x256_S64x128x4x256) transposes_S64x128x4x256_S64x4x128x256_0_2_1_3) bitsLt_bf16_f32 = g4 b0 b1 b2 b3 b4 b5 1024 (by decide) := by
  funext i
  obtain ⟨t, j, r, k, rfl⟩ : ∃ (t : Fin 64) (j : Fin 4) (r : Fin 128) (k : Fin 256), i = ix4 t j r k := ⟨i 0, i 1, i 2, i 3, by
    funext a
    fin_cases a <;> rfl⟩
  show (transpose S64x4x128x256 [0, 2, 1, 3] (shapeCast S64x128x4x256 (extractStridedSlice S32768x256 ![0, 256] (extractStridedSlice S32768x768 ![0, 768] (rx b0 b1 b2 b3 b4 b5) slices_S32768x5888_S32768x768_0_768) slices_S32768x768_S32768x256_0_256) shapeCasts_S32768x256_S64x128x4x256) transposes_S64x128x4x256_S64x4x128x256_0_2_1_3) (ix4 t j r k) = _
  refine (rows4 _ t j r k).trans ?_
  refine Eq.trans (b := rx b0 b1 b2 b3 b4 b5 (ix2 ⟨512 * t.val + (j.val + 4 * r.val), by omega⟩ ⟨1024 + k.val, by omega⟩)) ?_ ?_
  · generalize rx b0 b1 b2 b3 b4 b5 = X
    pointwise
    exact congrArg (fun c => X (ix2 _ c)) (Fin.ext (by show 768 + (256 + k.val) = 1024 + k.val; omega))
  · rw [rx_at, pp_plain _ _ _ _ _ _ _ _ (by unfold scaled; show ¬ (1024 + k.val < 768 ∨ (2304 ≤ 1024 + k.val ∧ 1024 + k.val < 2816)); omega)]
    exact pn_congr _ _ _ _ _ _ rfl rfl

theorem out5 (b0 b1 : FVec Ideal S16384x1024 .f32) (b2 b3 : FVec Ideal S1024 .f32) (b4 : FVec Ideal S1024x5888 .f32) (b5 : FVec Ideal S5888 .f32) :
    truncf .bf16 (transpose S64x16x32x256 [0, 2, 1, 3] (shapeCast S64x32x16x256 (extractStridedSlice S32768x256 ![0, 512] (extractStridedSlice S32768x768 ![0, 768] (rx b0 b1 b2 b3 b4 b5) slices_S32768x5888_S32768x768_0_768) slices_S32768x768_S32768x256_0_512) shapeCasts_S32768x256_S64x32x16x256) transposes_S64x32x16x256_S64x16x32x256_0_2_1_3) bitsLt_bf16_f32 = g16 b0 b1 b2 b3 b4 b5 1280 (by decide) := by
  funext i
  obtain ⟨t, j, r, k, rfl⟩ : ∃ (t : Fin 64) (j : Fin 16) (r : Fin 32) (k : Fin 256), i = ix4 t j r k := ⟨i 0, i 1, i 2, i 3, by
    funext a
    fin_cases a <;> rfl⟩
  show (transpose S64x16x32x256 [0, 2, 1, 3] (shapeCast S64x32x16x256 (extractStridedSlice S32768x256 ![0, 512] (extractStridedSlice S32768x768 ![0, 768] (rx b0 b1 b2 b3 b4 b5) slices_S32768x5888_S32768x768_0_768) slices_S32768x768_S32768x256_0_512) shapeCasts_S32768x256_S64x32x16x256) transposes_S64x32x16x256_S64x16x32x256_0_2_1_3) (ix4 t j r k) = _
  refine (rows16 _ t j r k).trans ?_
  refine Eq.trans (b := rx b0 b1 b2 b3 b4 b5 (ix2 ⟨512 * t.val + (j.val + 16 * r.val), by omega⟩ ⟨1280 + k.val, by omega⟩)) ?_ ?_
  · generalize rx b0 b1 b2 b3 b4 b5 = X
    pointwise
    exact congrArg (fun c => X (ix2 _ c)) (Fin.ext (by show 768 + (512 + k.val) = 1280 + k.val; omega))
  · rw [rx_at, pp_plain _ _ _ _ _ _ _ _ (by unfold scaled; show ¬ (1280 + k.val < 768 ∨ (2304 ≤ 1280 + k.val ∧ 1280 + k.val < 2816)); omega)]
    exact pn_congr _ _ _ _ _ _ rfl rfl

theorem out6 (b0 b1 : FVec Ideal S16384x1024 .f32) (b2 b3 : FVec Ideal S1024 .f32) (b4 : FVec Ideal S1024x5888 .f32) (b5 : FVec Ideal S5888 .f32) :
    truncf .bf16 (transpose S64x1x512x256 [0, 2, 1, 3] (shapeCast S64x512x1x256 (extractStridedSlice S32768x256 ![0, 0] (extractStridedSlice S32768x768 ![0, 1536] (rx b0 b1 b2 b3 b4 b5) slices_S32768x5888_S32768x768_0_1536) slices_S32768x768_S32768x256_0_0) shapeCasts_S32768x256_S64x512x1x256) transposes_S64x512x1x256_S64x1x512x256_0_2_1_3) bitsLt_bf16_f32 = g1 b0 b1 b2 b3 b4 b5 1536 (by decide) := by
  funext i
  obtain ⟨t, j, r, k, rfl⟩ : ∃ (t : Fin 64) (j : Fin 1) (r : Fin 512) (k : Fin 256), i = ix4 t j r k := ⟨i 0, i 1, i 2, i 3, by
    funext a
    fin_cases a <;> rfl⟩
  show (transpose S64x1x512x256 [0, 2, 1, 3] (shapeCast S64x512x1x256 (extractStridedSlice S32768x256 ![0, 0] (extractStridedSlice S32768x768 ![0, 1536] (rx b0 b1 b2 b3 b4 b5) slices_S32768x5888_S32768x768_0_1536) slices_S32768x768_S32768x256_0_0) shapeCasts_S32768x256_S64x512x1x256) transposes_S64x512x1x256_S64x1x512x256_0_2_1_3) (ix4 t j r k) = _
  refine (rows1 _ t j r k).trans ?_
  refine Eq.trans (b := rx b0 b1 b2 b3 b4 b5 (ix2 ⟨512 * t.val + (j.val + 1 * r.val), by omega⟩ ⟨1536 + k.val, by omega⟩)) ?_ ?_
  · generalize rx b0 b1 b2 b3 b4 b5 = X
    pointwise
  · rw [rx_at, pp_plain _ _ _ _ _ _ _ _ (by unfold scaled; show ¬ (1536 + k.val < 768 ∨ (2304 ≤ 1536 + k.val ∧ 1536 + k.val < 2816)); omega)]
    exact pn_congr _ _ _ _ _ _ (by show 512 * t.val + (j.val + 1 * r.val) = 512 * t.val + r.val; omega) rfl

theorem out7 (b0 b1 : FVec Ideal S16384x1024 .f32) (b2 b3 : FVec Ideal S1024 .f32) (b4 : FVec Ideal S1024x5888 .f32) (b5 : FVec Ideal S5888 .f32) :
    truncf .bf16 (transpose S64x4x128x256 [0, 2, 1, 3] (shapeCast S64x128x4x256 (extractStridedSlice S32768x256 ![0, 256] (extractStridedSlice S32768x768 ![0, 1536] (rx b0 b1 b2 b3 b4 b5) slices_S32768x5888_S32768x768_0_1536) slices_S32768x768_S32768x256_0_256) shapeCasts_S32768x256_S64x128x4x256) transposes_S64x128x4x256_S64x4x128x256_0_2_1_3) bitsLt_bf16_f32 = g4 b0 b1 b2 b3 b4 b5 1792 (by decide) := by
  funext i
  obtain ⟨t, j, r, k, rfl⟩ : ∃ (t : Fin 64) (j : Fin 4) (r : Fin 128) (k : Fin 256), i = ix4 t j r k := ⟨i 0, i 1, i 2, i 3, by
    funext a
    fin_cases a <;> rfl⟩
  show (transpose S64x4x128x256 [0, 2, 1, 3] (shapeCast S64x128x4x256 (extractStridedSlice S32768x256 ![0, 256] (extractStridedSlice S32768x768 ![0, 1536] (rx b0 b1 b2 b3 b4 b5) slices_S32768x5888_S32768x768_0_1536) slices_S32768x768_S32768x256_0_256) shapeCasts_S32768x256_S64x128x4x256) transposes_S64x128x4x256_S64x4x128x256_0_2_1_3) (ix4 t j r k) = _
  refine (rows4 _ t j r k).trans ?_
  refine Eq.trans (b := rx b0 b1 b2 b3 b4 b5 (ix2 ⟨512 * t.val + (j.val + 4 * r.val), by omega⟩ ⟨1792 + k.val, by omega⟩)) ?_ ?_
  · generalize rx b0 b1 b2 b3 b4 b5 = X
    pointwise
    exact congrArg (fun c => X (ix2 _ c)) (Fin.ext (by show 1536 + (256 + k.val) = 1792 + k.val; omega))
  · rw [rx_at, pp_plain _ _ _ _ _ _ _ _ (by unfold scaled; show ¬ (1792 + k.val < 768 ∨ (2304 ≤ 1792 + k.val ∧ 1792 + k.val < 2816)); omega)]
    exact pn_congr _ _ _ _ _ _ rfl rfl

theorem out8 (b0 b1 : FVec Ideal S16384x1024 .f32) (b2 b3 : FVec Ideal S1024 .f32) (b4 : FVec Ideal S1024x5888 .f32) (b5 : FVec Ideal S5888 .f32) :
    truncf .bf16 (transpose S64x16x32x256 [0, 2, 1, 3] (shapeCast S64x32x16x256 (extractStridedSlice S32768x256 ![0, 512] (extractStridedSlice S32768x768 ![0, 1536] (rx b0 b1 b2 b3 b4 b5) slices_S32768x5888_S32768x768_0_1536) slices_S32768x768_S32768x256_0_512) shapeCasts_S32768x256_S64x32x16x256) transposes_S64x32x16x256_S64x16x32x256_0_2_1_3) bitsLt_bf16_f32 = g16 b0 b1 b2 b3 b4 b5 2048 (by decide) := by
  funext i
  obtain ⟨t, j, r, k, rfl⟩ : ∃ (t : Fin 64) (j : Fin 16) (r : Fin 32) (k : Fin 256), i = ix4 t j r k := ⟨i 0, i 1, i 2, i 3, by
    funext a
    fin_cases a <;> rfl⟩
  show (transpose S64x16x32x256 [0, 2, 1, 3] (shapeCast S64x32x16x256 (extractStridedSlice S32768x256 ![0, 512] (extractStridedSlice S32768x768 ![0, 1536] (rx b0 b1 b2 b3 b4 b5) slices_S32768x5888_S32768x768_0_1536) slices_S32768x768_S32768x256_0_512) shapeCasts_S32768x256_S64x32x16x256) transposes_S64x32x16x256_S64x16x32x256_0_2_1_3) (ix4 t j r k) = _
  refine (rows16 _ t j r k).trans ?_
  refine Eq.trans (b := rx b0 b1 b2 b3 b4 b5 (ix2 ⟨512 * t.val + (j.val + 16 * r.val), by omega⟩ ⟨2048 + k.val, by omega⟩)) ?_ ?_
  · generalize rx b0 b1 b2 b3 b4 b5 = X
    pointwise
    exact congrArg (fun c => X (ix2 _ c)) (Fin.ext (by show 1536 + (512 + k.val) = 2048 + k.val; omega))
  · rw [rx_at, pp_plain _ _ _ _ _ _ _ _ (by unfold scaled; show ¬ (2048 + k.val < 768 ∨ (2304 ≤ 2048 + k.val ∧ 2048 + k.val < 2816)); omega)]
    exact pn_congr _ _ _ _ _ _ rfl rfl

theorem out9 (b0 b1 : FVec Ideal S16384x1024 .f32) (b2 b3 : FVec Ideal S1024 .f32) (b4 : FVec Ideal S1024x5888 .f32) (b5 : FVec Ideal S5888 .f32) :
    truncf .bf16 (mulf (extractStridedSlice S32768x512 ![0, 2304] (rx b0 b1 b2 b3 b4 b5) slices_S32768x5888_S32768x512_0_2304) (broadcastInDim S32768x512 ![] bcast_S_S32768x512 (constant S_ .f32 0x3E000000#32))) bitsLt_bf16_f32 = r512 b0 b1 b2 b3 b4 b5 2304 (by decide) := by
  funext i
  obtain ⟨r, k, rfl⟩ : ∃ (r : Fin 32768) (k : Fin 512), i = ix2 r k := ⟨i 0, i 1, by
    funext a
    fin_cases a <;> rfl⟩
  refine Eq.trans (b := rx b0 b1 b2 b3 b4 b5 (ix2 r ⟨2304 + k.val, by omega⟩) * Ideal.ofBits .f32 0x3E000000#32) ?_ ?_
  · generalize rx b0 b1 b2 b3 b4 b5 = X
    pointwise
  · rw [rx_at, pp_scaled _ _ _ _ _ _ _ _ (by unfold scaled; show (2304 + k.val < 768 ∨ (2304 ≤ 2304 + k.val ∧ 2304 + k.val < 2816)); omega)]
    rfl

theorem out10 (b0 b1 : FVec Ideal S16384x1024 .f32) (b2 b3 : FVec Ideal S1024 .f32) (b4 : FVec Ideal S1024x5888 .f32) (b5 : FVec Ideal S5888 .f32) :
    truncf .bf16 (extractStridedSlice S32768x512 ![0, 2816] (rx b0 b1 b2 b3 b4 b5) slices_S32768x5888_S32768x512_0_2816) bitsLt_bf16_f32 = r512 b0 b1 b2 b3 b4 b5 2816 (by decide) := by
  funext i
  obtain ⟨r, k, rfl⟩ : ∃ (r : Fin 32768) (k : Fin 512), i = ix2 r k := ⟨i 0, i 1, by
    funext a
    fin_cases a <;> rfl⟩
  refine Eq.trans (b := rx b0 b1 b2 b3 b4 b5 (ix2 r ⟨2816 + k.val, by omega⟩)) ?_ ?_
  · generalize rx b0 b1 b2 b3 b4 b5 = X
    pointwise
  · rw [rx_at, pp_plain _ _ _ _ _ _ _ _ (by unfold scaled; show ¬ (2816 + k.val < 768 ∨ (2304 ≤ 2816 + k.val ∧ 2816 + k.val < 2816)); omega)]
    rfl

theorem out11 (b0 b1 : FVec Ideal S16384x1024 .f32) (b2 b3 : FVec Ideal S1024 .f32) (b4 : FVec Ideal S1024x5888 .f32) (b5 : FVec Ideal S5888 .f32) :
    truncf .bf16 (extractStridedSlice S32768x512 ![0, 3328] (rx b0 b1 b2 b3 b4 b5) slices_S32768x5888_S32768x512_0_3328) bitsLt_bf16_f32 = r512 b0 b1 b2 b3 b4 b5 3328 (by decide) := by
  funext i
  obtain ⟨r, k, rfl⟩ : ∃ (r : Fin 32768) (k : Fin 512), i = ix2 r k := ⟨i 0, i 1, by
    funext a
    fin_cases a <;> rfl⟩
  refine Eq.trans (b := rx b0 b1 b2 b3 b4 b5 (ix2 r ⟨3328 + k.val, by omega⟩)) ?_ ?_
  · generalize rx b0 b1 b2 b3 b4 b5 = X
    pointwise
  · rw [rx_at, pp_plain _ _ _ _ _ _ _ _ (by unfold scaled; show ¬ (3328 + k.val < 768 ∨ (2304 ≤ 3328 + k.val ∧ 3328 + k.val < 2816)); omega)]
    rfl

theorem out12 (b0 b1 : FVec Ideal S16384x1024 .f32) (b2 b3 : FVec Ideal S1024 .f32) (b4 : FVec Ideal S1024x5888 .f32) (b5 : FVec Ideal S5888 .f32) :
    truncf .bf16 (extractStridedSlice S32768x1024 ![0, 3840] (rx b0 b1 b2 b3 b4 b5) slices_S32768x5888_S32768x1024_0_3840) bitsLt_bf16_f32 = r1024 b0 b1 b2 b3 b4 b5 3840 (by decide) := by
  funext i
  obtain ⟨r, k, rfl⟩ : ∃ (r : Fin 32768) (k : Fin 1024), i = ix2 r k := ⟨i 0, i 1, by
    funext a
    fin_cases a <;> rfl⟩
  refine Eq.trans (b := rx b0 b1 b2 b3 b4 b5 (ix2 r ⟨3840 + k.val, by omega⟩)) ?_ ?_
  · generalize rx b0 b1 b2 b3 b4 b5 = X
    pointwise
  · rw [rx_at, pp_plain _ _ _ _ _ _ _ _ (by unfold scaled; show ¬ (3840 + k.val < 768 ∨ (2304 ≤ 3840 + k.val ∧ 3840 + k.val < 2816)); omega)]
    rfl

theorem out13 (b0 b1 : FVec Ideal S16384x1024 .f32) (b2 b3 : FVec Ideal S1024 .f32) (b4 : FVec Ideal S1024x5888 .f32) (b5 : FVec Ideal S5888 .f32) :
    truncf .bf16 (extractStridedSlice S32768x1024 ![0, 4864] (rx b0 b1 b2 b3 b4 b5) slices_S32768x5888_S32768x1024_0_4864) bitsLt_bf16_f32 = r1024 b0 b1 b2 b3 b4 b5 4864 (by decide) := by
  funext i
  obtain ⟨r, k, rfl⟩ : ∃ (r : Fin 32768) (k : Fin 1024), i = ix2 r k := ⟨i 0, i 1, by
    funext a
    fin_cases a <;> rfl⟩
  refine Eq.trans (b := rx b0 b1 b2 b3 b4 b5 (ix2 r ⟨4864 + k.val, by omega⟩)) ?_ ?_
  · generalize rx b0 b1 b2 b3 b4 b5 = X
    pointwise
  · rw [rx_at, pp_plain _ _ _ _ _ _ _ _ (by unfold scaled; show ¬ (4864 + k.val < 768 ∨ (2304 ≤ 4864 + k.val ∧ 4864 + k.val < 2816)); omega)]
    rfl

theorem out14 (b0 b1 : FVec Ideal S16384x1024 .f32) (b2 b3 : FVec Ideal S1024 .f32) :
    ry b0 b1 b2 b3 = r0 b0 b1 b2 b3 := by
  funext i
  obtain ⟨r, k, rfl⟩ : ∃ (r : Fin 32768) (k : Fin 1024), i = ix2 r k := ⟨i 0, i 1, by
    funext a
    fin_cases a <;> rfl⟩
  exact ry_at b0 b1 b2 b3 r k

/-- The reference's run with its results named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = g1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0 (by decide)
      ∧ r.2.mem ((c.tc : Thread nD τ).loc main_v46) = g4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 256 (by decide)
      ∧ r.2.mem ((c.tc : Thread nD τ).loc main_v50) = g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 512 (by decide)
      ∧ r.2.mem ((c.tc : Thread nD τ).loc main_v54) = g1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 768 (by decide)
      ∧ r.2.mem ((c.tc : Thread nD τ).loc main_v58) = g4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1024 (by decide)
      ∧ r.2.mem ((c.tc : Thread nD τ).loc main_v62) = g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1280 (by decide)
      ∧ r.2.mem ((c.tc : Thread nD τ).loc main_v66) = g1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1536 (by decide)
      ∧ r.2.mem ((c.tc : Thread nD τ).loc main_v70) = g4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1792 (by decide)
      ∧ r.2.mem ((c.tc : Thread nD τ).loc main_v74) = g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 2048 (by decide)
      ∧ r.2.mem ((c.tc : Thread nD τ).loc main_v77) = r512 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 2304 (by decide)
      ∧ r.2.mem ((c.tc : Thread nD τ).loc main_v78) = r512 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 2816 (by decide)
      ∧ r.2.mem ((c.tc : Thread nD τ).loc main_v79) = r512 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 3328 (by decide)
      ∧ r.2.mem ((c.tc : Thread nD τ).loc main_v80) = r1024 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 3840 (by decide)
      ∧ r.2.mem ((c.tc : Thread nD τ).loc main_v81) = r1024 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 4864 (by decide)
      ∧ r.2.mem ((c.tc : Thread nD τ).loc main_v24) = r0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, h6, h7, h8, h9, h10, h11, h12, h13, h14, hk⟩ := h c
    exact ⟨h0.trans (out0 _ _ _ _ _ _), h1.trans (out1 _ _ _ _ _ _), h2.trans (out2 _ _ _ _ _ _), h3.trans (out3 _ _ _ _ _ _), h4.trans (out4 _ _ _ _ _ _), h5.trans (out5 _ _ _ _ _ _), h6.trans (out6 _ _ _ _ _ _), h7.trans (out7 _ _ _ _ _ _), h8.trans (out8 _ _ _ _ _ _), h9.trans (out9 _ _ _ _ _ _), h10.trans (out10 _ _ _ _ _ _), h11.trans (out11 _ _ _ _ _ _), h12.trans (out12 _ _ _ _ _ _), h13.trans (out13 _ _ _ _ _ _), h14.trans (out14 _ _ _ _), hk⟩)
    (Cert.Reference2Ideal.Value.run (F := Ideal) m ρ)

end Cert.Reference2Ideal.Hand
-- ==== Proof.lean ====
/-
  The proof of `Cert.Claim`: the frames of the grouped feed-forward call and of its reference, and the
  call's value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed
public import proofs.«01_k».proof.Proof.Entry
public import proofs.«01_k».proof.Proof.Same
public import proofs.«01_k».proof.Proof.Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.Ref2

@[expose] public section

noncomputable section

namespace Cert.Proof

open Idealize.ShloMosaic Idealize.SL.Sem

/-- The frame of the call at the bit-exact instance: the one run, from a memory whose counts are of all the rows. -/
theorem frame_kernel : Cert.quiescent_Kernel := by
  intro m ρ h
  have H : Cert.KernelIdeal.Hand.Good (F := Bits) m 0 := Cert.KernelIdeal.Hand.good_of m 0 (h 0)
  rw [Cert.Same.defs_same, Cert.Same.main_same]
  exact Cert.KernelIdeal.Hand.args_of (F := Bits) m H ρ

/-- The frame of the call at the ideal instance: the same run. -/
theorem frame_ideal : Cert.quiescent_KernelIdeal := fun m ρ h =>
  (θ_run Cert.KernelIdeal.defs _ _).mono (fun _ h => h)
    (Cert.KernelIdeal.Hand.args_of (F := Ideal) m (Cert.KernelIdeal.Hand.good_of m 0 (h 0)) ρ)

/-- The frame of the reference, which declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference's run does not use. -/
theorem frame_ref_routed : Cert.quiescent_ReferenceIdeal_pre_routed := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The call's value: every row the feed-forward of its expert, as the reference weights and sums them. -/
theorem value : Cert.algebraic_KernelIdeal_ReferenceIdeal := by
  intro m g m' g' h hargs
  have H : Cert.KernelIdeal.Hand.Good (F := Ideal) m 0 := Cert.KernelIdeal.Hand.good_of m 0 (h 0)
  refine ⟨fun c => Cert.KernelIdeal.Hand.outG H c, Cert.KernelIdeal.Hand.out_of H g, ?_⟩
  refine (θ_run Cert.ReferenceIdeal.defs _ _).mono (fun r hr c => ⟨(hr c).1.trans ?_, (hr c).2⟩)
    (Cert.ReferenceIdeal.Hand.run_out m' g')
  obtain ⟨e0, e1, e2, e3, e4⟩ := hargs c
  refine Eq.trans ?_ (Cert.KernelIdeal.Hand.outG_eq H c).symm
  rw [e0, e1, e2, e3, e4]

/-- The frame of the input projection's call at the machine's floats. -/
theorem frame_kernel2 : Cert.quiescent_Kernel2 := fun m ρ _ => Cert.Kernel2.Gen.frame m ρ

/-- The same at the ideal instance. -/
theorem frame_ideal2 : Cert.quiescent_Kernel2Ideal := fun m ρ _ => Cert.Kernel2Ideal.Gen.frame m ρ

/-- The frame of the projection's reference, which declares no semaphore. -/
theorem frame_ref2 : Cert.quiescent_Reference2Ideal := fun m ρ _ =>
  (θ_run Cert.Reference2Ideal.defs _ _).mono (fun r h => ⟨fun c => (h c).2.2.2.2.2.2.2.2.2.2.2.2.2.2.2, sem_eq_zero_of_no_sems (by decide) r.2⟩)
    (Cert.Reference2Ideal.Value.run (F := Ideal) m ρ)

open Cert.Kernel2Ideal.Hand (A0 A1 A2 A3 A4 A5 g1 g4 g16 r512 r1024 r0) in
/-- The input projection's value: each of its arrays the normalized rows or their projections, as the reference lays them out. -/
theorem value2 : Cert.algebraic_Kernel2Ideal_Reference2Ideal := by
  intro m g m' g' h hargs
  refine ⟨fun c => g1 (A0 m c) (A1 m c) (A2 m c) (A3 m c) (A4 m c) (A5 m c) 0 (by decide),
    fun c => g4 (A0 m c) (A1 m c) (A2 m c) (A3 m c) (A4 m c) (A5 m c) 256 (by decide),
    fun c => g16 (A0 m c) (A1 m c) (A2 m c) (A3 m c) (A4 m c) (A5 m c) 512 (by decide),
    fun c => g1 (A0 m c) (A1 m c) (A2 m c) (A3 m c) (A4 m c) (A5 m c) 768 (by decide),
    fun c => g4 (A0 m c) (A1 m c) (A2 m c) (A3 m c) (A4 m c) (A5 m c) 1024 (by decide),
    fun c => g16 (A0 m c) (A1 m c) (A2 m c) (A3 m c) (A4 m c) (A5 m c) 1280 (by decide),
    fun c => g1 (A0 m c) (A1 m c) (A2 m c) (A3 m c) (A4 m c) (A5 m c) 1536 (by decide),
    fun c => g4 (A0 m c) (A1 m c) (A2 m c) (A3 m c) (A4 m c) (A5 m c) 1792 (by decide),
    fun c => g16 (A0 m c) (A1 m c) (A2 m c) (A3 m c) (A4 m c) (A5 m c) 2048 (by decide),
    fun c => r512 (A0 m c) (A1 m c) (A2 m c) (A3 m c) (A4 m c) (A5 m c) 2304 (by decide),
    fun c => r512 (A0 m c) (A1 m c) (A2 m c) (A3 m c) (A4 m c) (A5 m c) 2816 (by decide),
    fun c => r512 (A0 m c) (A1 m c) (A2 m c) (A3 m c) (A4 m c) (A5 m c) 3328 (by decide),
    fun c => r1024 (A0 m c) (A1 m c) (A2 m c) (A3 m c) (A4 m c) (A5 m c) 3840 (by decide),
    fun c => r1024 (A0 m c) (A1 m c) (A2 m c) (A3 m c) (A4 m c) (A5 m c) 4864 (by decide),
    fun c => r0 (A0 m c) (A1 m c) (A2 m c) (A3 m c),
    Cert.Kernel2Ideal.Hand.run_out m g, ?_⟩
  refine (θ_run Cert.Reference2Ideal.defs _ _).mono (fun r hr c => ?_) (Cert.Reference2Ideal.Hand.run_out m' g')
  obtain ⟨h0, h1, h2, h3, h4, h5, h6, h7, h8, h9, h10, h11, h12, h13, h14, hk⟩ := hr c
  obtain ⟨e0, e1, e2, e3, e4, e5⟩ := hargs c
  rw [e0, e1, e2, e3, e4, e5] at h0
  rw [e0, e1, e2, e3, e4, e5] at h1
  rw [e0, e1, e2, e3, e4, e5] at h2
  rw [e0, e1, e2, e3, e4, e5] at h3
  rw [e0, e1, e2, e3, e4, e5] at h4
  rw [e0, e1, e2, e3, e4, e5] at h5
  rw [e0, e1, e2, e3, e4, e5] at h6
  rw [e0, e1, e2, e3, e4, e5] at h7
  rw [e0, e1, e2, e3, e4, e5] at h8
  rw [e0, e1, e2, e3, e4, e5] at h9
  rw [e0, e1, e2, e3, e4, e5] at h10
  rw [e0, e1, e2, e3, e4, e5] at h11
  rw [e0, e1, e2, e3, e4, e5] at h12
  rw [e0, e1, e2, e3, e4, e5] at h13
  rw [e0, e1, e2, e3] at h14
  exact ⟨h0, h1, h2, h3, h4, h5, h6, h7, h8, h9, h10, h11, h12, h13, h14, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Pre_routed.Gen.facts,
    frame_kernel, frame_ideal, frame_ref, frame_ref_routed, frame_kernel2, frame_ideal2, frame_ref2, trivial, value, trivial, value2⟩

end Cert.Proof

end
